-- ==== Defs.lean ====
def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4)
      ∧ r.2.mem ((c.tc : Thread Cert.BackRefIdeal.nD Cert.BackRefIdeal.τ).loc Cert.BackRefIdeal.main_arg5) = m ((c.tc : Thread Cert.BackRefIdeal.nD Cert.BackRefIdeal.τ).loc Cert.BackRefIdeal.main_arg5)
      ∧ r.2.mem ((c.tc : Thread Cert.BackRefIdeal.nD Cert.BackRefIdeal.τ).loc Cert.BackRefIdeal.main_arg6) = m ((c.tc : Thread Cert.BackRefIdeal.nD Cert.BackRefIdeal.τ).loc Cert.BackRefIdeal.main_arg6)
      ∧ r.2.mem ((c.tc : Thread Cert.BackRefIdeal.nD Cert.BackRefIdeal.τ).loc Cert.BackRefIdeal.main_arg7) = m ((c.tc : Thread Cert.BackRefIdeal.nD Cert.BackRefIdeal.τ).loc Cert.BackRefIdeal.main_arg7))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6)
      ∧ r.2.mem ((c.tc : Thread Cert.FrontRefIdeal.nD Cert.FrontRefIdeal.τ).loc Cert.FrontRefIdeal.main_arg7) = m ((c.tc : Thread Cert.FrontRefIdeal.nD Cert.FrontRefIdeal.τ).loc Cert.FrontRefIdeal.main_arg7))
      ∧ r.2.sem = fun _ => 0)

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
      ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)
      ∧ m' ((c.tc : Thread Cert.BackRefIdeal.nD Cert.BackRefIdeal.τ).loc Cert.BackRefIdeal.main_arg5) = m ((c.tc : Thread Cert.BackIdeal.nD Cert.BackIdeal.τ).loc Cert.BackIdeal.main_arg5)
      ∧ m' ((c.tc : Thread Cert.BackRefIdeal.nD Cert.BackRefIdeal.τ).loc Cert.BackRefIdeal.main_arg6) = m ((c.tc : Thread Cert.BackIdeal.nD Cert.BackIdeal.τ).loc Cert.BackIdeal.main_arg6)
      ∧ m' ((c.tc : Thread Cert.BackRefIdeal.nD Cert.BackRefIdeal.τ).loc Cert.BackRefIdeal.main_arg7) = m ((c.tc : Thread Cert.BackIdeal.nD Cert.BackIdeal.τ).loc Cert.BackIdeal.main_arg7)) →
    ∃ (v0 : (c : Dev Cert.BackIdeal.nD) → Buf (Elt Ideal) ((c.tc : Thread Cert.BackIdeal.nD Cert.BackIdeal.τ).loc Cert.BackIdeal.main_v0_0)) (v1 : (c : Dev Cert.BackIdeal.nD) → Buf (Elt Ideal) ((c.tc : Thread Cert.BackIdeal.nD Cert.BackIdeal.τ).loc Cert.BackIdeal.main_v0_1)) (v2 : (c : Dev Cert.BackIdeal.nD) → Buf (Elt Ideal) ((c.tc : Thread Cert.BackIdeal.nD Cert.BackIdeal.τ).loc Cert.BackIdeal.main_v0_2)) (v3 : (c : Dev Cert.BackIdeal.nD) → Buf (Elt Ideal) ((c.tc : Thread Cert.BackIdeal.nD Cert.BackIdeal.τ).loc Cert.BackIdeal.main_v0_3)) (v4 : (c : Dev Cert.BackIdeal.nD) → Buf (Elt Ideal) ((c.tc : Thread Cert.BackIdeal.nD Cert.BackIdeal.τ).loc Cert.BackIdeal.main_v0_4)) (v5 : (c : Dev Cert.BackIdeal.nD) → Buf (Elt Ideal) ((c.tc : Thread Cert.BackIdeal.nD Cert.BackIdeal.τ).loc Cert.BackIdeal.main_v0_5)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0_0) = v0 c
          ∧ r.2.mem ((c.tc : Thread Cert.BackIdeal.nD Cert.BackIdeal.τ).loc Cert.BackIdeal.main_v0_1) = v1 c
          ∧ r.2.mem ((c.tc : Thread Cert.BackIdeal.nD Cert.BackIdeal.τ).loc Cert.BackIdeal.main_v0_2) = v2 c
          ∧ r.2.mem ((c.tc : Thread Cert.BackIdeal.nD Cert.BackIdeal.τ).loc Cert.BackIdeal.main_v0_3) = v3 c
          ∧ r.2.mem ((c.tc : Thread Cert.BackIdeal.nD Cert.BackIdeal.τ).loc Cert.BackIdeal.main_v0_4) = v4 c
          ∧ r.2.mem ((c.tc : Thread Cert.BackIdeal.nD Cert.BackIdeal.τ).loc Cert.BackIdeal.main_v0_5) = v5 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v2_0) = v0 c
          ∧ r.2.mem ((c.tc : Thread Cert.BackRefIdeal.nD Cert.BackRefIdeal.τ).loc Cert.BackRefIdeal.main_v2_1) = v1 c
          ∧ r.2.mem ((c.tc : Thread Cert.BackRefIdeal.nD Cert.BackRefIdeal.τ).loc Cert.BackRefIdeal.main_v2_2) = v2 c
          ∧ r.2.mem ((c.tc : Thread Cert.BackRefIdeal.nD Cert.BackRefIdeal.τ).loc Cert.BackRefIdeal.main_v1) = v3 c
          ∧ r.2.mem ((c.tc : Thread Cert.BackRefIdeal.nD Cert.BackRefIdeal.τ).loc Cert.BackRefIdeal.main_v2_3) = v4 c
          ∧ r.2.mem ((c.tc : Thread Cert.BackRefIdeal.nD Cert.BackRefIdeal.τ).loc Cert.BackRefIdeal.main_v2_4) = v5 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2)
          ∧ r.2.mem ((c.tc : Thread Cert.BackRefIdeal.nD Cert.BackRefIdeal.τ).loc Cert.BackRefIdeal.main_arg3) = m' ((c.tc : Thread Cert.BackRefIdeal.nD Cert.BackRefIdeal.τ).loc Cert.BackRefIdeal.main_arg3)
          ∧ r.2.mem ((c.tc : Thread Cert.BackRefIdeal.nD Cert.BackRefIdeal.τ).loc Cert.BackRefIdeal.main_arg4) = m' ((c.tc : Thread Cert.BackRefIdeal.nD Cert.BackRefIdeal.τ).loc Cert.BackRefIdeal.main_arg4)
          ∧ r.2.mem ((c.tc : Thread Cert.BackRefIdeal.nD Cert.BackRefIdeal.τ).loc Cert.BackRefIdeal.main_arg5) = m' ((c.tc : Thread Cert.BackRefIdeal.nD Cert.BackRefIdeal.τ).loc Cert.BackRefIdeal.main_arg5)
          ∧ r.2.mem ((c.tc : Thread Cert.BackRefIdeal.nD Cert.BackRefIdeal.τ).loc Cert.BackRefIdeal.main_arg6) = m' ((c.tc : Thread Cert.BackRefIdeal.nD Cert.BackRefIdeal.τ).loc Cert.BackRefIdeal.main_arg6)
          ∧ r.2.mem ((c.tc : Thread Cert.BackRefIdeal.nD Cert.BackRefIdeal.τ).loc Cert.BackRefIdeal.main_arg7) = m' ((c.tc : Thread Cert.BackRefIdeal.nD Cert.BackRefIdeal.τ).loc Cert.BackRefIdeal.main_arg7))

def preserves_Front_FrontIdeal : Prop :=
  True

def algebraic_FrontIdeal_FrontRefIdeal_on_front_claimed [hFrontIdeal : Cert.FrontIdeal.Facts] [hFrontRefIdeal : Cert.FrontRefIdeal.Facts] [hOn_front_claimed : Cert.On_front_claimed.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
      ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)
      ∧ m' ((c.tc : Thread Cert.FrontRefIdeal.nD Cert.FrontRefIdeal.τ).loc Cert.FrontRefIdeal.main_arg7) = m ((c.tc : Thread Cert.FrontIdeal.nD Cert.FrontIdeal.τ).loc Cert.FrontIdeal.main_arg7)) →
    ∃ (v0 : (c : Dev Cert.FrontIdeal.nD) → Buf (Elt Ideal) ((c.tc : Thread Cert.FrontIdeal.nD Cert.FrontIdeal.τ).loc Cert.FrontIdeal.main_v0_0)) (v1 : (c : Dev Cert.FrontIdeal.nD) → Buf (Elt Ideal) ((c.tc : Thread Cert.FrontIdeal.nD Cert.FrontIdeal.τ).loc Cert.FrontIdeal.main_v0_1)) (v2 : (c : Dev Cert.FrontIdeal.nD) → Buf (Elt Ideal) ((c.tc : Thread Cert.FrontIdeal.nD Cert.FrontIdeal.τ).loc Cert.FrontIdeal.main_v0_2)) (v3 : (c : Dev Cert.FrontIdeal.nD) → Buf (Elt Ideal) ((c.tc : Thread Cert.FrontIdeal.nD Cert.FrontIdeal.τ).loc Cert.FrontIdeal.main_v0_3)) (v4 : (c : Dev Cert.FrontIdeal.nD) → Buf (Elt Ideal) ((c.tc : Thread Cert.FrontIdeal.nD Cert.FrontIdeal.τ).loc Cert.FrontIdeal.main_v0_4)) (v5 : (c : Dev Cert.FrontIdeal.nD) → Buf (Elt Ideal) ((c.tc : Thread Cert.FrontIdeal.nD Cert.FrontIdeal.τ).loc Cert.FrontIdeal.main_v0_5)) (v6 : (c : Dev Cert.FrontIdeal.nD) → Buf (Elt Ideal) ((c.tc : Thread Cert.FrontIdeal.nD Cert.FrontIdeal.τ).loc Cert.FrontIdeal.main_v0_6)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          (∀ i : (⟨2, ![3840, 5376]⟩ : Shape).Idx, (Cert.On_front_claimed.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7))).1 i = 1#1 → r.2.mem ((c.tc : Thread Cert.FrontIdeal.nD Cert.FrontIdeal.τ).loc Cert.FrontIdeal.main_v0_0) i = v0 c i)
          ∧ (∀ i : (⟨2, ![3840, 1024]⟩ : Shape).Idx, (Cert.On_front_claimed.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7))).2.1 i = 1#1 → r.2.mem ((c.tc : Thread Cert.FrontIdeal.nD Cert.FrontIdeal.τ).loc Cert.FrontIdeal.main_v0_1) i = v1 c i)
          ∧ (∀ i : (⟨2, ![3840, 4096]⟩ : Shape).Idx, (Cert.On_front_claimed.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7))).2.2.1 i = 1#1 → r.2.mem ((c.tc : Thread Cert.FrontIdeal.nD Cert.FrontIdeal.τ).loc Cert.FrontIdeal.main_v0_2) i = v2 c i)
          ∧ (∀ i : (⟨2, ![3840, 5376]⟩ : Shape).Idx, (Cert.On_front_claimed.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7))).2.2.2.1 i = 1#1 → r.2.mem ((c.tc : Thread Cert.FrontIdeal.nD Cert.FrontIdeal.τ).loc Cert.FrontIdeal.main_v0_3) i = v3 c i)
          ∧ (∀ i : (⟨2, ![3840, 1024]⟩ : Shape).Idx, (Cert.On_front_claimed.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7))).2.2.2.2.1 i = 1#1 → r.2.mem ((c.tc : Thread Cert.FrontIdeal.nD Cert.FrontIdeal.τ).loc Cert.FrontIdeal.main_v0_4) i = v4 c i)
          ∧ (∀ i : (⟨2, ![3840, 32]⟩ : Shape).Idx, (Cert.On_front_claimed.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7))).2.2.2.2.2.1 i = 1#1 → r.2.mem ((c.tc : Thread Cert.FrontIdeal.nD Cert.FrontIdeal.τ).loc Cert.FrontIdeal.main_v0_5) i = v5 c i)
          ∧ (∀ i : (⟨2, ![15360, 128]⟩ : Shape).Idx, (Cert.On_front_claimed.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7))).2.2.2.2.2.2 i = 1#1 → r.2.mem ((c.tc : Thread Cert.FrontIdeal.nD Cert.FrontIdeal.τ).loc Cert.FrontIdeal.main_v0_6) i = v6 c i)
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          (∀ i : (⟨2, ![3840, 5376]⟩ : Shape).Idx, (Cert.On_front_claimed.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7))).1 i = 1#1 → r.2.mem ((c.tc : Thread Cert.FrontRefIdeal.nD Cert.FrontRefIdeal.τ).loc Cert.FrontRefIdeal.main_v0_0) i = v0 c i)
          ∧ (∀ i : (⟨2, ![3840, 1024]⟩ : Shape).Idx, (Cert.On_front_claimed.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7))).2.1 i = 1#1 → r.2.mem ((c.tc : Thread Cert.FrontRefIdeal.nD Cert.FrontRefIdeal.τ).loc Cert.FrontRefIdeal.main_v0_1) i = v1 c i)
          ∧ (∀ i : (⟨2, ![3840, 4096]⟩ : Shape).Idx, (Cert.On_front_claimed.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7))).2.2.1 i = 1#1 → r.2.mem ((c.tc : Thread Cert.FrontRefIdeal.nD Cert.FrontRefIdeal.τ).loc Cert.FrontRefIdeal.main_v0_2) i = v2 c i)
          ∧ (∀ i : (⟨2, ![3840, 5376]⟩ : Shape).Idx, (Cert.On_front_claimed.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7))).2.2.2.1 i = 1#1 → r.2.mem ((c.tc : Thread Cert.FrontRefIdeal.nD Cert.FrontRefIdeal.τ).loc Cert.FrontRefIdeal.main_v0_3) i = v3 c i)
          ∧ (∀ i : (⟨2, ![3840, 1024]⟩ : Shape).Idx, (Cert.On_front_claimed.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7))).2.2.2.2.1 i = 1#1 → r.2.mem ((c.tc : Thread Cert.FrontRefIdeal.nD Cert.FrontRefIdeal.τ).loc Cert.FrontRefIdeal.main_v0_4) i = v4 c i)
          ∧ (∀ i : (⟨2, ![3840, 32]⟩ : Shape).Idx, (Cert.On_front_claimed.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7))).2.2.2.2.2.1 i = 1#1 → r.2.mem ((c.tc : Thread Cert.FrontRefIdeal.nD Cert.FrontRefIdeal.τ).loc Cert.FrontRefIdeal.main_v0_5) i = v5 c i)
          ∧ (∀ i : (⟨2, ![15360, 128]⟩ : Shape).Idx, (Cert.On_front_claimed.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7))).2.2.2.2.2.2 i = 1#1 → r.2.mem ((c.tc : Thread Cert.FrontRefIdeal.nD Cert.FrontRefIdeal.τ).loc Cert.FrontRefIdeal.main_v0_6) i = v6 c i)
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5)
          ∧ r.2.mem ((c.tc : Thread Cert.FrontRefIdeal.nD Cert.FrontRefIdeal.τ).loc Cert.FrontRefIdeal.main_arg6) = m' ((c.tc : Thread Cert.FrontRefIdeal.nD Cert.FrontRefIdeal.τ).loc Cert.FrontRefIdeal.main_arg6)
          ∧ r.2.mem ((c.tc : Thread Cert.FrontRefIdeal.nD Cert.FrontRefIdeal.τ).loc Cert.FrontRefIdeal.main_arg7) = m' ((c.tc : Thread Cert.FrontRefIdeal.nD Cert.FrontRefIdeal.τ).loc Cert.FrontRefIdeal.main_arg7))

def Claim : Prop :=
  ∃ (hBack : Cert.Back.Facts) (hBackIdeal : Cert.BackIdeal.Facts) (hBackRefIdeal : Cert.BackRefIdeal.Facts) (hFront : Cert.Front.Facts) (hFrontIdeal : Cert.FrontIdeal.Facts) (hFrontRefIdeal : Cert.FrontRefIdeal.Facts) (hOn_front_claimed : Cert.On_front_claimed.Facts),
    quiescent_Back (hBack := hBack)
    ∧ quiescent_BackIdeal (hBackIdeal := hBackIdeal)
    ∧ quiescent_BackRefIdeal (hBackRefIdeal := hBackRefIdeal)
    ∧ quiescent_Front (hFront := hFront)
    ∧ quiescent_FrontIdeal (hFrontIdeal := hFrontIdeal)
    ∧ quiescent_FrontRefIdeal (hFrontRefIdeal := hFrontRefIdeal)
    ∧ preserves_Back_BackIdeal
    ∧ algebraic_BackIdeal_BackRefIdeal (hBackIdeal := hBackIdeal) (hBackRefIdeal := hBackRefIdeal)
    ∧ preserves_Front_FrontIdeal
    ∧ algebraic_FrontIdeal_FrontRefIdeal_on_front_claimed (hFrontIdeal := hFrontIdeal) (hFrontRefIdeal := hFrontRefIdeal) (hOn_front_claimed := hOn_front_claimed)
-- ==== On_front_claimed.lean ====
abbrev S3840x4096 : Shape := ⟨2, ![3840, 4096]⟩
abbrev S1x4096 : Shape := ⟨2, ![1, 4096]⟩
abbrev S4096x5376 : Shape := ⟨2, ![4096, 5376]⟩
abbrev S1 : Shape := ⟨1, ![1]⟩
abbrev S4096x1024 : Shape := ⟨2, ![4096, 1024]⟩
abbrev S1x1024 : Shape := ⟨2, ![1, 1024]⟩
abbrev S_ : Shape := ⟨0, ![]⟩
abbrev S3840x5376 : Shape := ⟨2, ![3840, 5376]⟩
abbrev S3840x1024 : Shape := ⟨2, ![3840, 1024]⟩
abbrev S3840x32 : Shape := ⟨2, ![3840, 32]⟩
abbrev S15360x128 : Shape := ⟨2, ![15360, 128]⟩

class Facts : Prop where
  bcast_S_S3840x5376 : S_.BroadcastsInDim S3840x5376 (![] : Fin 0 → Fin S3840x5376.rank)
  bcast_S_S3840x1024 : S_.BroadcastsInDim S3840x1024 (![] : Fin 0 → Fin S3840x1024.rank)
  bcast_S_S3840x4096 : S_.BroadcastsInDim S3840x4096 (![] : Fin 0 → Fin S3840x4096.rank)
  bcast_S_S3840x32 : S_.BroadcastsInDim S3840x32 (![] : Fin 0 → Fin S3840x32.rank)
  bcast_S_S15360x128 : S_.BroadcastsInDim S15360x128 (![] : Fin 0 → Fin S15360x128.rank)

variable [Facts]

def fn {F : FTy → Type} [FloatOps F] (main_arg0 : FVec F S3840x4096 .bf16) (main_arg1 : FVec F S1x4096 .f32) (main_arg2 : FVec F S4096x5376 .fp8e4m3) (main_arg3 : FVec F S1 .f32) (main_arg4 : FVec F S1 .f32) (main_arg5 : FVec F S1 .f32) (main_arg6 : FVec F S4096x1024 .fp8e4m3) (main_arg7 : FVec F S1x1024 .f32) : IVec S3840x5376 1 × IVec S3840x1024 1 × IVec S3840x4096 1 × IVec S3840x5376 1 × IVec S3840x1024 1 × IVec S3840x32 1 × IVec S15360x128 1 :=
  let main_c : IVec S_ 1 := constantI S_ 1 1#1
  let main_v0 : IVec S3840x5376 1 := broadcastInDim S3840x5376 ![] bcast_S_S3840x5376 main_c
  let main_c_0 : IVec S_ 1 := constantI S_ 1 1#1
  let main_v1 : IVec S3840x1024 1 := broadcastInDim S3840x1024 ![] bcast_S_S3840x1024 main_c_0
  let main_c_1 : IVec S_ 1 := constantI S_ 1 1#1
  let main_v2 : IVec S3840x4096 1 := broadcastInDim S3840x4096 ![] bcast_S_S3840x4096 main_c_1
  let main_c_2 : IVec S_ 1 := constantI S_ 1 1#1
  let main_v3 : IVec S3840x5376 1 := broadcastInDim S3840x5376 ![] bcast_S_S3840x5376 main_c_2
  let main_c_3 : IVec S_ 1 := constantI S_ 1 0#1
  let main_v4 : IVec S3840x1024 1 := broadcastInDim S3840x1024 ![] bcast_S_S3840x1024 main_c_3
  let main_c_4 : IVec S_ 1 := constantI S_ 1 1#1
  let main_v5 : IVec S3840x32 1 := broadcastInDim S3840x32 ![] bcast_S_S3840x32 main_c_4
  let main_c_5 : IVec S_ 1 := constantI S_ 1 0#1
  let main_v6 : IVec S15360x128 1 := broadcastInDim S15360x128 ![] bcast_S_S15360x128 main_c_5
  (main_v0, main_v1, main_v2, main_v3, main_v4, main_v5, main_v6)
-- ==== Back.lean ====
abbrev S3840x4096 : Shape := ⟨2, ![3840, 4096]⟩
abbrev S3840x5376 : Shape := ⟨2, ![3840, 5376]⟩
abbrev S30728x128 : Shape := ⟨2, ![30728, 128]⟩
abbrev S5376x4096 : Shape := ⟨2, ![5376, 4096]⟩
abbrev S1 : Shape := ⟨1, ![1]⟩
abbrev S1024x4096 : Shape := ⟨2, ![1024, 4096]⟩
abbrev S1x4096 : Shape := ⟨2, ![1, 4096]⟩
abbrev S3840x1024 : Shape := ⟨2, ![3840, 1024]⟩
abbrev S30x128 : Shape := ⟨2, ![30, 128]⟩
abbrev S256x4096 : Shape := ⟨2, ![256, 4096]⟩
abbrev S256x5376 : Shape := ⟨2, ![256, 5376]⟩
abbrev S2048x128 : Shape := ⟨2, ![2048, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S2x128 : Shape := ⟨2, ![2, 128]⟩
abbrev S5376x512 : Shape := ⟨2, ![5376, 512]⟩
abbrev S256x512 : Shape := ⟨2, ![256, 512]⟩
abbrev S1024x512 : Shape := ⟨2, ![1024, 512]⟩
abbrev S1x512 : Shape := ⟨2, ![1, 512]⟩

abbrev nBuf : Space → Nat
  | .hbm => 14
  | .vmem => 20
  | .smem => 2
  | _ => 0

abbrev bufTy : (tb : Table) → Fin (tcTables nBuf tb) → BufTy
  | .hbm, ⟨0, _⟩ => ⟨S3840x4096, .bf16⟩
  | .hbm, ⟨1, _⟩ => ⟨S3840x5376, .fp8e4m3⟩
  | .hbm, ⟨2, _⟩ => ⟨S30728x128, .f32⟩
  | .hbm, ⟨3, _⟩ => ⟨S5376x4096, .fp8e4m3⟩
  | .hbm, ⟨4, _⟩ => ⟨S1, .f32⟩
  | .hbm, ⟨5, _⟩ => ⟨S1, .f32⟩
  | .hbm, ⟨6, _⟩ => ⟨S1024x4096, .fp8e4m3⟩
  | .hbm, ⟨7, _⟩ => ⟨S1x4096, .f32⟩
  | .hbm, ⟨8, _⟩ => ⟨S3840x4096, .bf16⟩
  | .hbm, ⟨9, _⟩ => ⟨S3840x4096, .f32⟩
  | .hbm, ⟨10, _⟩ => ⟨S3840x4096, .f32⟩
  | .hbm, ⟨11, _⟩ => ⟨S3840x1024, .f32⟩
  | .hbm, ⟨12, _⟩ => ⟨S3840x1024, .fp8e4m3⟩
  | .hbm, ⟨13, _⟩ => ⟨S30x128, .f32⟩
  | .local _ .vmem, ⟨0, _⟩ => ⟨S256x4096, .bf16⟩
  | .local _ .vmem, ⟨1, _⟩ => ⟨S256x4096, .bf16⟩
  | .local _ .vmem, ⟨2, _⟩ => ⟨S256x5376, .fp8e4m3⟩
  | .local _ .vmem, ⟨3, _⟩ => ⟨S256x5376, .fp8e4m3⟩
  | .local _ .vmem, ⟨4, _⟩ => ⟨S2048x128, .f32⟩
  | .local _ .vmem, ⟨5, _⟩ => ⟨S2048x128, .f32⟩
  | .local _ .vmem, ⟨6, _⟩ => ⟨S5376x4096, .fp8e4m3⟩
  | .local _ .vmem, ⟨7, _⟩ => ⟨S1024x4096, .fp8e4m3⟩
  | .local _ .vmem, ⟨8, _⟩ => ⟨S1x4096, .f32⟩
  | .local _ .vmem, ⟨9, _⟩ => ⟨S256x4096, .bf16⟩
  | .local _ .vmem, ⟨10, _⟩ => ⟨S256x4096, .bf16⟩
  | .local _ .vmem, ⟨11, _⟩ => ⟨S256x4096, .f32⟩
  | .local _ .vmem, ⟨12, _⟩ => ⟨S256x4096, .f32⟩
  | .local _ .vmem, ⟨13, _⟩ => ⟨S256x4096, .f32⟩
  | .local _ .vmem, ⟨14, _⟩ => ⟨S256x4096, .f32⟩
  | .local _ .vmem, ⟨15, _⟩ => ⟨S256x1024, .f32⟩
  | .local _ .vmem, ⟨16, _⟩ => ⟨S256x1024, .f32⟩
  | .local _ .vmem, ⟨17, _⟩ => ⟨S256x1024, .fp8e4m3⟩
  | .local _ .vmem, ⟨18, _⟩ => ⟨S256x1024, .fp8e4m3⟩
  | .local _ .vmem, ⟨19, _⟩ => ⟨S30x128, .f32⟩
  | .local _ .smem, ⟨0, _⟩ => ⟨S1, .f32⟩
  | .local _ .smem, ⟨1, _⟩ => ⟨S1, .f32⟩
  | _, _ => ⟨S3840x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![15], ![false]⟩

def k0_off1 (i : grid0.Coords) : Fin 2 → Nat :=
  let arg0 : BitVec 32 := BitVec.ofNat 32 (i 0).val
  let c2_i32 : BitVec 32 := 2#32
  let v38 : BitVec 32 := Scalar.muli arg0 c2_i32
  let v39 : Index := Scalar.indexCast v38
  let c0_28 : Index := 0#32
  ![v39.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5376 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5376x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S30x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== BackRefIdeal.lean ====
abbrev S3840x4096 : Shape := ⟨2, ![3840, 4096]⟩
abbrev S3840x5376 : Shape := ⟨2, ![3840, 5376]⟩
abbrev S30728x128 : Shape := ⟨2, ![30728, 128]⟩
abbrev S5376x4096 : Shape := ⟨2, ![5376, 4096]⟩
abbrev S1 : Shape := ⟨1, ![1]⟩
abbrev S1024x4096 : Shape := ⟨2, ![1024, 4096]⟩
abbrev S1x4096 : Shape := ⟨2, ![1, 4096]⟩
abbrev S30720x128 : Shape := ⟨2, ![30720, 128]⟩
abbrev S3840x1024 : Shape := ⟨2, ![3840, 1024]⟩
abbrev S30x128 : Shape := ⟨2, ![30, 128]⟩
abbrev S3840 : Shape := ⟨1, ![3840]⟩
abbrev S3840x1 : Shape := ⟨2, ![3840, 1]⟩

abbrev nBuf : Space → Nat
  | .hbm => 15
  | .vmem => 11
  | .smem => 2
  | _ => 0

abbrev bufTy : (tb : Table) → Fin (tcTables nBuf tb) → BufTy
  | .hbm, ⟨0, _⟩ => ⟨S3840x4096, .bf16⟩
  | .hbm, ⟨1, _⟩ => ⟨S3840x5376, .fp8e4m3⟩
  | .hbm, ⟨2, _⟩ => ⟨S30728x128, .f32⟩
  | .hbm, ⟨3, _⟩ => ⟨S5376x4096, .fp8e4m3⟩
  | .hbm, ⟨4, _⟩ => ⟨S1, .f32⟩
  | .hbm, ⟨5, _⟩ => ⟨S1, .f32⟩
  | .hbm, ⟨6, _⟩ => ⟨S1024x4096, .fp8e4m3⟩
  | .hbm, ⟨7, _⟩ => ⟨S1x4096, .f32⟩
  | .hbm, ⟨8, _⟩ => ⟨S30720x128, .f32⟩
  | .hbm, ⟨9, _⟩ => ⟨S3840x1024, .f32⟩
  | .hbm, ⟨10, _⟩ => ⟨S3840x4096, .bf16⟩
  | .hbm, ⟨11, _⟩ => ⟨S3840x4096, .f32⟩
  | .hbm, ⟨12, _⟩ => ⟨S3840x4096, .f32⟩
  | .hbm, ⟨13, _⟩ => ⟨S3840x1024, .fp8e4m3⟩
  | .hbm, ⟨14, _⟩ => ⟨S30x128, .f32⟩
  | .local _ .vmem, ⟨0, _⟩ => ⟨S3840x4096, .bf16⟩
  | .local _ .vmem, ⟨1, _⟩ => ⟨S3840x5376, .fp8e4m3⟩
  | .local _ .vmem, ⟨2, _⟩ => ⟨S3840x1024, .f32⟩
  | .local _ .vmem, ⟨3, _⟩ => ⟨S5376x4096, .fp8e4m3⟩
  | .local _ .vmem, ⟨4, _⟩ => ⟨S1024x4096, .fp8e4m3⟩
  | .local _ .vmem, ⟨5, _⟩ => ⟨S1x4096, .f32⟩
  | .local _ .vmem, ⟨6, _⟩ => ⟨S3840x4096, .bf16⟩
  | .local _ .vmem, ⟨7, _⟩ => ⟨S3840x4096, .f32⟩
  | .local _ .vmem, ⟨8, _⟩ => ⟨S3840x4096, .f32⟩
  | .local _ .vmem, ⟨9, _⟩ => ⟨S3840x1024, .fp8e4m3⟩
  | .local _ .vmem, ⟨10, _⟩ => ⟨S30x128, .f32⟩
  | .local _ .smem, ⟨0, _⟩ => ⟨S1, .f32⟩
  | .local _ .smem, ⟨1, _⟩ => ⟨S1, .f32⟩
  | _, _ => ⟨S3840x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S3840x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3840x5376 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3840x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5376x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3840x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3840x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3840x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3840x1024 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S30x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Front.lean ====
abbrev S3840x4096 : Shape := ⟨2, ![3840, 4096]⟩
abbrev S1x4096 : Shape := ⟨2, ![1, 4096]⟩
abbrev S4096x5376 : Shape := ⟨2, ![4096, 5376]⟩
abbrev S1 : Shape := ⟨1, ![1]⟩
abbrev S4096x1024 : Shape := ⟨2, ![4096, 1024]⟩
abbrev S1x1024 : Shape := ⟨2, ![1, 1024]⟩
abbrev S3840x5376 : Shape := ⟨2, ![3840, 5376]⟩
abbrev S3840x1024 : Shape := ⟨2, ![3840, 1024]⟩
abbrev S3840x32 : Shape := ⟨2, ![3840, 32]⟩
abbrev S15360x128 : Shape := ⟨2, ![15360, 128]⟩
abbrev S256x4096 : Shape := ⟨2, ![256, 4096]⟩
abbrev S256x5376 : Shape := ⟨2, ![256, 5376]⟩
abbrev S256x1024 : Shape := ⟨2, ![256, 1024]⟩
abbrev S256x32 : Shape := ⟨2, ![256, 32]⟩
abbrev S1024x128 : Shape := ⟨2, ![1024, 128]⟩
abbrev S256 : Shape := ⟨1, ![256]⟩
abbrev S256x1 : Shape := ⟨2, ![256, 1]⟩
abbrev S256x128 : Shape := ⟨2, ![256, 128]⟩
abbrev S256x128x1 : Shape := ⟨3, ![256, 128, 1]⟩
abbrev S256x512 : Shape := ⟨2, ![256, 512]⟩
abbrev S4096x768 : Shape := ⟨2, ![4096, 768]⟩
abbrev S256x768 : Shape := ⟨2, ![256, 768]⟩

abbrev nBuf : Space → Nat
  | .hbm => 15
  | .vmem => 20
  | .smem => 3
  | _ => 0

abbrev bufTy : (tb : Table) → Fin (tcTables nBuf tb) → BufTy
  | .hbm, ⟨0, _⟩ => ⟨S3840x4096, .bf16⟩
  | .hbm, ⟨1, _⟩ => ⟨S1x4096, .f32⟩
  | .hbm, ⟨2, _⟩ => ⟨S4096x5376, .fp8e4m3⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S4096x1024, .fp8e4m3⟩
  | .hbm, ⟨7, _⟩ => ⟨S1x1024, .f32⟩
  | .hbm, ⟨8, _⟩ => ⟨S3840x5376, .f32⟩
  | .hbm, ⟨9, _⟩ => ⟨S3840x1024, .f32⟩
  | .hbm, ⟨10, _⟩ => ⟨S3840x4096, .fp8e4m3⟩
  | .hbm, ⟨11, _⟩ => ⟨S3840x5376, .fp8e4m3⟩
  | .hbm, ⟨12, _⟩ => ⟨S3840x1024, .i8⟩
  | .hbm, ⟨13, _⟩ => ⟨S3840x32, .i8⟩
  | .hbm, ⟨14, _⟩ => ⟨S15360x128, .i32⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S4096x5376, .fp8e4m3⟩
  | .local _ .vmem, ⟨4, _⟩ => ⟨S4096x1024, .fp8e4m3⟩
  | .local _ .vmem, ⟨5, _⟩ => ⟨S1x1024, .f32⟩
  | .local _ .vmem, ⟨6, _⟩ => ⟨S256x5376, .f32⟩
  | .local _ .vmem, ⟨7, _⟩ => ⟨S256x5376, .f32⟩
  | .local _ .vmem, ⟨8, _⟩ => ⟨S256x1024, .f32⟩
  | .local _ .vmem, ⟨9, _⟩ => ⟨S256x1024, .f32⟩
  | .local _ .vmem, ⟨10, _⟩ => ⟨S256x4096, .fp8e4m3⟩
  | .local _ .vmem, ⟨11, _⟩ => ⟨S256x4096, .fp8e4m3⟩
  | .local _ .vmem, ⟨12, _⟩ => ⟨S256x5376, .fp8e4m3⟩
  | .local _ .vmem, ⟨13, _⟩ => ⟨S256x5376, .fp8e4m3⟩
  | .local _ .vmem, ⟨14, _⟩ => ⟨S256x1024, .i8⟩
  | .local _ .vmem, ⟨15, _⟩ => ⟨S256x1024, .i8⟩
  | .local _ .vmem, ⟨16, _⟩ => ⟨S256x32, .i8⟩
  | .local _ .vmem, ⟨17, _⟩ => ⟨S256x32, .i8⟩
  | .local _ .vmem, ⟨18, _⟩ => ⟨S1024x128, .i32⟩
  | .local _ .vmem, ⟨19, _⟩ => ⟨S1024x128, .i32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S3840x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x5376 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5376 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x32 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FrontRefIdeal.lean ====
abbrev S3840x4096 : Shape := ⟨2, ![3840, 4096]⟩
abbrev S1x4096 : Shape := ⟨2, ![1, 4096]⟩
abbrev S4096x5376 : Shape := ⟨2, ![4096, 5376]⟩
abbrev S1 : Shape := ⟨1, ![1]⟩
abbrev S4096x1024 : Shape := ⟨2, ![4096, 1024]⟩
abbrev S1x1024 : Shape := ⟨2, ![1, 1024]⟩
abbrev S3840x5376 : Shape := ⟨2, ![3840, 5376]⟩
abbrev S3840x1024 : Shape := ⟨2, ![3840, 1024]⟩
abbrev S3840x32 : Shape := ⟨2, ![3840, 32]⟩
abbrev S15360x128 : Shape := ⟨2, ![15360, 128]⟩
abbrev S3840 : Shape := ⟨1, ![3840]⟩
abbrev S3840x1 : Shape := ⟨2, ![3840, 1]⟩
abbrev S122880x32 : Shape := ⟨2, ![122880, 32]⟩
abbrev S122880 : Shape := ⟨1, ![122880]⟩

abbrev nBuf : Space → Nat
  | .hbm => 15
  | .vmem => 12
  | .smem => 3
  | _ => 0

abbrev bufTy : (tb : Table) → Fin (tcTables nBuf tb) → BufTy
  | .hbm, ⟨0, _⟩ => ⟨S3840x4096, .bf16⟩
  | .hbm, ⟨1, _⟩ => ⟨S1x4096, .f32⟩
  | .hbm, ⟨2, _⟩ => ⟨S4096x5376, .fp8e4m3⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S4096x1024, .fp8e4m3⟩
  | .hbm, ⟨7, _⟩ => ⟨S1x1024, .f32⟩
  | .hbm, ⟨8, _⟩ => ⟨S3840x5376, .f32⟩
  | .hbm, ⟨9, _⟩ => ⟨S3840x1024, .f32⟩
  | .hbm, ⟨10, _⟩ => ⟨S3840x4096, .fp8e4m3⟩
  | .hbm, ⟨11, _⟩ => ⟨S3840x5376, .fp8e4m3⟩
  | .hbm, ⟨12, _⟩ => ⟨S3840x1024, .i8⟩
  | .hbm, ⟨13, _⟩ => ⟨S3840x32, .i8⟩
  | .hbm, ⟨14, _⟩ => ⟨S15360x128, .i32⟩
  | .local _ .vmem, ⟨0, _⟩ => ⟨S3840x4096, .bf16⟩
  | .local _ .vmem, ⟨1, _⟩ => ⟨S1x4096, .f32⟩
  | .local _ .vmem, ⟨2, _⟩ => ⟨S4096x5376, .fp8e4m3⟩
  | .local _ .vmem, ⟨3, _⟩ => ⟨S4096x1024, .fp8e4m3⟩
  | .local _ .vmem, ⟨4, _⟩ => ⟨S1x1024, .f32⟩
  | .local _ .vmem, ⟨5, _⟩ => ⟨S3840x5376, .f32⟩
  | .local _ .vmem, ⟨6, _⟩ => ⟨S3840x1024, .f32⟩
  | .local _ .vmem, ⟨7, _⟩ => ⟨S3840x4096, .fp8e4m3⟩
  | .local _ .vmem, ⟨8, _⟩ => ⟨S3840x5376, .fp8e4m3⟩
  | .local _ .vmem, ⟨9, _⟩ => ⟨S3840x1024, .i8⟩
  | .local _ .vmem, ⟨10, _⟩ => ⟨S3840x32, .i8⟩
  | .local _ .vmem, ⟨11, _⟩ => ⟨S15360x128, .i32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S3840x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg13_0 : Ref sig .tc := ⟨.vmem, 10, rfl⟩
abbrev cc0_stg14_0 : Ref sig .tc := ⟨.vmem, 11, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S3840x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3840x5376 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3840x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3840x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3840x5376 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3840x1024 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3840x32 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S15360x128 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.BackWordRun.lean ====
module

public import proofs.«01_k».proof.Proof.Gen.Back.Skeleton
public import proofs.«01_k».proof.Proof.Gen.Back.Frame
public import Idealize.ShloMosaic.Lib.Pipeline.FrameBody
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Back.Hand

open Cert.Back Cert.Back.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The kernel body on any staging memrefs: a subtype the run finds -/

/-- One staging buffer of output window 8, through which its contents are stated (`View.read_writes_of_cover`: the
    choice does not matter). -/
abbrev VO0_8 : View sig .tc .vmem S256x4096 .bf16 := (Memref.whole cc0_stg8_0 : Memref sig .tc .vmem S256x4096 .bf16).view
/-- One staging buffer of output window 9, through which its contents are stated (`View.read_writes_of_cover`: the
    choice does not matter). -/
abbrev VO0_9 : View sig .tc .vmem S256x4096 .f32 := (Memref.whole cc0_stg9_0 : Memref sig .tc .vmem S256x4096 .f32).view
/-- One staging buffer of output window 10, through which its contents are stated (`View.read_writes_of_cover`: the
    choice does not matter). -/
abbrev VO0_10 : View sig .tc .vmem S256x4096 .f32 := (Memref.whole cc0_stg10_0 : Memref sig .tc .vmem S256x4096 .f32).view
/-- One staging buffer of output window 11, through which its contents are stated (`View.read_writes_of_cover`: the
    choice does not matter). -/
abbrev VO0_11 : View sig .tc .vmem S256x1024 .f32 := (Memref.whole cc0_stg11_0 : Memref sig .tc .vmem S256x1024 .f32).view
/-- One staging buffer of output window 12, through which its contents are stated (`View.read_writes_of_cover`: the
    choice does not matter). -/
abbrev VO0_12 : View sig .tc .vmem S256x1024 .fp8e4m3 := (Memref.whole cc0_stg12_0 : Memref sig .tc .vmem S256x1024 .fp8e4m3).view
/-- One staging buffer of output window 13, through which its contents are stated (`View.read_writes_of_cover`: the
    choice does not matter). -/
abbrev VO0_13 : View sig .tc .vmem S30x128 .f32 := (Memref.whole cc0_stg13_0 : Memref sig .tc .vmem S30x128 .f32).view
/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x5376 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5376x4096 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x4096 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x4096 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1024 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S30x128 .f32 := win0_13.stage (cfg0.slots t 13)
abbrev hs0_13 (t : Fin cfg0.N) : (ms0_13 t).IsWhole := hstage0_13 ((cfg0.slots t 13).cast nbuf0_13)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) :
    Σ' (L8 : List (View.Piece (Elt F) S256x4096 .bf16)), Σ' (L9 : List (View.Piece (Elt F) S256x4096 .f32)), Σ' (L10 : List (View.Piece (Elt F) S256x4096 .f32)), Σ' (L11 : List (View.Piece (Elt F) S256x1024 .f32)), Σ' (L12 : List (View.Piece (Elt F) S256x1024 .fp8e4m3)), { L13 : List (View.Piece (Elt F) S30x128 .f32) //
      ∀ (x13 : Vec F S30x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (arg14.view.loc (c : Thread nD τ) ↦[arg14.view.set]{fullShare} arg14.view.writes (Elt F) (harg14.unread x13) L13)) -∗ K ⟨⟩))
          ⊢ wp frame (wpE (defs₀ (F := F)) Variants.none c none) E (cc0_back i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun x13 E K => ?run⟩
  case run =>
    simp only [cc0_back_eq_skeleton]; unfold cc0_back_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg14.eq_unread hf13
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexact H13

end Cert.Back.Hand

end
-- ==== Proof.BackWordFrame.lean ====
module

public import proofs.«01_k».proof.Proof.BackWordRun

@[expose] public section

-- membership in a rectangle of production extents (`View.cover_of_tiled`): the elaborator's structural look
-- recurses once per coordinate of the long axes
set_option maxRecDepth 16384

noncomputable section

namespace Cert.Back.Hand

open Cert.Back Cert.Back.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for output 8 tile its block (8 stores of `S256x512`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) (y : S256x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1 S256x512.size (by sl_kernel_rfl) y

/-- What the run leaves in output 8's staging buffer: its pieces read back over junk. -/
def out0_A_8 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) : Vec F S256x4096 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1)

/-- The run's pieces for output 9 tile its block (8 stores of `S256x512`, checked by the kernel's evaluation: Lib/Ring.lean `Piece.tiledL`, linear in the pieces, through a loop's `@[irreducible]` trip theorem too), so they cover it. -/
theorem cover0_A_9 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) (y : S256x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1 S256x512.size (by sl_kernel_rfl) y

/-- What the run leaves in output 9's staging buffer: its pieces read back over junk. -/
def out0_A_9 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) : Vec F S256x4096 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1)

/-- The run's pieces for output 10 tile its block (8 stores of `S256x512`, checked by the kernel's evaluation: Lib/Ring.lean `Piece.tiledL`, linear in the pieces, through a loop's `@[irreducible]` trip theorem too), so they cover it. -/
theorem cover0_A_10 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) (y : S256x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1 S256x512.size (by sl_kernel_rfl) y

/-- What the run leaves in output 10's staging buffer: its pieces read back over junk. -/
def out0_A_10 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) : Vec F S256x4096 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1)

/-- The run's pieces for output 11 tile its block (8 stores of `S256x128`, checked by the kernel's evaluation: Lib/Ring.lean `Piece.tiledL`, linear in the pieces, through a loop's `@[irreducible]` trip theorem too), so they cover it. -/
theorem cover0_A_11 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.1 S256x128.size (by sl_kernel_rfl) y

/-- What the run leaves in output 11's staging buffer: its pieces read back over junk. -/
def out0_A_11 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) : Vec F S256x1024 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.1)

/-- The run's pieces for output 12 tile its block (1 store of `S256x1024`, checked by the kernel's evaluation: Lib/Ring.lean `Piece.tiledL`, linear in the pieces, through a loop's `@[irreducible]` trip theorem too), so they cover it. -/
theorem cover0_A_12 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.2.1 S256x1024.size (by sl_kernel_rfl) y

/-- What the run leaves in output 12's staging buffer: its pieces read back over junk. -/
def out0_A_12 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) : Vec F S256x1024 .fp8e4m3 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.2.1)

/-- What the outputs' staging buffers hold after the body at point `t` (as a tuple, in window order): the run's contents at
    the point's memrefs and input blocks. -/
def outsAt0 (c : Dev nD) (t : Fin cfg0.N) : Vec F S256x4096 .bf16 × Vec F S256x4096 .f32 × Vec F S256x4096 .f32 × Vec F S256x1024 .f32 × Vec F S256x1024 .fp8e4m3 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (X0_2 m c t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (X0_2 m c t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (X0_2 m c t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (X0_2 m c t) (iblk m c 3 t) (iblk m c 4 t) (iblk m c 5 t) (iblk m c 6 t) (iblk m c 7 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (X0_2 m c t) (iblk m c 3 t) (iblk m c 4 t) (iblk m c 5 t) (iblk m c 6 t) (iblk m c 7 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t).1
    | ⟨9, _⟩ => (outsAt0 m c t).2.1
    | ⟨10, _⟩ => (outsAt0 m c t).2.2.1
    | ⟨11, _⟩ => (outsAt0 m c t).2.2.2.1
    | ⟨12, _⟩ => (outsAt0 m c t).2.2.2.2
    | ⟨13, _⟩ => Dat.unnamed ⟨13, by decide⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t).1 := by dsimp only [dats]
theorem after0_9 (c : Dev nD) (t : Fin cfg0.N) : (dats m 0 c).after 9 t = (outsAt0 m c t).2.1 := by dsimp only [dats]
theorem after0_10 (c : Dev nD) (t : Fin cfg0.N) : (dats m 0 c).after 10 t = (outsAt0 m c t).2.2.1 := by dsimp only [dats]
theorem after0_11 (c : Dev nD) (t : Fin cfg0.N) : (dats m 0 c).after 11 t = (outsAt0 m c t).2.2.2.1 := by dsimp only [dats]
theorem after0_12 (c : Dev nD) (t : Fin cfg0.N) : (dats m 0 c).after 12 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The two rows of scales that the body leaves at point `t`. -/
def scale13 (c : Dev nD) (t : Fin cfg0.N) : Vec F S2x128 .f32 :=
  k0_pay9 (kernelRun0_A.sl.v16 c (ms0_2 t) (hs0_2 t) (ms0_11 t) (X0_2 m c t))

/-- Where point `t`'s two rows of scales lie in the resident block. -/
abbrev rect13 (t : Fin cfg0.N) : Rect S30x128 := Rect.unit (k0_off1 (grid0.coords t)) ![2, 128] (k0_off1_inb (grid0.coords t))

/-- The resident block of scales after point `t`: the rows of every point up to `t` hold that point's scales. -/
def Held13 (c : Dev nD) (t : Fin cfg0.N) (X : Vec F S30x128 .f32) : Prop :=
  ∀ u : Fin cfg0.N, u.val ≤ t.val → ∀ j : S2x128.Idx, X ((rect13 u).emb j) = scale13 m c u j

/-- The window whose contents are held to a predicate: the scales' resident block. -/
def held0 : Fin 14 → Bool := fun w => w.val == 13

/-- The predicate of each marked window. -/
def Rl0 (c : Dev nD) (w : Fin cfg0.W) (t : Fin cfg0.N) (X : (cfg0.win w).block.Idx → Elt F (cfg0.win w).elt) : Prop :=
  match w, X with
  | ⟨13, _⟩, X => Held13 m c t X
  | _, _ => True

/-- The relational proof data: every window but the scales' block exact, that one held to `Held13`. -/
abbrev rdat (c : Dev nD) : Pipeline.RDat τ (Elt F) Unit ℕ (UR sig nD τ) ℕ cfg0 c := (dats m 0 c).toRRel held0 (Rl0 m c)

/-- What the body finds in the scales' block at a later point: the rows of every earlier point already there. -/
theorem found13 (c : Dev nD) (t : Fin cfg0.N) (Y : Vec F S30x128 .f32) (h : (rdat m c).Finds 13 t Y) :
    ∀ u : Fin cfg0.N, u.val < t.val → ∀ j : S2x128.Idx, Y ((rect13 u).emb j) = scale13 m c u j := by
  intro u hu j
  have ht : t.val ≠ 0 := by omega
  have hf := ((rdat m c).finds_of_pos (w := 13) (t := t) rfl ht Y).mp h
  rcases hf with hf | hf
  · rw [flush0_13] at hf
    have := t.isLt
    have hN : cfg0.N = 15 := rfl
    dsimp only at hf; omega
  · have := Dat.toRRel_leaves (dats m 0 c) (fgt := held0) (Rl := Rl0 m c) rfl hf
    exact this u (by dsimp only; omega) j

/-- Point `t`'s rows are rows `2 t` and `2 t + 1`. -/
theorem off13 : ∀ t : Fin cfg0.N, k0_off1 (grid0.coords t) 0 = 2 * t.val := by decide +kernel

/-- The row of an element of point `u`'s rows. -/
theorem emb13_row (u : Fin cfg0.N) (j : S2x128.Idx) : ((rect13 u).emb j 0).val = 2 * u.val + (j 0).val := by
  show k0_off1 (grid0.coords u) 0 + 1 * (j 0).val = _
  rw [off13 u, Nat.one_mul]

/-- The rows of different points are apart. -/
theorem rect13_apart (t u : Fin cfg0.N) (h : u ≠ t) (j : S2x128.Idx) : (rect13 u).emb j ∉ (rect13 t).set := by
  refine Rect.not_mem_set_of_axis (rect13 t) _ 0 (2 * t.val) 2 (off13 t) rfl rfl ?_
  rw [emb13_row]
  have : u.val ≠ t.val := fun e => h (Fin.ext e)
  have h2 : (j 0).val < 2 := (j 0).isLt
  omega

/-- Rows of the earlier points in place, a store of point `t`'s rows leaves the rows of every point up to `t` in place. -/
theorem rows_step (G : Fin cfg0.N → Vec F S2x128 .f32) (t : Fin cfg0.N) (v : Memref sig .tc .vmem S30x128 .f32) (hv : v.IsWhole)
    (Y : Vec F S30x128 .f32) (h : ∀ u : Fin cfg0.N, u.val < t.val → ∀ j : S2x128.Idx, Y ((rect13 u).emb j) = G u j)
    (u : Fin cfg0.N) (hu : u.val ≤ t.val) (j : S2x128.Idx) :
    v.view.read (Elt F) (v.view.writes (Elt F) (hv.unread Y) [⟨rect13 t, G t⟩]) ((rect13 u).emb j) = G u j := by
  by_cases e : u = t
  · subst e; exact View.read_writes_cons_emb (v := v.view) (f := hv.unread Y) (rect13 u) (G u) [] j
  · refine (View.read_writes_cons_miss (v := v.view) (f := hv.unread Y) ⟨rect13 t, G t⟩ [] ((rect13 u).emb j) (rect13_apart t u e j)).trans ?_
    rw [View.writes_nil, hv.read_unread]
    exact h u (by have : u.val ≠ t.val := fun h => e (Fin.ext h); omega) j

/-- After the store at point `t`, over a block with the rows of the earlier points. -/
theorem held13_step (c : Dev nD) (t : Fin cfg0.N) (v : Memref sig .tc .vmem S30x128 .f32) (hv : v.IsWhole) (Y : Vec F S30x128 .f32)
    (h : (rdat m c).Finds 13 t Y) :
    Held13 m c t (v.view.read (Elt F) (v.view.writes (Elt F) (hv.unread Y) [⟨rect13 t, scale13 m c t⟩])) :=
  fun u hu j => rows_step (scale13 m c) t v hv Y (found13 m c t Y h) u hu j

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ Y, ⌜(rdat m c).Finds 13 t Y⌝ ∗ owns (c : Thread nD τ) (ms0_13 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ X, ⌜Rl0 m c 13 t X⌝ ∗ owns (c : Thread nD τ) (ms0_13 t) fullShare X))

set_option maxHeartbeats 1200000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  unfold outsAt0
  unfold out0_A_8 out0_A_9 out0_A_10 out0_A_11 out0_A_12; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%Y13, %hY13, H13⟩⟩
  iapply ((kernelRun0_A c (grid0.coords t) _ _ _ _ _ _ _ _ _ _ _ _ _ _ _ _ _ _ _ _ _ _ _ _ _ _ _ _ (iblk m c 0 t) (iblk m c 1 t) (X0_2 m c t) (iblk m c 3 t) (iblk m c 4 t) (iblk m c 5 t) (iblk m c 6 t) (iblk m c 7 t)).2.2.2.2.2.2 Y13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  iintro ⟨H0, H1, H2, H3, H4, H5, H6, H7, ⟨%e8, H8⟩, ⟨%e9, H9⟩, ⟨%e10, H10⟩, ⟨%e11, H11⟩, ⟨%e12, H12⟩, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _)
  iexists ((ms0_13 t).view.read (Elt F) ((ms0_13 t).view.writes (Elt F) ((hs0_13 t).unread Y13) [⟨rect13 t, scale13 m c t⟩])); isplitr
  · ipureintro; exact held13_step m c t (ms0_13 t) (hs0_13 t) Y13 hY13
  unfold owns; iexists _; isplitr
  swap; · iexact H13
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : Pipeline.BodyObligationRel (dats (F := F) m 0 c) (defs₀ (F := F)) Variants.none () Set.univ held0 (Rl0 m c) := fun t => by
  have h0 : iprop((dats m 0 c).Φ t.castSucc ∗ (dats m 0 c).owesAt () t.castSucc
        ∗ bigSep Finset.univ fun w : Fin cfg0.W =>
            match held0 w with
            | true => iprop(∃ Y, ⌜(rdat m c).Finds w t Y⌝ ∗ owns c ((cfg0.win w).stage (cfg0.slots t w)) fullShare Y)
            | false => iprop(∃ d, owns c ((cfg0.win w).stage (cfg0.slots t w)) fullShare ((dats m 0 c).before w t d)))
      ⊢ wp frame (wpE defs₀ Variants.none c none) Set.univ (defs₀ (F := F) .tc cfg0.body (cfg0.bodyArgs t (cfg0.slots t))) fun _ =>
          iprop((dats m 0 c).Φ t.succ ∗ (dats m 0 c).owesAt () t.succ
            ∗ bigSep Finset.univ fun w : Fin cfg0.W =>
                match held0 w with
                | true => iprop(∃ X, ⌜Rl0 m c w t X⌝ ∗ owns c ((cfg0.win w).stage (cfg0.slots t w)) fullShare X)
                | false => (dats m 0 c).leavesExact w t) := by
    rw [bigSep_W0, bigSep_W0, defs₀_row]
    exact triple_restated (sound_body m c t) rfl .rfl fun _ => .rfl
  refine h0.trans (wp_mono _ _ _ fun _ => sep_mono .rfl (sep_mono .rfl (Idealize.SL.BI.bigSep_mono fun w _ => ?_)))
  show (match held0 w with
      | true => iprop(∃ X, ⌜Rl0 m c w t X⌝ ∗ owns c ((cfg0.win w).stage (cfg0.slots t w)) fullShare X)
      | false => (dats m 0 c).leavesExact w t : sProp 𝕄)
    ⊢ (match held0 w with
      | true => iprop(∃ X, ⌜Rl0 m c w t X⌝ ∗ owns c ((cfg0.win w).stage (cfg0.slots t w)) fullShare X)
      | false => (dats m 0 c).leaves w t : sProp 𝕄)
  cases held0 w
  · exact (dats m 0 c).leaves_intro w t
  · exact .rfl

/-! ## The run and the frame -/

set_option backward.isDefEq.respectTransparency.types false in
/-- The launch: every array of the pipeline ends as the relational proof data allows, and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The frame: every argument array ends as it was launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨h.1.arr_in c 0 rfl, h.1.arr_in c 1 rfl, h.1.arr_in c 2 rfl, h.1.arr_in c 3 rfl,
    h.1.arr_in c 4 rfl, h.1.arr_in c 5 rfl, h.1.arr_in c 6 rfl, h.1.arr_in c 7 rfl⟩, h.2⟩) (run_main_quiescent m ρ)

end Cert.Back.Hand

end
-- ==== Proof.BackRun.lean ====
module

public import proofs.«01_k».proof.Proof.Gen.BackIdeal.Skeleton
public import proofs.«01_k».proof.Proof.Gen.BackIdeal.Frame
public import Idealize.ShloMosaic.Lib.Pipeline.FrameBody
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.BackIdeal.Hand

open Cert.BackIdeal Cert.BackIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The kernel body on any staging memrefs: a subtype the run finds -/

/-- One staging buffer of output window 8, through which its contents are stated (`View.read_writes_of_cover`: the
    choice does not matter). -/
abbrev VO0_8 : View sig .tc .vmem S256x4096 .bf16 := (Memref.whole cc0_stg8_0 : Memref sig .tc .vmem S256x4096 .bf16).view
/-- One staging buffer of output window 9, through which its contents are stated (`View.read_writes_of_cover`: the
    choice does not matter). -/
abbrev VO0_9 : View sig .tc .vmem S256x4096 .f32 := (Memref.whole cc0_stg9_0 : Memref sig .tc .vmem S256x4096 .f32).view
/-- One staging buffer of output window 10, through which its contents are stated (`View.read_writes_of_cover`: the
    choice does not matter). -/
abbrev VO0_10 : View sig .tc .vmem S256x4096 .f32 := (Memref.whole cc0_stg10_0 : Memref sig .tc .vmem S256x4096 .f32).view
/-- One staging buffer of output window 11, through which its contents are stated (`View.read_writes_of_cover`: the
    choice does not matter). -/
abbrev VO0_11 : View sig .tc .vmem S256x1024 .f32 := (Memref.whole cc0_stg11_0 : Memref sig .tc .vmem S256x1024 .f32).view
/-- One staging buffer of output window 12, through which its contents are stated (`View.read_writes_of_cover`: the
    choice does not matter). -/
abbrev VO0_12 : View sig .tc .vmem S256x1024 .fp8e4m3 := (Memref.whole cc0_stg12_0 : Memref sig .tc .vmem S256x1024 .fp8e4m3).view
/-- One staging buffer of output window 13, through which its contents are stated (`View.read_writes_of_cover`: the
    choice does not matter). -/
abbrev VO0_13 : View sig .tc .vmem S30x128 .f32 := (Memref.whole cc0_stg13_0 : Memref sig .tc .vmem S30x128 .f32).view
/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x5376 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5376x4096 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x4096 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x4096 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1024 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S30x128 .f32 := win0_13.stage (cfg0.slots t 13)
abbrev hs0_13 (t : Fin cfg0.N) : (ms0_13 t).IsWhole := hstage0_13 ((cfg0.slots t 13).cast nbuf0_13)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) :
    Σ' (L8 : List (View.Piece (Elt F) S256x4096 .bf16)), Σ' (L9 : List (View.Piece (Elt F) S256x4096 .f32)), Σ' (L10 : List (View.Piece (Elt F) S256x4096 .f32)), Σ' (L11 : List (View.Piece (Elt F) S256x1024 .f32)), Σ' (L12 : List (View.Piece (Elt F) S256x1024 .fp8e4m3)), { L13 : List (View.Piece (Elt F) S30x128 .f32) //
      ∀ (x13 : Vec F S30x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (arg14.view.loc (c : Thread nD τ) ↦[arg14.view.set]{fullShare} arg14.view.writes (Elt F) (harg14.unread x13) L13)) -∗ K ⟨⟩))
          ⊢ wp frame (wpE (defs₀ (F := F)) Variants.none c none) E (cc0_back i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun x13 E K => ?run⟩
  case run =>
    simp only [cc0_back_eq_skeleton]; unfold cc0_back_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg14.eq_unread hf13
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexact H13

end Cert.BackIdeal.Hand

end
-- ==== Proof.BackFrame.lean ====
module

public import proofs.«01_k».proof.Proof.BackRun

@[expose] public section

-- membership in a rectangle of production extents (`View.cover_of_tiled`): the elaborator's structural look
-- recurses once per coordinate of the long axes
set_option maxRecDepth 16384

noncomputable section

namespace Cert.BackIdeal.Hand

open Cert.BackIdeal Cert.BackIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for output 8 tile its block (8 stores of `S256x512`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) (y : S256x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1 S256x512.size (by sl_kernel_rfl) y

/-- What the run leaves in output 8's staging buffer: its pieces read back over junk. -/
def out0_A_8 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) : Vec F S256x4096 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1)

/-- The run's pieces for output 9 tile its block (8 stores of `S256x512`, checked by the kernel's evaluation: Lib/Ring.lean `Piece.tiledL`, linear in the pieces, through a loop's `@[irreducible]` trip theorem too), so they cover it. -/
theorem cover0_A_9 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) (y : S256x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1 S256x512.size (by sl_kernel_rfl) y

/-- What the run leaves in output 9's staging buffer: its pieces read back over junk. -/
def out0_A_9 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) : Vec F S256x4096 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1)

/-- The run's pieces for output 10 tile its block (8 stores of `S256x512`, checked by the kernel's evaluation: Lib/Ring.lean `Piece.tiledL`, linear in the pieces, through a loop's `@[irreducible]` trip theorem too), so they cover it. -/
theorem cover0_A_10 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) (y : S256x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1 S256x512.size (by sl_kernel_rfl) y

/-- What the run leaves in output 10's staging buffer: its pieces read back over junk. -/
def out0_A_10 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) : Vec F S256x4096 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1)

/-- The run's pieces for output 11 tile its block (8 stores of `S256x128`, checked by the kernel's evaluation: Lib/Ring.lean `Piece.tiledL`, linear in the pieces, through a loop's `@[irreducible]` trip theorem too), so they cover it. -/
theorem cover0_A_11 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.1 S256x128.size (by sl_kernel_rfl) y

/-- What the run leaves in output 11's staging buffer: its pieces read back over junk. -/
def out0_A_11 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) : Vec F S256x1024 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.1)

/-- The run's pieces for output 12 tile its block (1 store of `S256x1024`, checked by the kernel's evaluation: Lib/Ring.lean `Piece.tiledL`, linear in the pieces, through a loop's `@[irreducible]` trip theorem too), so they cover it. -/
theorem cover0_A_12 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.2.1 S256x1024.size (by sl_kernel_rfl) y

/-- What the run leaves in output 12's staging buffer: its pieces read back over junk. -/
def out0_A_12 (c : Dev nD) (i : grid0.Coords) (arg1 : Memref sig .tc .vmem S256x4096 .bf16) (harg1 : arg1.IsWhole) (arg2 : Memref sig .tc .vmem S256x5376 .fp8e4m3) (harg2 : arg2.IsWhole) (arg3 : Memref sig .tc .vmem S2048x128 .f32) (harg3 : arg3.IsWhole) (arg4 : Memref sig .tc .vmem S5376x4096 .fp8e4m3) (harg4 : arg4.IsWhole) (arg5 : Memref sig .tc .smem S1 .f32) (harg5 : arg5.IsWhole) (arg6 : Memref sig .tc .smem S1 .f32) (harg6 : arg6.IsWhole) (arg7 : Memref sig .tc .vmem S1024x4096 .fp8e4m3) (harg7 : arg7.IsWhole) (arg8 : Memref sig .tc .vmem S1x4096 .f32) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (arg12 : Memref sig .tc .vmem S256x1024 .f32) (harg12 : arg12.IsWhole) (arg13 : Memref sig .tc .vmem S256x1024 .fp8e4m3) (harg13 : arg13.IsWhole) (arg14 : Memref sig .tc .vmem S30x128 .f32) (harg14 : arg14.IsWhole)
    (x0 : Vec F S256x4096 .bf16) (x1 : Vec F S256x5376 .fp8e4m3) (x2 : Vec F S2048x128 .f32) (x3 : Vec F S5376x4096 .fp8e4m3) (x4 : Vec F S1 .f32) (x5 : Vec F S1 .f32) (x6 : Vec F S1024x4096 .fp8e4m3) (x7 : Vec F S1x4096 .f32) : Vec F S256x1024 .fp8e4m3 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.2.1)

/-- What the outputs' staging buffers hold after the body at point `t` (as a tuple, in window order): the run's contents at
    the point's memrefs and input blocks. -/
def outsAt0 (c : Dev nD) (t : Fin cfg0.N) : Vec F S256x4096 .bf16 × Vec F S256x4096 .f32 × Vec F S256x4096 .f32 × Vec F S256x1024 .f32 × Vec F S256x1024 .fp8e4m3 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (X0_2 m c t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (X0_2 m c t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (X0_2 m c t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (X0_2 m c t) (iblk m c 3 t) (iblk m c 4 t) (iblk m c 5 t) (iblk m c 6 t) (iblk m c 7 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (X0_2 m c t) (iblk m c 3 t) (iblk m c 4 t) (iblk m c 5 t) (iblk m c 6 t) (iblk m c 7 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t).1
    | ⟨9, _⟩ => (outsAt0 m c t).2.1
    | ⟨10, _⟩ => (outsAt0 m c t).2.2.1
    | ⟨11, _⟩ => (outsAt0 m c t).2.2.2.1
    | ⟨12, _⟩ => (outsAt0 m c t).2.2.2.2
    | ⟨13, _⟩ => Dat.unnamed ⟨13, by decide⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t).1 := by dsimp only [dats]
theorem after0_9 (c : Dev nD) (t : Fin cfg0.N) : (dats m 0 c).after 9 t = (outsAt0 m c t).2.1 := by dsimp only [dats]
theorem after0_10 (c : Dev nD) (t : Fin cfg0.N) : (dats m 0 c).after 10 t = (outsAt0 m c t).2.2.1 := by dsimp only [dats]
theorem after0_11 (c : Dev nD) (t : Fin cfg0.N) : (dats m 0 c).after 11 t = (outsAt0 m c t).2.2.2.1 := by dsimp only [dats]
theorem after0_12 (c : Dev nD) (t : Fin cfg0.N) : (dats m 0 c).after 12 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The two rows of scales that the body leaves at point `t`. -/
def scale13 (c : Dev nD) (t : Fin cfg0.N) : Vec F S2x128 .f32 :=
  k0_pay9 (kernelRun0_A.sl.v16 c (ms0_2 t) (hs0_2 t) (ms0_11 t) (X0_2 m c t))

/-- Where point `t`'s two rows of scales lie in the resident block. -/
abbrev rect13 (t : Fin cfg0.N) : Rect S30x128 := Rect.unit (k0_off1 (grid0.coords t)) ![2, 128] (k0_off1_inb (grid0.coords t))

/-- The resident block of scales after point `t`: the rows of every point up to `t` hold that point's scales. -/
def Held13 (c : Dev nD) (t : Fin cfg0.N) (X : Vec F S30x128 .f32) : Prop :=
  ∀ u : Fin cfg0.N, u.val ≤ t.val → ∀ j : S2x128.Idx, X ((rect13 u).emb j) = scale13 m c u j

/-- The window whose contents are held to a predicate: the scales' resident block. -/
def held0 : Fin 14 → Bool := fun w => w.val == 13

/-- The predicate of each marked window. -/
def Rl0 (c : Dev nD) (w : Fin cfg0.W) (t : Fin cfg0.N) (X : (cfg0.win w).block.Idx → Elt F (cfg0.win w).elt) : Prop :=
  match w, X with
  | ⟨13, _⟩, X => Held13 m c t X
  | _, _ => True

/-- The relational proof data: every window but the scales' block exact, that one held to `Held13`. -/
abbrev rdat (c : Dev nD) : Pipeline.RDat τ (Elt F) Unit ℕ (UR sig nD τ) ℕ cfg0 c := (dats m 0 c).toRRel held0 (Rl0 m c)

/-- What the body finds in the scales' block at a later point: the rows of every earlier point already there. -/
theorem found13 (c : Dev nD) (t : Fin cfg0.N) (Y : Vec F S30x128 .f32) (h : (rdat m c).Finds 13 t Y) :
    ∀ u : Fin cfg0.N, u.val < t.val → ∀ j : S2x128.Idx, Y ((rect13 u).emb j) = scale13 m c u j := by
  intro u hu j
  have ht : t.val ≠ 0 := by omega
  have hf := ((rdat m c).finds_of_pos (w := 13) (t := t) rfl ht Y).mp h
  rcases hf with hf | hf
  · rw [flush0_13] at hf
    have := t.isLt
    have hN : cfg0.N = 15 := rfl
    dsimp only at hf; omega
  · have := Dat.toRRel_leaves (dats m 0 c) (fgt := held0) (Rl := Rl0 m c) rfl hf
    exact this u (by dsimp only; omega) j

/-- Point `t`'s rows are rows `2 t` and `2 t + 1`. -/
theorem off13 : ∀ t : Fin cfg0.N, k0_off1 (grid0.coords t) 0 = 2 * t.val := by decide +kernel

/-- The row of an element of point `u`'s rows. -/
theorem emb13_row (u : Fin cfg0.N) (j : S2x128.Idx) : ((rect13 u).emb j 0).val = 2 * u.val + (j 0).val := by
  show k0_off1 (grid0.coords u) 0 + 1 * (j 0).val = _
  rw [off13 u, Nat.one_mul]

/-- The rows of different points are apart. -/
theorem rect13_apart (t u : Fin cfg0.N) (h : u ≠ t) (j : S2x128.Idx) : (rect13 u).emb j ∉ (rect13 t).set := by
  refine Rect.not_mem_set_of_axis (rect13 t) _ 0 (2 * t.val) 2 (off13 t) rfl rfl ?_
  rw [emb13_row]
  have : u.val ≠ t.val := fun e => h (Fin.ext e)
  have h2 : (j 0).val < 2 := (j 0).isLt
  omega

/-- Rows of the earlier points in place, a store of point `t`'s rows leaves the rows of every point up to `t` in place. -/
theorem rows_step (G : Fin cfg0.N → Vec F S2x128 .f32) (t : Fin cfg0.N) (v : Memref sig .tc .vmem S30x128 .f32) (hv : v.IsWhole)
    (Y : Vec F S30x128 .f32) (h : ∀ u : Fin cfg0.N, u.val < t.val → ∀ j : S2x128.Idx, Y ((rect13 u).emb j) = G u j)
    (u : Fin cfg0.N) (hu : u.val ≤ t.val) (j : S2x128.Idx) :
    v.view.read (Elt F) (v.view.writes (Elt F) (hv.unread Y) [⟨rect13 t, G t⟩]) ((rect13 u).emb j) = G u j := by
  by_cases e : u = t
  · subst e; exact View.read_writes_cons_emb (v := v.view) (f := hv.unread Y) (rect13 u) (G u) [] j
  · refine (View.read_writes_cons_miss (v := v.view) (f := hv.unread Y) ⟨rect13 t, G t⟩ [] ((rect13 u).emb j) (rect13_apart t u e j)).trans ?_
    rw [View.writes_nil, hv.read_unread]
    exact h u (by have : u.val ≠ t.val := fun h => e (Fin.ext h); omega) j

/-- After the store at point `t`, over a block with the rows of the earlier points. -/
theorem held13_step (c : Dev nD) (t : Fin cfg0.N) (v : Memref sig .tc .vmem S30x128 .f32) (hv : v.IsWhole) (Y : Vec F S30x128 .f32)
    (h : (rdat m c).Finds 13 t Y) :
    Held13 m c t (v.view.read (Elt F) (v.view.writes (Elt F) (hv.unread Y) [⟨rect13 t, scale13 m c t⟩])) :=
  fun u hu j => rows_step (scale13 m c) t v hv Y (found13 m c t Y h) u hu j

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ Y, ⌜(rdat m c).Finds 13 t Y⌝ ∗ owns (c : Thread nD τ) (ms0_13 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ X, ⌜Rl0 m c 13 t X⌝ ∗ owns (c : Thread nD τ) (ms0_13 t) fullShare X))

set_option maxHeartbeats 1200000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  unfold outsAt0
  unfold out0_A_8 out0_A_9 out0_A_10 out0_A_11 out0_A_12; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%Y13, %hY13, H13⟩⟩
  iapply ((kernelRun0_A c (grid0.coords t) _ _ _ _ _ _ _ _ _ _ _ _ _ _ _ _ _ _ _ _ _ _ _ _ _ _ _ _ (iblk m c 0 t) (iblk m c 1 t) (X0_2 m c t) (iblk m c 3 t) (iblk m c 4 t) (iblk m c 5 t) (iblk m c 6 t) (iblk m c 7 t)).2.2.2.2.2.2 Y13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  iintro ⟨H0, H1, H2, H3, H4, H5, H6, H7, ⟨%e8, H8⟩, ⟨%e9, H9⟩, ⟨%e10, H10⟩, ⟨%e11, H11⟩, ⟨%e12, H12⟩, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _)
  iexists ((ms0_13 t).view.read (Elt F) ((ms0_13 t).view.writes (Elt F) ((hs0_13 t).unread Y13) [⟨rect13 t, scale13 m c t⟩])); isplitr
  · ipureintro; exact held13_step m c t (ms0_13 t) (hs0_13 t) Y13 hY13
  unfold owns; iexists _; isplitr
  swap; · iexact H13
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : Pipeline.BodyObligationRel (dats (F := F) m 0 c) (defs₀ (F := F)) Variants.none () Set.univ held0 (Rl0 m c) := fun t => by
  have h0 : iprop((dats m 0 c).Φ t.castSucc ∗ (dats m 0 c).owesAt () t.castSucc
        ∗ bigSep Finset.univ fun w : Fin cfg0.W =>
            match held0 w with
            | true => iprop(∃ Y, ⌜(rdat m c).Finds w t Y⌝ ∗ owns c ((cfg0.win w).stage (cfg0.slots t w)) fullShare Y)
            | false => iprop(∃ d, owns c ((cfg0.win w).stage (cfg0.slots t w)) fullShare ((dats m 0 c).before w t d)))
      ⊢ wp frame (wpE defs₀ Variants.none c none) Set.univ (defs₀ (F := F) .tc cfg0.body (cfg0.bodyArgs t (cfg0.slots t))) fun _ =>
          iprop((dats m 0 c).Φ t.succ ∗ (dats m 0 c).owesAt () t.succ
            ∗ bigSep Finset.univ fun w : Fin cfg0.W =>
                match held0 w with
                | true => iprop(∃ X, ⌜Rl0 m c w t X⌝ ∗ owns c ((cfg0.win w).stage (cfg0.slots t w)) fullShare X)
                | false => (dats m 0 c).leavesExact w t) := by
    rw [bigSep_W0, bigSep_W0, defs₀_row]
    exact triple_restated (sound_body m c t) rfl .rfl fun _ => .rfl
  refine h0.trans (wp_mono _ _ _ fun _ => sep_mono .rfl (sep_mono .rfl (Idealize.SL.BI.bigSep_mono fun w _ => ?_)))
  show (match held0 w with
      | true => iprop(∃ X, ⌜Rl0 m c w t X⌝ ∗ owns c ((cfg0.win w).stage (cfg0.slots t w)) fullShare X)
      | false => (dats m 0 c).leavesExact w t : sProp 𝕄)
    ⊢ (match held0 w with
      | true => iprop(∃ X, ⌜Rl0 m c w t X⌝ ∗ owns c ((cfg0.win w).stage (cfg0.slots t w)) fullShare X)
      | false => (dats m 0 c).leaves w t : sProp 𝕄)
  cases held0 w
  · exact (dats m 0 c).leaves_intro w t
  · exact .rfl

/-! ## The run and the frame -/

set_option backward.isDefEq.respectTransparency.types false in
/-- The launch: every array of the pipeline ends as the relational proof data allows, and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The frame: every argument array ends as it was launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨h.1.arr_in c 0 rfl, h.1.arr_in c 1 rfl, h.1.arr_in c 2 rfl, h.1.arr_in c 3 rfl,
    h.1.arr_in c 4 rfl, h.1.arr_in c 5 rfl, h.1.arr_in c 6 rfl, h.1.arr_in c 7 rfl⟩, h.2⟩) (run_main_quiescent m ρ)

end Cert.BackIdeal.Hand

end
-- ==== Proof.BackForms.lean ====
module

public import Idealize.ShloMosaic.Lib.Pipeline.Value
public import Idealize.ShloMosaic.Lib.MatmulPlain
public import Idealize.ShloMosaic.Lib.ValueIdx
public import Idealize.ShloMosaic.PureOps.Ideal.Laws
public import Idealize.ShloMosaic.Lib.WholeRead
public import Idealize.ShloMosaic.Lib.Writes

/-!
The mathematics of the last stage, element by element, at the extended reals: a row's quantiser (scale and codes), the
two products and the sum. The kernel's blocks and the reference's whole arrays are both read off as these functions.
-/

@[expose] public section

noncomputable section

namespace Cert.BackForms

open Idealize.ShloMosaic Idealize.ShloMosaic.ValueIdx
open scoped BigOperators

/-- A rank-2 shape. -/
abbrev Mat (a b : ℕ) : Shape := ⟨2, ![a, b]⟩

/-- A row's largest absolute value. -/
def rowMax {K : ℕ} (row : Fin K → EReal) : EReal :=
  (Finset.univ : Finset (Fin K)).fold max (FloatOps.ofBits (F := Ideal) .f32 0xFF800000#32)
    (fun k => FloatOps.absf (F := Ideal) (φ := .f32) (row k))

/-- A row's scale: the largest absolute value over 448, and 1 where that value is 0. -/
def scaleOf {K : ℕ} (row : Fin K → EReal) : EReal :=
  Scalar.select (α := Ideal .f32) (Scalar.cmpf (F := Ideal) (φ := .f32) .oeq (rowMax row) (Scalar.ofBits .f32 0x00000000#32))
    (Scalar.ofBits .f32 0x3F800000#32) (Scalar.divf (F := Ideal) (φ := .f32) (rowMax row) (Scalar.ofBits .f32 0x43E00000#32))

/-- A row's code: the element over the scale, clipped to ±448. -/
def codeOf {K : ℕ} (row : Fin K → EReal) (k : Fin K) : EReal :=
  Scalar.minimumf (F := Ideal) (φ := .f32) (Scalar.ofBits .f32 0x43E00000#32)
    (Scalar.maximumf (F := Ideal) (φ := .f32) (Scalar.ofBits .f32 0xC3E00000#32) (Scalar.divf (F := Ideal) (φ := .f32) (row k) (scaleOf row)))

/-- The product of a row and a column. -/
def prod {K : ℕ} (a b : Fin K → EReal) : EReal := Ideal.ofBits .f32 0x00000000#32 + ∑ k, a k * b k

/-- The shared expert's element: the product times the two tensors' scales. -/
def sharedOf {K : ℕ} (hs w : Fin K → EReal) (sh sw : EReal) : EReal := prod hs w * (sh * sw)

/-- The up projection's element: the codes' product times the row's scale and the column's. -/
def upOf {K : ℕ} (row w : Fin K → EReal) (sw : EReal) : EReal := prod (codeOf row) w * scaleOf row * sw

/-- The kernel's product read at (r, c). -/
theorem matmul_ix2 {M K N : ℕ} {φ₁ φ₂ : FTy} (D : DotDims (Mat M K) (Mat K N) (Mat M N)) (hD : D = DotDims.plain M K N)
    (lhs : FVec Ideal (Mat M K) φ₁) (rhs : FVec Ideal (Mat K N) φ₂) (r : Fin M) (c : Fin N) :
    matmul D none lhs rhs (constant (Mat M N) .f32 0x00000000#32) (ix2 r c)
      = prod (fun k => lhs (ix2 r k)) (fun k => rhs (ix2 k c)) := by
  subst hD
  exact Ideal.matmul_plain_apply none lhs rhs (constant (Mat M N) .f32 0x00000000#32) r c

/-- A column of row values spread along the rows, read at (r, c). -/
theorem broadcastTo_col {α : Type} {M N : ℕ} (hN : N ≠ 1) (x : (Mat M 1).Idx → α) (h : (Mat M 1).Broadcasts (Mat M N)) (hM : M ≠ 1)
    (r : Fin M) (c : Fin N) : broadcastTo (Mat M N) x h (ix2 r c) = x (ix2 r 0) := by
  apply broadcastTo_apply
  intro a
  match a with
  | ⟨0, _⟩ => exact (if_neg hM).symm
  | ⟨1, _⟩ => rfl

/-- One row spread down the rows, read at (r, c). -/
theorem broadcastTo_row {α : Type} {M N : ℕ} (hN : N ≠ 1) (x : (Mat 1 N).Idx → α) (h : (Mat 1 N).Broadcasts (Mat M N))
    (r : Fin M) (c : Fin N) : broadcastTo (Mat M N) x h (ix2 r c) = x (ix2 0 c) := by
  apply broadcastTo_apply
  intro a
  match a with
  | ⟨0, _⟩ => rfl
  | ⟨1, _⟩ => exact (if_neg hN).symm

/-- A row's maximum as the kernels take it, as a column. -/
theorem rowMax_apply {M K : ℕ} (v : FVec Ideal (Mat M K) .f32) (hr : (Mat M K).Reduces [1] ⟨1, ![M]⟩)
    (hc : (⟨1, ![M]⟩ : Shape).ShapeCasts (Mat M 1)) (r : Fin M) :
    shapeCast (Mat M 1) (multiReduction .maximumf [1] ⟨1, ![M]⟩ (absf v) 0xFF800000#32 hr (.inl rfl) rfl) hc (ix2 r 0)
      = rowMax (fun k => v (ix2 r k)) := by
  rw [shapeCast_apply _ hc (ix2 r 0) (ix1 r) (by
    rw [Shape.rowMajor_val_one, Shape.rowMajor_val_two]
    show r.val = r.val * 1 + 0
    omega)]
  refine (Ideal.multiReduction_maximumf_single (s := Mat M K) (t := ⟨1, ![M]⟩) (a := (1 : Fin 2)) (absf v) 0xFF800000#32 hr (.inl rfl) rfl (ix1 r)).trans ?_
  refine congrArg (fun f => Finset.fold max _ f _) (funext fun k => ?_)
  show FloatOps.absf (v (hr.lift (ix1 r) k)) = _
  refine congrArg (fun i => FloatOps.absf (v i)) (funext fun a => Fin.ext ?_)
  match a with
  | ⟨0, _⟩ => rfl
  | ⟨1, _⟩ => rfl

/-- The scale column as the kernels write it. -/
theorem scaleCol_apply {M K : ℕ} (v : FVec Ideal (Mat M K) .f32) (hr : (Mat M K).Reduces [1] ⟨1, ![M]⟩)
    (hc : (⟨1, ![M]⟩ : Shape).ShapeCasts (Mat M 1)) (r : Fin M) :
    select (cmpf .oeq (shapeCast (Mat M 1) (multiReduction .maximumf [1] ⟨1, ![M]⟩ (absf v) 0xFF800000#32 hr (.inl rfl) rfl) hc)
        (broadcast (Mat M 1) (Scalar.ofBits .f32 0x00000000#32)))
      (broadcast (Mat M 1) (Scalar.ofBits .f32 0x3F800000#32))
      (divf (shapeCast (Mat M 1) (multiReduction .maximumf [1] ⟨1, ![M]⟩ (absf v) 0xFF800000#32 hr (.inl rfl) rfl) hc)
        (broadcast (Mat M 1) (Scalar.ofBits .f32 0x43E00000#32))) (ix2 r 0) = scaleOf (fun k => v (ix2 r k)) := by
  have e := rowMax_apply v hr hc r
  generalize shapeCast (Mat M 1) (multiReduction .maximumf [1] ⟨1, ![M]⟩ (absf v) 0xFF800000#32 hr (.inl rfl) rfl) hc = a at e ⊢
  show Scalar.select (Scalar.cmpf .oeq (a (ix2 r 0)) _) _ (Scalar.divf (a (ix2 r 0)) _) = _
  rw [e]
  rfl

/-- The codes as the kernels write them. -/
theorem codes_apply {M K : ℕ} (hM : M ≠ 1) (hK : K ≠ 1) (v : FVec Ideal (Mat M K) .f32) (s : FVec Ideal (Mat M 1) .f32)
    (hb : (Mat M 1).Broadcasts (Mat M K)) (hw : FTy.fp8e4m3.bits < FTy.f32.bits) (r : Fin M) (hs : s (ix2 r 0) = scaleOf (fun k => v (ix2 r k))) (k : Fin K) :
    truncf .fp8e4m3 (minimumf (broadcast (Mat M K) (Scalar.ofBits (F := Ideal) .f32 0x43E00000#32))
      (maximumf (broadcast (Mat M K) (Scalar.ofBits .f32 0xC3E00000#32)) (divf v (broadcastTo (Mat M K) s hb)))) hw (ix2 r k)
      = codeOf (fun k => v (ix2 r k)) k := by
  have e := broadcastTo_col hK s hb hM r k
  generalize broadcastTo (Mat M K) s hb = a at e ⊢
  show Scalar.minimumf _ (Scalar.maximumf _ (Scalar.divf (v (ix2 r k)) (a (ix2 r k)))) = _
  rw [e, hs]
  rfl

/-- The shared product as the kernels write it. -/
theorem shared_apply {M K N : ℕ} {φ₁ φ₂ : FTy} (D : DotDims (Mat M K) (Mat K N) (Mat M N)) (hD : D = DotDims.plain M K N)
    (lhs : FVec Ideal (Mat M K) φ₁) (rhs : FVec Ideal (Mat K N) φ₂) (s : Ideal .f32) (r : Fin M) (c : Fin N) :
    mulf (matmul D none lhs rhs (constant (Mat M N) .f32 0x00000000#32)) (broadcast (Mat M N) s) (ix2 r c)
      = prod (fun k => lhs (ix2 r k)) (fun k => rhs (ix2 k c)) * s :=
  congrArg (· * s) (matmul_ix2 D hD lhs rhs r c)

/-- The up projection as the kernels write it. -/
theorem up_apply {M K N : ℕ} {φ₁ φ₂ : FTy} (hM : M ≠ 1) (hN : N ≠ 1) (D : DotDims (Mat M K) (Mat K N) (Mat M N)) (hD : D = DotDims.plain M K N)
    (lhs : FVec Ideal (Mat M K) φ₁) (rhs : FVec Ideal (Mat K N) φ₂) (s : FVec Ideal (Mat M 1) .f32) (w : FVec Ideal (Mat 1 N) .f32)
    (hb : (Mat M 1).Broadcasts (Mat M N)) (hb' : (Mat 1 N).Broadcasts (Mat M N)) (r : Fin M) (c : Fin N) :
    mulf (mulf (matmul D none lhs rhs (constant (Mat M N) .f32 0x00000000#32)) (broadcastTo (Mat M N) s hb)) (broadcastTo (Mat M N) w hb') (ix2 r c)
      = prod (fun k => lhs (ix2 r k)) (fun k => rhs (ix2 k c)) * s (ix2 r 0) * w (ix2 0 c) := by
  have e := broadcastTo_col hN s hb hM r c
  have e' := broadcastTo_row hN w hb' r c
  have em := matmul_ix2 D hD lhs rhs r c
  generalize broadcastTo (Mat M N) s hb = a at e ⊢
  generalize broadcastTo (Mat M N) w hb' = b at e' ⊢
  generalize matmul D none lhs rhs (constant (Mat M N) .f32 0x00000000#32) = p at em ⊢
  show p (ix2 r c) * a (ix2 r c) * b (ix2 r c) = _
  rw [e, e', em]

/-- Row r of an array laid out as eight rows of 128 to each row of 1024. -/
def tileRow {T : ℕ} (X : (Mat T 128).Idx → EReal) (b : ℕ) (hb : 8 * b + 8 ≤ T) : Fin 1024 → EReal :=
  fun k => X (ix2 ⟨8 * b + k.val / 128, by have := k.isLt; omega⟩ ⟨k.val % 128, Nat.mod_lt _ (by decide)⟩)

/-- Row r of c, from the array of eight rows of 128 to each token. -/
def cRow (A2 : (Mat 30728 128).Idx → EReal) (r : Fin 3840) : Fin 1024 → EReal := tileRow A2 r.val (by have := r.isLt; omega)

/-- The shared expert's output. -/
def W9 (A1 : (Mat 3840 5376).Idx → EReal) (A3 : (Mat 5376 4096).Idx → EReal) (A4 A5 : (⟨1, ![1]⟩ : Shape).Idx → EReal) : (Mat 3840 4096).Idx → EReal :=
  fun j => sharedOf (fun k => A1 (ix2 (j 0) k)) (fun k => A3 (ix2 k (j 1))) (A5 (ix1 0)) (A4 (ix1 0))

/-- The up projection. -/
def W10 (A2 : (Mat 30728 128).Idx → EReal) (A6 : (Mat 1024 4096).Idx → EReal) (A7 : (Mat 1 4096).Idx → EReal) : (Mat 3840 4096).Idx → EReal :=
  fun j => upOf (cRow A2 (j 0)) (fun k => A6 (ix2 k (j 1))) (A7 (ix2 0 (j 1)))

/-- The layer's result. -/
def W8 (A0 : (Mat 3840 4096).Idx → EReal) (A1 : (Mat 3840 5376).Idx → EReal) (A2 : (Mat 30728 128).Idx → EReal) (A3 : (Mat 5376 4096).Idx → EReal)
    (A4 A5 : (⟨1, ![1]⟩ : Shape).Idx → EReal) (A6 : (Mat 1024 4096).Idx → EReal) (A7 : (Mat 1 4096).Idx → EReal) : (Mat 3840 4096).Idx → EReal :=
  fun j => A0 j + W9 A1 A3 A4 A5 j + W10 A2 A6 A7 j

/-- The routed experts' output c. -/
def W11 (A2 : (Mat 30728 128).Idx → EReal) : (Mat 3840 1024).Idx → EReal := fun j => cRow A2 (j 0) (j 1)

/-- The codes of c. -/
def W12 (A2 : (Mat 30728 128).Idx → EReal) : (Mat 3840 1024).Idx → EReal := fun j => codeOf (cRow A2 (j 0)) (j 1)

/-- The scales of c, 128 to a row. -/
def W13 (A2 : (Mat 30728 128).Idx → EReal) : (Mat 30 128).Idx → EReal :=
  fun j => scaleOf (cRow A2 ⟨128 * (j 0).val + (j 1).val, by have := idx2_lt0 j; have := idx2_lt1 j; omega⟩)

end Cert.BackForms

end
-- ==== Proof.BackValue.lean ====
module

public import proofs.«01_k».proof.Proof.BackFrame
public import proofs.«01_k».proof.Proof.BackForms
public import Idealize.ShloMosaic.Lib.VecWindow

/-!
What one grid point of the last stage's kernel leaves in its output blocks, element by element, as the functions of
BackForms of the input blocks.
-/

@[expose] public section

set_option maxRecDepth 16384

noncomputable section

namespace Cert.BackIdeal.Hand

open Cert.BackIdeal Cert.BackIdeal.Gen Cert.BackForms Idealize.ShloMosaic Idealize.ShloMosaic.ValueIdx Idealize.ShloMosaic.Tactic
open scoped BigOperators

variable (c : Dev nD) (i : grid0.Coords)
  (arg1 : Memref sig .tc .vmem S256x4096 .bf16) (harg1 : arg1.IsWhole)
  (arg2 : Memref sig .tc .vmem S256x5376 .fp8e4m3) (harg2 : arg2.IsWhole)
  (arg3 : Memref sig .tc .vmem S2048x128 .f32) (harg3 : arg3.IsWhole)
  (arg4 : Memref sig .tc .vmem S5376x4096 .fp8e4m3) (harg4 : arg4.IsWhole)
  (arg5 : Memref sig .tc .smem S1 .f32) (harg5 : arg5.IsWhole)
  (arg6 : Memref sig .tc .smem S1 .f32) (harg6 : arg6.IsWhole)
  (arg7 : Memref sig .tc .vmem S1024x4096 .fp8e4m3) (harg7 : arg7.IsWhole)
  (arg8 : Memref sig .tc .vmem S1x4096 .f32) (harg8 : arg8.IsWhole)
  (arg9 : Memref sig .tc .vmem S256x4096 .bf16) (harg9 : arg9.IsWhole)
  (arg10 : Memref sig .tc .vmem S256x4096 .f32) (harg10 : arg10.IsWhole)
  (arg11 : Memref sig .tc .vmem S256x4096 .f32) (harg11 : arg11.IsWhole)
  (arg12 : Memref sig .tc .vmem S256x1024 .f32) (harg12 : arg12.IsWhole)
  (arg13 : Memref sig .tc .vmem S256x1024 .fp8e4m3) (harg13 : arg13.IsWhole)
  (arg14 : Memref sig .tc .vmem S30x128 .f32) (harg14 : arg14.IsWhole)
  (x0 : Vec Ideal S256x4096 .bf16)
  (x1 : Vec Ideal S256x5376 .fp8e4m3)
  (x2 : Vec Ideal S2048x128 .f32)
  (x3 : Vec Ideal S5376x4096 .fp8e4m3)
  (x4 : Vec Ideal S1 .f32)
  (x5 : Vec Ideal S1 .f32)
  (x6 : Vec Ideal S1024x4096 .fp8e4m3)
  (x7 : Vec Ideal S1x4096 .f32)

/-- The rows of the tiles of one block, put together. -/
def crow (x2 : Vec Ideal S2048x128 .f32) (r : Fin 256) : Fin 1024 → EReal := tileRow x2 r.val (by have := r.isLt; omega)

/-- The block's scale. -/
def GS (x2 : Vec Ideal S2048x128 .f32) (r : Fin 256) : EReal := scaleOf (crow x2 r)

/-- The block's shared part. -/
def G9 (x1 : Vec Ideal S256x5376 .fp8e4m3) (x3 : Vec Ideal S5376x4096 .fp8e4m3) (x4 x5 : Vec Ideal S1 .f32) : Vec Ideal S256x4096 .f32 :=
  fun j => sharedOf (fun k => x1 (ix2 (j 0) k)) (fun k => x3 (ix2 k (j 1))) (x5 (ix1 0)) (x4 (ix1 0))

/-- The block's up projection. -/
def G10 (x2 : Vec Ideal S2048x128 .f32) (x6 : Vec Ideal S1024x4096 .fp8e4m3) (x7 : Vec Ideal S1x4096 .f32) : Vec Ideal S256x4096 .f32 :=
  fun j => upOf (crow x2 (j 0)) (fun k => x6 (ix2 k (j 1))) (x7 (ix2 0 (j 1)))

/-- The block's sum. -/
def G8 (x0 : Vec Ideal S256x4096 .bf16) (x1 : Vec Ideal S256x5376 .fp8e4m3) (x2 : Vec Ideal S2048x128 .f32) (x3 : Vec Ideal S5376x4096 .fp8e4m3)
    (x4 x5 : Vec Ideal S1 .f32) (x6 : Vec Ideal S1024x4096 .fp8e4m3) (x7 : Vec Ideal S1x4096 .f32) : Vec Ideal S256x4096 .bf16 :=
  fun j => x0 j + G9 x1 x3 x4 x5 j + G10 x2 x6 x7 j

/-- The block's rows of c. -/
def G11 (x2 : Vec Ideal S2048x128 .f32) : Vec Ideal S256x1024 .f32 := fun j => crow x2 (j 0) (j 1)

/-- The block's codes. -/
def G12 (x2 : Vec Ideal S2048x128 .f32) : Vec Ideal S256x1024 .fp8e4m3 := fun j => codeOf (crow x2 (j 0)) (j 1)

/-- A unit-stride rectangle's index, by its coordinates. -/
theorem unit_idx {a b p q o l : ℕ} (inb : ∀ d, (![o, l] : Fin 2 → ℕ) d + (![p, q] : Fin 2 → ℕ) d ≤ (Mat a b).size d) (x : Fin p) (y : Fin q)
    (u : Fin a) (v : Fin b) (hu : u.val = o + x.val) (hv : v.val = l + y.val) :
    (Rect.unit (s := Mat a b) ![o, l] ![p, q] inb).toLoadRect.idx (ix2 x y) = ix2 u v := by
  funext d
  apply Fin.ext
  match d with
  | ⟨0, _⟩ => show o + 1 * x.val = u.val; omega
  | ⟨1, _⟩ => show l + 1 * y.val = v.val; omega

/-- A strided load's index, by its coordinates. -/
theorem strided_idx {a b p q o : ℕ} (inb) (x : Fin p) (y : Fin q) (u : Fin a) (v : Fin b) (hu : u.val = o + 8 * x.val) (hv : v.val = y.val) :
    (⟨![o, 0], ![p, q], ![8, 1], inb⟩ : LoadRect (Mat a b)).idx (ix2 x y) = ix2 u v := by
  funext d
  apply Fin.ext
  match d with
  | ⟨0, _⟩ => show o + 8 * x.val = u.val; omega
  | ⟨1, _⟩ => show 0 + 1 * y.val = v.val; omega

/-- One of the eight stores of the tiles' rows. -/
theorem tile_piece (o : ℕ) (ho : o < 8) (inb) (inb') (x : S256x128.Idx) :
    View.readAt (Elt Ideal) arg3.view (⟨![o, 0], S256x128.size, ![8, 1], inb⟩ : LoadRect S2048x128) (harg3.unread x2) x
      = G11 x2 ((Rect.unit (s := S256x1024) ![0, 128 * o] S256x128.size inb').emb x) := by
  obtain ⟨r, l, rfl⟩ : ∃ (r : Fin 256) (l : Fin 128), x = ix2 r l := ⟨x 0, x 1, eq_ix2 x⟩
  have hr := r.isLt
  have hl := l.isLt
  refine (harg3.readAt_unread x2 _ _).trans ?_
  refine (congrArg x2 (strided_idx (a := 2048) (b := 128) (p := 256) (q := 128) inb r l ⟨8 * r.val + o, by omega⟩ l (by show 8 * r.val + o = _; omega) rfl)).trans ?_
  refine Eq.trans ?_ (congrArg (G11 x2) (unit_idx (a := 256) (b := 1024) inb' r l r ⟨128 * o + l.val, by omega⟩ (by omega) rfl)).symm
  unfold G11 crow tileRow
  refine congrArg x2 (funext fun d => Fin.ext ?_)
  match d with
  | ⟨0, _⟩ => show 8 * r.val + o = 8 * r.val + (128 * o + l.val) / 128; omega
  | ⟨1, _⟩ => show l.val = (128 * o + l.val) % 128; omega

/-- The stores of the tiles' rows all agree with the block's rows. -/
theorem H11_pieces : ∀ p ∈ kernelRun0_A.sl.H11_8 (F := Ideal) c arg3 harg3 x2, ∀ x : p.1.shape.Idx, p.2 x = G11 x2 (p.1.emb x) := by
  intro p hp
  unfold kernelRun0_A.sl.H11_8 at hp
  simp only [List.mem_cons, List.not_mem_nil, or_false] at hp
  rcases hp with rfl | rfl | rfl | rfl | rfl | rfl | rfl | rfl <;> intro x
  · exact tile_piece arg3 harg3 x2 7 (by omega) _ inb_S256x1024_S256x128_0_896 x
  · exact tile_piece arg3 harg3 x2 6 (by omega) _ inb_S256x1024_S256x128_0_768 x
  · exact tile_piece arg3 harg3 x2 5 (by omega) _ inb_S256x1024_S256x128_0_640 x
  · exact tile_piece arg3 harg3 x2 4 (by omega) _ inb_S256x1024_S256x128_0_512 x
  · exact tile_piece arg3 harg3 x2 3 (by omega) _ inb_S256x1024_S256x128_0_384 x
  · exact tile_piece arg3 harg3 x2 2 (by omega) _ inb_S256x1024_S256x128_0_256 x
  · exact tile_piece arg3 harg3 x2 1 (by omega) _ inb_S256x1024_S256x128_0_128 x
  · exact tile_piece arg3 harg3 x2 0 (by omega) _ inb_S256x1024_S256x128_0_0 x

/-- They cover the block. -/
theorem H11_cover (y : S256x1024.Idx) : ∃ p ∈ kernelRun0_A.sl.H11_8 (F := Ideal) c arg3 harg3 x2, y ∈ p.1.set :=
  View.cover_of_tiledL (kernelRun0_A.sl.H11_8 (F := Ideal) c arg3 harg3 x2) S256x128.size (by sl_kernel_rfl) y

/-- The rows read back from the block of c. -/
theorem v16_apply : kernelRun0_A.sl.v16 (F := Ideal) c arg3 harg3 arg12 x2 = G11 x2 := by
  funext y
  refine Eq.trans ?_ (View.read_writes_apply_of_pieces (v := arg12.view) (f := arg12.view.junk) (G11 x2) _ (H11_pieces c arg3 harg3 x2) y (H11_cover c arg3 harg3 x2 y))
  exact congrArg (arg12.view.read (Elt Ideal) (arg12.view.writes (Elt Ideal) arg12.view.junk (kernelRun0_A.sl.H11_8 c arg3 harg3 x2)))
    (Rect.emb_unit_full inb_S256x1024_S256x1024_0_0 y)

/-- The block's scale column. -/
theorem pay6_apply (v : Vec Ideal S256x1024 .f32) (r : Fin 256) : k0_pay6 v (ix2 r 0) = scaleOf (fun k => v (ix2 r k)) := by
  have e5 : k0_pay5 (F := Ideal) v = v := shapeCast_self v _
  unfold k0_pay6
  rw [e5]
  exact scaleCol_apply (M := 256) (K := 1024) v reduces_S256x1024_S256 shapeCasts_S256_S256x1 r

/-- The block's codes. -/
theorem pay7_apply (v : Vec Ideal S256x1024 .f32) (r : Fin 256) (k : Fin 1024) : k0_pay7 v (ix2 r k) = codeOf (fun k => v (ix2 r k)) k := by
  have e5 : k0_pay5 (F := Ideal) v = v := shapeCast_self v _
  unfold k0_pay7
  rw [e5]
  exact codes_apply (M := 256) (K := 1024) (by omega) (by omega) v (k0_pay6 v) broadcasts_S256x1_S256x1024 bitsLt_fp8e4m3_f32 r (pay6_apply v r) k

/-- The scale column the up products read. -/
theorem r2_apply (r : Fin 256) : kernelRun0_A.sl.r_2 (F := Ideal) c arg3 harg3 arg12 x2 (ix2 r 0) = GS x2 r := by
  unfold kernelRun0_A.sl.r_2
  rw [v16_apply]
  exact pay6_apply (G11 x2) r

/-- The codes' one store. -/
theorem v35_apply : kernelRun0_A.sl.v35 (F := Ideal) c arg3 harg3 arg12 arg13 x2 = G12 x2 := by
  unfold kernelRun0_A.sl.v35 kernelRun0_A.sl.H12_1
  refine (View.readCov_full arg13.view inb_S256x1024_S256x1024_0_0 inb_S256x1024_S256x1024_0_0 _ []).trans ?_
  rw [v16_apply]
  funext y
  obtain ⟨r, l, rfl⟩ : ∃ (r : Fin 256) (l : Fin 1024), y = ix2 r l := ⟨y 0, y 1, eq_ix2 y⟩
  exact pay7_apply (G11 x2) r l

/-- The codes the up products read. -/
theorem r3_apply : kernelRun0_A.sl.r_3 (F := Ideal) c arg3 harg3 arg12 arg13 x2 = G12 x2 := by
  unfold kernelRun0_A.sl.r_3
  rw [v35_apply]
  exact shapeCast_self _ _

/-- The rows of hs_codes the shared products read. -/
theorem r4_apply : kernelRun0_A.sl.r_4 (F := Ideal) c arg2 harg2 x1 = x1 := by
  funext y
  exact (harg2.readAt_unread x1 _ _).trans (congrArg x1 (Rect.emb_unit_full inb_S256x5376_S256x5376_0_0 y))

/-- The first tensor's scale. -/
theorem r_apply : kernelRun0_A.sl.r (F := Ideal) c arg6 harg6 x5 = x5 (ix1 0) :=
  (harg6.readAt_unread x5 _ _).trans (congrArg x5 (funext fun d => by
    match d with | ⟨0, _⟩ => rfl))

/-- The second tensor's scale. -/
theorem r1_apply : kernelRun0_A.sl.r_1 (F := Ideal) c arg5 harg5 x4 = x4 (ix1 0) :=
  (harg5.readAt_unread x4 _ _).trans (congrArg x4 (funext fun d => by
    match d with | ⟨0, _⟩ => rfl))

/-- Their product. -/
theorem r5_apply : kernelRun0_A.sl.r_5 (F := Ideal) c arg5 harg5 arg6 harg6 x4 x5 = (x5 (ix1 0) * x4 (ix1 0) : EReal) := by
  unfold kernelRun0_A.sl.r_5
  rw [r_apply, r1_apply]
  rfl

/-- One chunk of the shared part. -/
theorem sh_chunk (o : ℕ) (ho : o + 512 ≤ 4096) (a : Vec Ideal S256x5376 .fp8e4m3) (ha : a = x1) (s : Ideal .f32) (hs : s = (x5 (ix1 0) * x4 (ix1 0) : EReal)) (inb) (inb') (x : S256x512.Idx) :
    k0_pay2 (F := Ideal) a s (View.readAt (Elt Ideal) arg4.view (Rect.unit (s := S5376x4096) ![0, o] S5376x512.size inb).toLoadRect (harg4.unread x3)) x
      = G9 x1 x3 x4 x5 ((Rect.unit (s := S256x4096) ![0, o] S256x512.size inb').emb x) := by
  obtain ⟨r, l, rfl⟩ : ∃ (r : Fin 256) (l : Fin 512), x = ix2 r l := ⟨x 0, x 1, eq_ix2 x⟩
  have hl := l.isLt
  subst hs
  subst ha
  refine Eq.trans ?_ (congrArg (G9 a x3 x4 x5) (unit_idx (a := 256) (b := 4096) inb' r l r ⟨o + l.val, by omega⟩ (by omega) rfl)).symm
  refine (shared_apply (M := 256) (K := 5376) (N := 512) dot_S256x5376_S5376x512_S256x512_1_0_0_1_n_n rfl a _ _ r l).trans ?_
  refine congrArg (fun f => prod (fun k => a (ix2 r k)) f * (x5 (ix1 0) * x4 (ix1 0) : EReal)) (funext fun k => ?_)
  exact (harg4.readAt_unread x3 _ _).trans (congrArg x3 (unit_idx (a := 5376) (b := 4096) inb k l k ⟨o + l.val, by omega⟩ (by omega) rfl))

/-- One chunk of the up projection. -/
theorem up_chunk (o : ℕ) (ho : o + 512 ≤ 4096) (cd : Vec Ideal S256x1024 .fp8e4m3) (hcd : cd = G12 x2) (s : FVec Ideal S256x1 .f32) (hs : ∀ r, s (ix2 r 0) = GS x2 r) (inb) (inbw) (inb') (x : S256x512.Idx) :
    k0_pay3 (F := Ideal) s cd (View.readAt (Elt Ideal) arg7.view (Rect.unit (s := S1024x4096) ![0, o] S1024x512.size inb).toLoadRect (harg7.unread x6))
        (View.readAt (Elt Ideal) arg8.view (Rect.unit (s := S1x4096) ![0, o] S1x512.size inbw).toLoadRect (harg8.unread x7)) x
      = G10 x2 x6 x7 ((Rect.unit (s := S256x4096) ![0, o] S256x512.size inb').emb x) := by
  obtain ⟨r, l, rfl⟩ : ∃ (r : Fin 256) (l : Fin 512), x = ix2 r l := ⟨x 0, x 1, eq_ix2 x⟩
  have hl := l.isLt
  subst hcd
  refine Eq.trans ?_ (congrArg (G10 x2 x6 x7) (unit_idx (a := 256) (b := 4096) inb' r l r ⟨o + l.val, by omega⟩ (by omega) rfl)).symm
  refine (up_apply (M := 256) (K := 1024) (N := 512) (by omega) (by omega) dot_S256x1024_S1024x512_S256x512_1_0_0_1_n_n rfl (G12 x2) _ s _
    broadcasts_S256x1_S256x512 broadcasts_S1x512_S256x512 r l).trans ?_
  rw [hs r]
  have e1 : (fun k : Fin 1024 => View.readAt (Elt Ideal) arg7.view (Rect.unit (s := S1024x4096) ![0, o] S1024x512.size inb).toLoadRect (harg7.unread x6) (ix2 k l))
      = fun k => x6 (ix2 k ⟨o + l.val, by omega⟩) := funext fun k =>
    (harg7.readAt_unread x6 _ _).trans (congrArg x6 (unit_idx (a := 1024) (b := 4096) inb k l k ⟨o + l.val, by omega⟩ (by omega) rfl))
  have e2 : View.readAt (Elt Ideal) arg8.view (Rect.unit (s := S1x4096) ![0, o] S1x512.size inbw).toLoadRect (harg8.unread x7) (ix2 0 l)
      = x7 (ix2 0 ⟨o + l.val, by omega⟩) :=
    (harg8.readAt_unread x7 _ _).trans (congrArg x7 (unit_idx (a := 1) (b := 4096) inbw 0 l 0 ⟨o + l.val, by omega⟩ rfl rfl))
  exact congr (congrArg (fun f a => prod _ f * GS x2 r * a) e1) e2

/-- One chunk of the sum. -/
theorem y_chunk (o : ℕ) (ho : o + 512 ≤ 4096) (inb) (x : S256x512.Idx) (p q : FVec Ideal S256x512 .f32)
    (hp : p x = G9 x1 x3 x4 x5 ((Rect.unit (s := S256x4096) ![0, o] S256x512.size inb).emb x))
    (hq : q x = G10 x2 x6 x7 ((Rect.unit (s := S256x4096) ![0, o] S256x512.size inb).emb x)) :
    k0_pay1 (F := Ideal) p q (View.readAt (Elt Ideal) arg1.view (Rect.unit (s := S256x4096) ![0, o] S256x512.size inb).toLoadRect (harg1.unread x0)) x
      = G8 x0 x1 x2 x3 x4 x5 x6 x7 ((Rect.unit (s := S256x4096) ![0, o] S256x512.size inb).emb x) := by
  have e := harg1.readAt_unread x0 (Rect.unit (s := S256x4096) ![0, o] S256x512.size inb).toLoadRect x
  generalize View.readAt (Elt Ideal) arg1.view (Rect.unit (s := S256x4096) ![0, o] S256x512.size inb).toLoadRect (harg1.unread x0) = w at e ⊢
  show (w x + p x + q x : EReal) = _
  rw [hp, hq, e]
  rfl

/-- What the block of the shared part holds. -/
theorem out9_apply : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = G9 x1 x3 x4 x5 := by
  funext y
  refine View.read_writes_apply_of_pieces (v := VO0_9) (f := VO0_9.junk) (G9 x1 x3 x4 x5) _ ?_ y (cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)
  intro p hp
  unfold kernelRun0_A at hp
  dsimp only at hp
  simp only [List.mem_cons, List.not_mem_nil, or_false] at hp
  rcases hp with rfl | rfl | rfl | rfl | rfl | rfl | rfl | rfl <;> intro x
  · exact sh_chunk arg4 harg4 x1 x3 x4 x5 3584 (by omega) _ (r4_apply c arg2 harg2 x1) _ (r5_apply c arg5 harg5 arg6 harg6 x4 x5) inb_S5376x4096_S5376x512_0_3584 inb_S256x4096_S256x512_0_3584 x
  · exact sh_chunk arg4 harg4 x1 x3 x4 x5 3072 (by omega) _ (r4_apply c arg2 harg2 x1) _ (r5_apply c arg5 harg5 arg6 harg6 x4 x5) inb_S5376x4096_S5376x512_0_3072 inb_S256x4096_S256x512_0_3072 x
  · exact sh_chunk arg4 harg4 x1 x3 x4 x5 2560 (by omega) _ (r4_apply c arg2 harg2 x1) _ (r5_apply c arg5 harg5 arg6 harg6 x4 x5) inb_S5376x4096_S5376x512_0_2560 inb_S256x4096_S256x512_0_2560 x
  · exact sh_chunk arg4 harg4 x1 x3 x4 x5 2048 (by omega) _ (r4_apply c arg2 harg2 x1) _ (r5_apply c arg5 harg5 arg6 harg6 x4 x5) inb_S5376x4096_S5376x512_0_2048 inb_S256x4096_S256x512_0_2048 x
  · exact sh_chunk arg4 harg4 x1 x3 x4 x5 1536 (by omega) _ (r4_apply c arg2 harg2 x1) _ (r5_apply c arg5 harg5 arg6 harg6 x4 x5) inb_S5376x4096_S5376x512_0_1536 inb_S256x4096_S256x512_0_1536 x
  · exact sh_chunk arg4 harg4 x1 x3 x4 x5 1024 (by omega) _ (r4_apply c arg2 harg2 x1) _ (r5_apply c arg5 harg5 arg6 harg6 x4 x5) inb_S5376x4096_S5376x512_0_1024 inb_S256x4096_S256x512_0_1024 x
  · exact sh_chunk arg4 harg4 x1 x3 x4 x5 512 (by omega) _ (r4_apply c arg2 harg2 x1) _ (r5_apply c arg5 harg5 arg6 harg6 x4 x5) inb_S5376x4096_S5376x512_0_512 inb_S256x4096_S256x512_0_512 x
  · exact sh_chunk arg4 harg4 x1 x3 x4 x5 0 (by omega) _ (r4_apply c arg2 harg2 x1) _ (r5_apply c arg5 harg5 arg6 harg6 x4 x5) inb_S5376x4096_S5376x512_0_0 inb_S256x4096_S256x512_0_0 x

/-- What the block of the up projection holds. -/
theorem out10_apply : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = G10 x2 x6 x7 := by
  funext y
  refine View.read_writes_apply_of_pieces (v := VO0_10) (f := VO0_10.junk) (G10 x2 x6 x7) _ ?_ y (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)
  intro p hp
  unfold kernelRun0_A at hp
  dsimp only at hp
  simp only [List.mem_cons, List.not_mem_nil, or_false] at hp
  rcases hp with rfl | rfl | rfl | rfl | rfl | rfl | rfl | rfl <;> intro x
  · exact up_chunk arg7 harg7 arg8 harg8 x2 x6 x7 3584 (by omega) _ (r3_apply c arg3 harg3 arg12 arg13 x2) _ (r2_apply c arg3 harg3 arg12 x2) inb_S1024x4096_S1024x512_0_3584 inb_S1x4096_S1x512_0_3584 inb_S256x4096_S256x512_0_3584 x
  · exact up_chunk arg7 harg7 arg8 harg8 x2 x6 x7 3072 (by omega) _ (r3_apply c arg3 harg3 arg12 arg13 x2) _ (r2_apply c arg3 harg3 arg12 x2) inb_S1024x4096_S1024x512_0_3072 inb_S1x4096_S1x512_0_3072 inb_S256x4096_S256x512_0_3072 x
  · exact up_chunk arg7 harg7 arg8 harg8 x2 x6 x7 2560 (by omega) _ (r3_apply c arg3 harg3 arg12 arg13 x2) _ (r2_apply c arg3 harg3 arg12 x2) inb_S1024x4096_S1024x512_0_2560 inb_S1x4096_S1x512_0_2560 inb_S256x4096_S256x512_0_2560 x
  · exact up_chunk arg7 harg7 arg8 harg8 x2 x6 x7 2048 (by omega) _ (r3_apply c arg3 harg3 arg12 arg13 x2) _ (r2_apply c arg3 harg3 arg12 x2) inb_S1024x4096_S1024x512_0_2048 inb_S1x4096_S1x512_0_2048 inb_S256x4096_S256x512_0_2048 x
  · exact up_chunk arg7 harg7 arg8 harg8 x2 x6 x7 1536 (by omega) _ (r3_apply c arg3 harg3 arg12 arg13 x2) _ (r2_apply c arg3 harg3 arg12 x2) inb_S1024x4096_S1024x512_0_1536 inb_S1x4096_S1x512_0_1536 inb_S256x4096_S256x512_0_1536 x
  · exact up_chunk arg7 harg7 arg8 harg8 x2 x6 x7 1024 (by omega) _ (r3_apply c arg3 harg3 arg12 arg13 x2) _ (r2_apply c arg3 harg3 arg12 x2) inb_S1024x4096_S1024x512_0_1024 inb_S1x4096_S1x512_0_1024 inb_S256x4096_S256x512_0_1024 x
  · exact up_chunk arg7 harg7 arg8 harg8 x2 x6 x7 512 (by omega) _ (r3_apply c arg3 harg3 arg12 arg13 x2) _ (r2_apply c arg3 harg3 arg12 x2) inb_S1024x4096_S1024x512_0_512 inb_S1x4096_S1x512_0_512 inb_S256x4096_S256x512_0_512 x
  · exact up_chunk arg7 harg7 arg8 harg8 x2 x6 x7 0 (by omega) _ (r3_apply c arg3 harg3 arg12 arg13 x2) _ (r2_apply c arg3 harg3 arg12 x2) inb_S1024x4096_S1024x512_0_0 inb_S1x4096_S1x512_0_0 inb_S256x4096_S256x512_0_0 x

/-- What the block of the sum holds. -/
theorem out8_apply : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = G8 x0 x1 x2 x3 x4 x5 x6 x7 := by
  funext y
  refine View.read_writes_apply_of_pieces (v := VO0_8) (f := VO0_8.junk) (G8 x0 x1 x2 x3 x4 x5 x6 x7) _ ?_ y (cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)
  intro p hp
  unfold kernelRun0_A at hp
  dsimp only at hp
  simp only [List.mem_cons, List.not_mem_nil, or_false] at hp
  rcases hp with rfl | rfl | rfl | rfl | rfl | rfl | rfl | rfl <;> intro x
  · exact y_chunk arg1 harg1 x0 x1 x2 x3 x4 x5 x6 x7 3584 (by omega) inb_S256x4096_S256x512_0_3584 x _ _
      (sh_chunk arg4 harg4 x1 x3 x4 x5 3584 (by omega) _ (r4_apply c arg2 harg2 x1) _ (r5_apply c arg5 harg5 arg6 harg6 x4 x5) inb_S5376x4096_S5376x512_0_3584 inb_S256x4096_S256x512_0_3584 x)
      (up_chunk arg7 harg7 arg8 harg8 x2 x6 x7 3584 (by omega) _ (r3_apply c arg3 harg3 arg12 arg13 x2) _ (r2_apply c arg3 harg3 arg12 x2) inb_S1024x4096_S1024x512_0_3584 inb_S1x4096_S1x512_0_3584 inb_S256x4096_S256x512_0_3584 x)
  · exact y_chunk arg1 harg1 x0 x1 x2 x3 x4 x5 x6 x7 3072 (by omega) inb_S256x4096_S256x512_0_3072 x _ _
      (sh_chunk arg4 harg4 x1 x3 x4 x5 3072 (by omega) _ (r4_apply c arg2 harg2 x1) _ (r5_apply c arg5 harg5 arg6 harg6 x4 x5) inb_S5376x4096_S5376x512_0_3072 inb_S256x4096_S256x512_0_3072 x)
      (up_chunk arg7 harg7 arg8 harg8 x2 x6 x7 3072 (by omega) _ (r3_apply c arg3 harg3 arg12 arg13 x2) _ (r2_apply c arg3 harg3 arg12 x2) inb_S1024x4096_S1024x512_0_3072 inb_S1x4096_S1x512_0_3072 inb_S256x4096_S256x512_0_3072 x)
  · exact y_chunk arg1 harg1 x0 x1 x2 x3 x4 x5 x6 x7 2560 (by omega) inb_S256x4096_S256x512_0_2560 x _ _
      (sh_chunk arg4 harg4 x1 x3 x4 x5 2560 (by omega) _ (r4_apply c arg2 harg2 x1) _ (r5_apply c arg5 harg5 arg6 harg6 x4 x5) inb_S5376x4096_S5376x512_0_2560 inb_S256x4096_S256x512_0_2560 x)
      (up_chunk arg7 harg7 arg8 harg8 x2 x6 x7 2560 (by omega) _ (r3_apply c arg3 harg3 arg12 arg13 x2) _ (r2_apply c arg3 harg3 arg12 x2) inb_S1024x4096_S1024x512_0_2560 inb_S1x4096_S1x512_0_2560 inb_S256x4096_S256x512_0_2560 x)
  · exact y_chunk arg1 harg1 x0 x1 x2 x3 x4 x5 x6 x7 2048 (by omega) inb_S256x4096_S256x512_0_2048 x _ _
      (sh_chunk arg4 harg4 x1 x3 x4 x5 2048 (by omega) _ (r4_apply c arg2 harg2 x1) _ (r5_apply c arg5 harg5 arg6 harg6 x4 x5) inb_S5376x4096_S5376x512_0_2048 inb_S256x4096_S256x512_0_2048 x)
      (up_chunk arg7 harg7 arg8 harg8 x2 x6 x7 2048 (by omega) _ (r3_apply c arg3 harg3 arg12 arg13 x2) _ (r2_apply c arg3 harg3 arg12 x2) inb_S1024x4096_S1024x512_0_2048 inb_S1x4096_S1x512_0_2048 inb_S256x4096_S256x512_0_2048 x)
  · exact y_chunk arg1 harg1 x0 x1 x2 x3 x4 x5 x6 x7 1536 (by omega) inb_S256x4096_S256x512_0_1536 x _ _
      (sh_chunk arg4 harg4 x1 x3 x4 x5 1536 (by omega) _ (r4_apply c arg2 harg2 x1) _ (r5_apply c arg5 harg5 arg6 harg6 x4 x5) inb_S5376x4096_S5376x512_0_1536 inb_S256x4096_S256x512_0_1536 x)
      (up_chunk arg7 harg7 arg8 harg8 x2 x6 x7 1536 (by omega) _ (r3_apply c arg3 harg3 arg12 arg13 x2) _ (r2_apply c arg3 harg3 arg12 x2) inb_S1024x4096_S1024x512_0_1536 inb_S1x4096_S1x512_0_1536 inb_S256x4096_S256x512_0_1536 x)
  · exact y_chunk arg1 harg1 x0 x1 x2 x3 x4 x5 x6 x7 1024 (by omega) inb_S256x4096_S256x512_0_1024 x _ _
      (sh_chunk arg4 harg4 x1 x3 x4 x5 1024 (by omega) _ (r4_apply c arg2 harg2 x1) _ (r5_apply c arg5 harg5 arg6 harg6 x4 x5) inb_S5376x4096_S5376x512_0_1024 inb_S256x4096_S256x512_0_1024 x)
      (up_chunk arg7 harg7 arg8 harg8 x2 x6 x7 1024 (by omega) _ (r3_apply c arg3 harg3 arg12 arg13 x2) _ (r2_apply c arg3 harg3 arg12 x2) inb_S1024x4096_S1024x512_0_1024 inb_S1x4096_S1x512_0_1024 inb_S256x4096_S256x512_0_1024 x)
  · exact y_chunk arg1 harg1 x0 x1 x2 x3 x4 x5 x6 x7 512 (by omega) inb_S256x4096_S256x512_0_512 x _ _
      (sh_chunk arg4 harg4 x1 x3 x4 x5 512 (by omega) _ (r4_apply c arg2 harg2 x1) _ (r5_apply c arg5 harg5 arg6 harg6 x4 x5) inb_S5376x4096_S5376x512_0_512 inb_S256x4096_S256x512_0_512 x)
      (up_chunk arg7 harg7 arg8 harg8 x2 x6 x7 512 (by omega) _ (r3_apply c arg3 harg3 arg12 arg13 x2) _ (r2_apply c arg3 harg3 arg12 x2) inb_S1024x4096_S1024x512_0_512 inb_S1x4096_S1x512_0_512 inb_S256x4096_S256x512_0_512 x)
  · exact y_chunk arg1 harg1 x0 x1 x2 x3 x4 x5 x6 x7 0 (by omega) inb_S256x4096_S256x512_0_0 x _ _
      (sh_chunk arg4 harg4 x1 x3 x4 x5 0 (by omega) _ (r4_apply c arg2 harg2 x1) _ (r5_apply c arg5 harg5 arg6 harg6 x4 x5) inb_S5376x4096_S5376x512_0_0 inb_S256x4096_S256x512_0_0 x)
      (up_chunk arg7 harg7 arg8 harg8 x2 x6 x7 0 (by omega) _ (r3_apply c arg3 harg3 arg12 arg13 x2) _ (r2_apply c arg3 harg3 arg12 x2) inb_S1024x4096_S1024x512_0_0 inb_S1x4096_S1x512_0_0 inb_S256x4096_S256x512_0_0 x)

/-- What the block of c holds. -/
theorem out11_apply : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = G11 x2 := by
  funext y
  exact View.read_writes_apply_of_pieces (v := VO0_11) (f := VO0_11.junk) (G11 x2) _ (H11_pieces c arg3 harg3 x2) y (H11_cover c arg3 harg3 x2 y)

/-- What the block of the codes holds. -/
theorem out12_apply : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = G12 x2 := by
  have e : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = k0_pay7 (F := Ideal) (kernelRun0_A.sl.v16 c arg3 harg3 arg12 x2) :=
    View.read_writes_full VO0_12 VO0_12.junk inb_S256x1024_S256x1024_0_0 _ []
  rw [e, v16_apply]
  funext y
  obtain ⟨r, l, rfl⟩ : ∃ (r : Fin 256) (l : Fin 1024), y = ix2 r l := ⟨y 0, y 1, eq_ix2 y⟩
  exact pay7_apply (G11 x2) r l

/-- The two rows of scales one grid point writes. -/
theorem scales_apply (j : S2x128.Idx) :
    k0_pay9 (F := Ideal) (kernelRun0_A.sl.v16 c arg3 harg3 arg12 x2) j
      = GS x2 ⟨128 * (j 0).val + (j 1).val, by have := idx2_lt0 j; have := idx2_lt1 j; omega⟩ := by
  rw [v16_apply]
  have h0 := idx2_lt0 j
  have h1 := idx2_lt1 j
  refine (shapeCast_apply (s := S256x1) (t := S2x128) (k0_pay6 (F := Ideal) (G11 x2)) shapeCasts_S256x1_S2x128 j (ix2 ⟨128 * (j 0).val + (j 1).val, by omega⟩ 0) ?_).trans
    (pay6_apply (G11 x2) _)
  rw [Shape.rowMajor_val_two, Shape.rowMajor_val_two]
  show (128 * (j 0).val + (j 1).val) * 1 + 0 = (j 0).val * 128 + (j 1).val
  omega

end Cert.BackIdeal.Hand

end
-- ==== Proof.BackFinal.lean ====
module

public import proofs.«01_k».proof.Proof.BackValue
public import Idealize.ShloMosaic.Lib.Pipeline.Value
public import Idealize.ShloMosaic.Lib.Pipeline.ArrRel
public import Idealize.ShloMosaic.Lib.Pipeline.Cells

/-!
The last stage's kernel at its end: each result array is the function of BackForms of the argument arrays.
-/

@[expose] public section

set_option maxRecDepth 16384

noncomputable section

namespace Cert.BackIdeal.Hand

open Cert.BackIdeal Cert.BackIdeal.Gen Cert.BackForms Idealize.ShloMosaic Idealize.ShloMosaic.ValueIdx Idealize.ShloMosaic.TcCoe
open Idealize.SL.Sem
open Idealize.ShloMosaic.Pipeline (Dat RDat)
open scoped BigOperators

variable (m : (ℓ : Loc nD τ sig) → Buf (Elt Ideal) ℓ) (ρ : Dev nD → PrngReg) (c : Dev nD)

/-- Argument 0 of core c. -/
abbrev ar0 : (Mat 3840 4096).Idx → EReal := m ((c : Thread nD τ).loc main_arg0)
/-- Argument 1 of core c. -/
abbrev ar1 : (Mat 3840 5376).Idx → EReal := m ((c : Thread nD τ).loc main_arg1)
/-- Argument 2 of core c. -/
abbrev ar2 : (Mat 30728 128).Idx → EReal := m ((c : Thread nD τ).loc main_arg2)
/-- Argument 3 of core c. -/
abbrev ar3 : (Mat 5376 4096).Idx → EReal := m ((c : Thread nD τ).loc main_arg3)
/-- Argument 4 of core c. -/
abbrev ar4 : (⟨1, ![1]⟩ : Shape).Idx → EReal := m ((c : Thread nD τ).loc main_arg4)
/-- Argument 5 of core c. -/
abbrev ar5 : (⟨1, ![1]⟩ : Shape).Idx → EReal := m ((c : Thread nD τ).loc main_arg5)
/-- Argument 6 of core c. -/
abbrev ar6 : (Mat 1024 4096).Idx → EReal := m ((c : Thread nD τ).loc main_arg6)
/-- Argument 7 of core c. -/
abbrev ar7 : (Mat 1 4096).Idx → EReal := m ((c : Thread nD τ).loc main_arg7)

/-- Window 0's block number at each point. -/
theorem ixw0 : ∀ t : Fin cfg0.N, win0_0.index t 0 = t.val ∧ win0_0.index t 1 = 0 :=
  (by decide +kernel : ∀ t : Fin grid0.N, win0_0.index t 0 = t.val ∧ win0_0.index t 1 = 0)

/-- Window 1's block number at each point. -/
theorem ixw1 : ∀ t : Fin cfg0.N, win0_1.index t 0 = t.val ∧ win0_1.index t 1 = 0 :=
  (by decide +kernel : ∀ t : Fin grid0.N, win0_1.index t 0 = t.val ∧ win0_1.index t 1 = 0)

/-- Window 2's block number at each point. -/
theorem ixw2 : ∀ t : Fin cfg0.N, win0_2.index t 0 = t.val ∧ win0_2.index t 1 = 0 :=
  (by decide +kernel : ∀ t : Fin grid0.N, win0_2.index t 0 = t.val ∧ win0_2.index t 1 = 0)

/-- Window 8's block number at each point. -/
theorem ixw8 : ∀ t : Fin cfg0.N, win0_8.index t 0 = t.val ∧ win0_8.index t 1 = 0 :=
  (by decide +kernel : ∀ t : Fin grid0.N, win0_8.index t 0 = t.val ∧ win0_8.index t 1 = 0)

/-- Window 9's block number at each point. -/
theorem ixw9 : ∀ t : Fin cfg0.N, win0_9.index t 0 = t.val ∧ win0_9.index t 1 = 0 :=
  (by decide +kernel : ∀ t : Fin grid0.N, win0_9.index t 0 = t.val ∧ win0_9.index t 1 = 0)

/-- Window 10's block number at each point. -/
theorem ixw10 : ∀ t : Fin cfg0.N, win0_10.index t 0 = t.val ∧ win0_10.index t 1 = 0 :=
  (by decide +kernel : ∀ t : Fin grid0.N, win0_10.index t 0 = t.val ∧ win0_10.index t 1 = 0)

/-- Window 11's block number at each point. -/
theorem ixw11 : ∀ t : Fin cfg0.N, win0_11.index t 0 = t.val ∧ win0_11.index t 1 = 0 :=
  (by decide +kernel : ∀ t : Fin grid0.N, win0_11.index t 0 = t.val ∧ win0_11.index t 1 = 0)

/-- Window 12's block number at each point. -/
theorem ixw12 : ∀ t : Fin cfg0.N, win0_12.index t 0 = t.val ∧ win0_12.index t 1 = 0 :=
  (by decide +kernel : ∀ t : Fin grid0.N, win0_12.index t 0 = t.val ∧ win0_12.index t 1 = 0)

/-- There are fifteen points. -/
theorem lt15 (t : Fin cfg0.N) : t.val < 15 := lt_of_lt_of_eq t.isLt N_0

/-- A number below fifteen is a point. -/
theorem of15 {n : ℕ} (h : n < 15) : n < cfg0.N := lt_of_lt_of_eq h N_0.symm

/-- Block t of argument 0: its rows from 256 t on. -/
theorem iblk0 (t : Fin cfg0.N) (r : Fin 256) (k : Fin 4096) :
    (iblk m c 0 t : Vec Ideal S256x4096 .bf16) (ix2 r k) = ar0 m c (ix2 ⟨256 * t.val + r.val, by have := lt15 t; have := r.isLt; omega⟩ k) := by
  have h := ixw0 t
  show V m c main_arg0 ((win0_0.rect t).emb (ix2 r k)) = _
  refine congrArg (V m c main_arg0) (funext fun d => Fin.ext ?_)
  match d with
  | ⟨0, _⟩ => show win0_0.index t 0 * 256 + 1 * r.val = 256 * t.val + r.val; rw [h.1]; omega
  | ⟨1, _⟩ => show win0_0.index t 1 * 4096 + 1 * k.val = k.val; rw [h.2]; omega

/-- Block t of argument 1: its rows from 256 t on. -/
theorem iblk1 (t : Fin cfg0.N) (r : Fin 256) (k : Fin 5376) :
    (iblk m c 1 t : Vec Ideal S256x5376 .fp8e4m3) (ix2 r k) = ar1 m c (ix2 ⟨256 * t.val + r.val, by have := lt15 t; have := r.isLt; omega⟩ k) := by
  have h := ixw1 t
  show V m c main_arg1 ((win0_1.rect t).emb (ix2 r k)) = _
  refine congrArg (V m c main_arg1) (funext fun d => Fin.ext ?_)
  match d with
  | ⟨0, _⟩ => show win0_1.index t 0 * 256 + 1 * r.val = 256 * t.val + r.val; rw [h.1]; omega
  | ⟨1, _⟩ => show win0_1.index t 1 * 5376 + 1 * k.val = k.val; rw [h.2]; omega

/-- Block t of the tiles: its rows from 2048 t on. -/
theorem xblk2 (t : Fin cfg0.N) (r : Fin 2048) (k : Fin 128) :
    (X0_2 m c t : Vec Ideal S2048x128 .f32) (ix2 r k) = ar2 m c (ix2 ⟨2048 * t.val + r.val, by have := lt15 t; have := r.isLt; omega⟩ k) := by
  have h := ixw2 t
  unfold X0_2 Pipeline.Window.fill
  refine (dif_pos (moved0_2 t (ix2 r k))).trans ?_
  show V m c main_arg2 ((win0_2.rect t).emb _) = _
  refine congrArg (V m c main_arg2) (funext fun d => Fin.ext ?_)
  match d with
  | ⟨0, _⟩ => show win0_2.index t 0 * 2048 + 1 * r.val = 2048 * t.val + r.val; rw [h.1]; omega
  | ⟨1, _⟩ => show win0_2.index t 1 * 128 + 1 * k.val = k.val; rw [h.2]; omega

/-- Argument 3 is one block. -/
theorem iblk3 (t : Fin cfg0.N) : (iblk m c 3 t : Vec Ideal S5376x4096 .fp8e4m3) = ar3 m c := by
  have h : ∀ t : Fin cfg0.N, win0_3.index t 0 = 0 ∧ win0_3.index t 1 = 0 :=
    (by decide +kernel : ∀ t : Fin grid0.N, win0_3.index t 0 = 0 ∧ win0_3.index t 1 = 0)
  funext y
  show V m c main_arg3 ((win0_3.rect t).emb y) = V m c main_arg3 y
  refine congrArg (V m c main_arg3) (funext fun d => Fin.ext ?_)
  match d with
  | ⟨0, _⟩ => show win0_3.index t 0 * 5376 + 1 * (y 0).val = (y 0).val; rw [(h t).1]; omega
  | ⟨1, _⟩ => show win0_3.index t 1 * 4096 + 1 * (y 1).val = (y 1).val; rw [(h t).2]; omega

/-- Argument 6 is one block. -/
theorem iblk6 (t : Fin cfg0.N) : (iblk m c 6 t : Vec Ideal S1024x4096 .fp8e4m3) = ar6 m c := by
  have h : ∀ t : Fin cfg0.N, win0_6.index t 0 = 0 ∧ win0_6.index t 1 = 0 :=
    (by decide +kernel : ∀ t : Fin grid0.N, win0_6.index t 0 = 0 ∧ win0_6.index t 1 = 0)
  funext y
  show V m c main_arg6 ((win0_6.rect t).emb y) = V m c main_arg6 y
  refine congrArg (V m c main_arg6) (funext fun d => Fin.ext ?_)
  match d with
  | ⟨0, _⟩ => show win0_6.index t 0 * 1024 + 1 * (y 0).val = (y 0).val; rw [(h t).1]; omega
  | ⟨1, _⟩ => show win0_6.index t 1 * 4096 + 1 * (y 1).val = (y 1).val; rw [(h t).2]; omega

/-- Argument 7 is one block. -/
theorem iblk7 (t : Fin cfg0.N) : (iblk m c 7 t : Vec Ideal S1x4096 .f32) = ar7 m c := by
  have h : ∀ t : Fin cfg0.N, win0_7.index t 0 = 0 ∧ win0_7.index t 1 = 0 :=
    (by decide +kernel : ∀ t : Fin grid0.N, win0_7.index t 0 = 0 ∧ win0_7.index t 1 = 0)
  funext y
  show V m c main_arg7 ((win0_7.rect t).emb y) = V m c main_arg7 y
  refine congrArg (V m c main_arg7) (funext fun d => Fin.ext ?_)
  match d with
  | ⟨0, _⟩ => show win0_7.index t 0 * 1 + 1 * (y 0).val = (y 0).val; rw [(h t).1]; omega
  | ⟨1, _⟩ => show win0_7.index t 1 * 4096 + 1 * (y 1).val = (y 1).val; rw [(h t).2]; omega

/-- Argument 4 is one block. -/
theorem iblk4 (t : Fin cfg0.N) : (iblk m c 4 t : Vec Ideal S1 .f32) = ar4 m c := by
  have h : ∀ t : Fin cfg0.N, win0_4.index t 0 = 0 := (by decide +kernel : ∀ t : Fin grid0.N, win0_4.index t 0 = 0)
  funext y
  show V m c main_arg4 ((win0_4.rect t).emb y) = V m c main_arg4 y
  refine congrArg (V m c main_arg4) (funext fun d => Fin.ext ?_)
  match d with
  | ⟨0, _⟩ => show win0_4.index t 0 * 1 + 1 * (y 0).val = (y 0).val; rw [h t]; omega

/-- Argument 5 is one block. -/
theorem iblk5 (t : Fin cfg0.N) : (iblk m c 5 t : Vec Ideal S1 .f32) = ar5 m c := by
  have h : ∀ t : Fin cfg0.N, win0_5.index t 0 = 0 := (by decide +kernel : ∀ t : Fin grid0.N, win0_5.index t 0 = 0)
  funext y
  show V m c main_arg5 ((win0_5.rect t).emb y) = V m c main_arg5 y
  refine congrArg (V m c main_arg5) (funext fun d => Fin.ext ?_)
  match d with
  | ⟨0, _⟩ => show win0_5.index t 0 * 1 + 1 * (y 0).val = (y 0).val; rw [h t]; omega

/-- Row r of the block's c is row 256 t + r of c. -/
theorem crow_eq (t : Fin cfg0.N) (r : Fin 256) :
    crow (X0_2 m c t) r = cRow (ar2 m c) ⟨256 * t.val + r.val, by have := lt15 t; have := r.isLt; omega⟩ := by
  funext k
  have hk := k.isLt
  have hr := r.isLt
  unfold crow cRow tileRow
  refine (xblk2 m c t _ _).trans (congrArg (ar2 m c) (funext fun d => Fin.ext ?_))
  match d with
  | ⟨0, _⟩ => show 2048 * t.val + (8 * r.val + k.val / 128) = 8 * (256 * t.val + r.val) + k.val / 128; omega
  | ⟨1, _⟩ => rfl

/-- Result 1's block is the rows from 256 t on of the whole array. -/
theorem G9_eq (t : Fin cfg0.N) (r : Fin 256) (l : Fin 4096) :
    (G9 (iblk m c 1 t) (iblk m c 3 t) (iblk m c 4 t) (iblk m c 5 t)) (ix2 r l) = (W9 (ar1 m c) (ar3 m c) (ar4 m c) (ar5 m c)) (ix2 ⟨256 * t.val + r.val, by have := lt15 t; have := r.isLt; omega⟩ l) := by
  rw [iblk3, iblk4, iblk5]
  exact congrArg (fun f => sharedOf f (fun k => ar3 m c (ix2 k l)) (ar5 m c (ix1 0)) (ar4 m c (ix1 0))) (funext fun k => iblk1 m c t r k)

/-- Result 2's block is the rows from 256 t on of the whole array. -/
theorem G10_eq (t : Fin cfg0.N) (r : Fin 256) (l : Fin 4096) :
    (G10 (X0_2 m c t) (iblk m c 6 t) (iblk m c 7 t)) (ix2 r l) = (W10 (ar2 m c) (ar6 m c) (ar7 m c)) (ix2 ⟨256 * t.val + r.val, by have := lt15 t; have := r.isLt; omega⟩ l) := by
  rw [iblk6, iblk7]
  exact congrArg (fun f => upOf f (fun k => ar6 m c (ix2 k l)) (ar7 m c (ix2 0 l))) (crow_eq m c t r)

/-- Result 0's block is the rows from 256 t on of the whole array. -/
theorem G8_eq (t : Fin cfg0.N) (r : Fin 256) (l : Fin 4096) :
    (G8 (iblk m c 0 t) (iblk m c 1 t) (X0_2 m c t) (iblk m c 3 t) (iblk m c 4 t) (iblk m c 5 t) (iblk m c 6 t) (iblk m c 7 t)) (ix2 r l) = (W8 (ar0 m c) (ar1 m c) (ar2 m c) (ar3 m c) (ar4 m c) (ar5 m c) (ar6 m c) (ar7 m c)) (ix2 ⟨256 * t.val + r.val, by have := lt15 t; have := r.isLt; omega⟩ l) := by
  have e0 := iblk0 m c t r l
  have e1 := G9_eq m c t r l
  have e2 := G10_eq m c t r l
  exact congr (congr (congrArg (fun a b d : EReal => a + b + d) e0) e1) e2

/-- Result 3's block is the rows from 256 t on of the whole array. -/
theorem G11_eq (t : Fin cfg0.N) (r : Fin 256) (l : Fin 1024) :
    (G11 (X0_2 m c t)) (ix2 r l) = (W11 (ar2 m c)) (ix2 ⟨256 * t.val + r.val, by have := lt15 t; have := r.isLt; omega⟩ l) := by
  exact congrFun (crow_eq m c t r) l

/-- Result 4's block is the rows from 256 t on of the whole array. -/
theorem G12_eq (t : Fin cfg0.N) (r : Fin 256) (l : Fin 1024) :
    (G12 (X0_2 m c t)) (ix2 r l) = (W12 (ar2 m c)) (ix2 ⟨256 * t.val + r.val, by have := lt15 t; have := r.isLt; omega⟩ l) := by
  exact congrArg (fun f => codeOf f l) (crow_eq m c t r)

/-- A block whose rows are the rows from 256 t on of a whole array is that array's block t. -/
theorem cut8_eq (t : Fin cfg0.N) (G : (Mat 256 4096).Idx → EReal) (T : (Mat 3840 4096).Idx → EReal)
    (hG : ∀ (r : Fin 256) (l : Fin 4096), G (ix2 r l) = T (ix2 ⟨256 * t.val + r.val, by have := lt15 t; have := r.isLt; omega⟩ l)) :
    (cfg0.win 8).cut (grid0.coords t) G = ((cfg0.win 8).blk t).view.read (Elt Ideal) T := by
  funext j
  have h0 : (j 0).val < 256 := lt_of_lt_of_le (j 0).isLt ((cfg0.win 8).xsize_le (grid0.coords t) 0)
  have h1 : (j 1).val < 4096 := lt_of_lt_of_le (j 1).isLt ((cfg0.win 8).xsize_le (grid0.coords t) 1)
  have hi := ixw8 t
  refine (congrArg G (?_ : _ = ix2 (⟨(j 0).val, h0⟩ : Fin 256) (⟨(j 1).val, h1⟩ : Fin 4096))).trans ((hG _ _).trans ?_)
  · funext d
    match d with
    | ⟨0, _⟩ => rfl
    | ⟨1, _⟩ => rfl
  · show _ = T ((win0_8.rect t).emb j)
    refine congrArg T (funext fun d => Fin.ext ?_)
    match d with
    | ⟨0, _⟩ => show 256 * t.val + (j 0).val = win0_8.index t 0 * 256 + 1 * (j 0).val; rw [hi.1]; omega
    | ⟨1, _⟩ => show (j 1).val = win0_8.index t 1 * 4096 + 1 * (j 1).val; rw [hi.2]; omega

/-- What point t writes back to result 0 is its block of the whole array. -/
theorem flushed8_eq (t : Fin cfg0.N) :
    (dats m 0 c).flushed 8 t = ((cfg0.win 8).blk t).view.read (Elt Ideal) (W8 (ar0 m c) (ar1 m c) (ar2 m c) (ar3 m c) (ar4 m c) (ar5 m c) (ar6 m c) (ar7 m c)) := by
  show (cfg0.win 8).cut (grid0.coords t) ((dats m 0 c).after 8 t) = _
  rw [after0_8]
  simp only [outsAt0]
  rw [out8_apply]
  exact cut8_eq t _ _ (G8_eq m c t)

/-- Every index of result 0 is in some point's block. -/
theorem covered8 (i : (Mat 3840 4096).Idx) : ∃ t : Fin cfg0.N, (cfg0.win 8).flush t = true ∧ i ∈ ((cfg0.win 8).blk t).view.set := by
  have h0 : (i 0).val < 3840 := (i 0).isLt
  have h1 : (i 1).val < 4096 := (i 1).isLt
  refine ⟨⟨(i 0).val / 256, of15 (by omega)⟩, flush0_8 _, ?_⟩
  generalize ht : (⟨(i 0).val / 256, of15 (by omega)⟩ : Fin cfg0.N) = t
  have hv : t.val = (i 0).val / 256 := by rw [← ht]
  have hi := ixw8 t
  have hx : ∀ t : Fin cfg0.N, win0_8.xsize (grid0.coords t) 0 = 256 ∧ win0_8.xsize (grid0.coords t) 1 = 4096 :=
    (by decide +kernel : ∀ t : Fin grid0.N, win0_8.xsize (grid0.coords t) 0 = 256 ∧ win0_8.xsize (grid0.coords t) 1 = 4096)
  show i ∈ ((View.whole main_v0_0).slice (win0_8.rect t)).set
  rw [View.set_slice_whole, Rect.mem_set_unit]
  intro a
  match a with
  | ⟨0, _⟩ => show win0_8.index t 0 * 256 ≤ (i 0).val ∧ (i 0).val < win0_8.index t 0 * 256 + win0_8.xsize (grid0.coords t) 0
              rw [hi.1, (hx t).1]; omega
  | ⟨1, _⟩ => show win0_8.index t 1 * 4096 ≤ (i 1).val ∧ (i 1).val < win0_8.index t 1 * 4096 + win0_8.xsize (grid0.coords t) 1
              rw [hi.2, (hx t).2]; omega

/-- So result 0's array ends as the whole function. -/
theorem final8 : (dats m 0 c).arrAt 8 cfg0.N = W8 (ar0 m c) (ar1 m c) (ar2 m c) (ar3 m c) (ar4 m c) (ar5 m c) (ar6 m c) (ar7 m c) :=
  (dats m 0 c).arrAt_eq_of_cover 8 (W8 (ar0 m c) (ar1 m c) (ar2 m c) (ar3 m c) (ar4 m c) (ar5 m c) (ar6 m c) (ar7 m c)) (fun t _ => flushed8_eq m c t) (covered8)

/-- The relational data names the same array. -/
theorem rfinal8 (B : Buf (Elt Ideal) (((cfg0.win 8).arr.view.loc (c.tc : Thread nD τ)))) (h : (rdat m c).ArrAt 8 cfg0.N B) : B = W8 (ar0 m c) (ar1 m c) (ar2 m c) (ar3 m c) (ar4 m c) (ar5 m c) (ar6 m c) (ar7 m c) :=
  (((dats m 0 c).toR.override_arrAt (by rfl) cfg0.N B).trans ((dats m 0 c).toR_arrAt_iff 8 cfg0.N B)).mp h |>.trans (final8 m c)

/-- A block whose rows are the rows from 256 t on of a whole array is that array's block t. -/
theorem cut9_eq (t : Fin cfg0.N) (G : (Mat 256 4096).Idx → EReal) (T : (Mat 3840 4096).Idx → EReal)
    (hG : ∀ (r : Fin 256) (l : Fin 4096), G (ix2 r l) = T (ix2 ⟨256 * t.val + r.val, by have := lt15 t; have := r.isLt; omega⟩ l)) :
    (cfg0.win 9).cut (grid0.coords t) G = ((cfg0.win 9).blk t).view.read (Elt Ideal) T := by
  funext j
  have h0 : (j 0).val < 256 := lt_of_lt_of_le (j 0).isLt ((cfg0.win 9).xsize_le (grid0.coords t) 0)
  have h1 : (j 1).val < 4096 := lt_of_lt_of_le (j 1).isLt ((cfg0.win 9).xsize_le (grid0.coords t) 1)
  have hi := ixw9 t
  refine (congrArg G (?_ : _ = ix2 (⟨(j 0).val, h0⟩ : Fin 256) (⟨(j 1).val, h1⟩ : Fin 4096))).trans ((hG _ _).trans ?_)
  · funext d
    match d with
    | ⟨0, _⟩ => rfl
    | ⟨1, _⟩ => rfl
  · show _ = T ((win0_9.rect t).emb j)
    refine congrArg T (funext fun d => Fin.ext ?_)
    match d with
    | ⟨0, _⟩ => show 256 * t.val + (j 0).val = win0_9.index t 0 * 256 + 1 * (j 0).val; rw [hi.1]; omega
    | ⟨1, _⟩ => show (j 1).val = win0_9.index t 1 * 4096 + 1 * (j 1).val; rw [hi.2]; omega

/-- What point t writes back to result 1 is its block of the whole array. -/
theorem flushed9_eq (t : Fin cfg0.N) :
    (dats m 0 c).flushed 9 t = ((cfg0.win 9).blk t).view.read (Elt Ideal) (W9 (ar1 m c) (ar3 m c) (ar4 m c) (ar5 m c)) := by
  show (cfg0.win 9).cut (grid0.coords t) ((dats m 0 c).after 9 t) = _
  rw [after0_9]
  simp only [outsAt0]
  rw [out9_apply]
  exact cut9_eq t _ _ (G9_eq m c t)

/-- Every index of result 1 is in some point's block. -/
theorem covered9 (i : (Mat 3840 4096).Idx) : ∃ t : Fin cfg0.N, (cfg0.win 9).flush t = true ∧ i ∈ ((cfg0.win 9).blk t).view.set := by
  have h0 : (i 0).val < 3840 := (i 0).isLt
  have h1 : (i 1).val < 4096 := (i 1).isLt
  refine ⟨⟨(i 0).val / 256, of15 (by omega)⟩, flush0_9 _, ?_⟩
  generalize ht : (⟨(i 0).val / 256, of15 (by omega)⟩ : Fin cfg0.N) = t
  have hv : t.val = (i 0).val / 256 := by rw [← ht]
  have hi := ixw9 t
  have hx : ∀ t : Fin cfg0.N, win0_9.xsize (grid0.coords t) 0 = 256 ∧ win0_9.xsize (grid0.coords t) 1 = 4096 :=
    (by decide +kernel : ∀ t : Fin grid0.N, win0_9.xsize (grid0.coords t) 0 = 256 ∧ win0_9.xsize (grid0.coords t) 1 = 4096)
  show i ∈ ((View.whole main_v0_1).slice (win0_9.rect t)).set
  rw [View.set_slice_whole, Rect.mem_set_unit]
  intro a
  match a with
  | ⟨0, _⟩ => show win0_9.index t 0 * 256 ≤ (i 0).val ∧ (i 0).val < win0_9.index t 0 * 256 + win0_9.xsize (grid0.coords t) 0
              rw [hi.1, (hx t).1]; omega
  | ⟨1, _⟩ => show win0_9.index t 1 * 4096 ≤ (i 1).val ∧ (i 1).val < win0_9.index t 1 * 4096 + win0_9.xsize (grid0.coords t) 1
              rw [hi.2, (hx t).2]; omega

/-- So result 1's array ends as the whole function. -/
theorem final9 : (dats m 0 c).arrAt 9 cfg0.N = W9 (ar1 m c) (ar3 m c) (ar4 m c) (ar5 m c) :=
  (dats m 0 c).arrAt_eq_of_cover 9 (W9 (ar1 m c) (ar3 m c) (ar4 m c) (ar5 m c)) (fun t _ => flushed9_eq m c t) (covered9)

/-- The relational data names the same array. -/
theorem rfinal9 (B : Buf (Elt Ideal) (((cfg0.win 9).arr.view.loc (c.tc : Thread nD τ)))) (h : (rdat m c).ArrAt 9 cfg0.N B) : B = W9 (ar1 m c) (ar3 m c) (ar4 m c) (ar5 m c) :=
  (((dats m 0 c).toR.override_arrAt (by rfl) cfg0.N B).trans ((dats m 0 c).toR_arrAt_iff 9 cfg0.N B)).mp h |>.trans (final9 m c)

/-- A block whose rows are the rows from 256 t on of a whole array is that array's block t. -/
theorem cut10_eq (t : Fin cfg0.N) (G : (Mat 256 4096).Idx → EReal) (T : (Mat 3840 4096).Idx → EReal)
    (hG : ∀ (r : Fin 256) (l : Fin 4096), G (ix2 r l) = T (ix2 ⟨256 * t.val + r.val, by have := lt15 t; have := r.isLt; omega⟩ l)) :
    (cfg0.win 10).cut (grid0.coords t) G = ((cfg0.win 10).blk t).view.read (Elt Ideal) T := by
  funext j
  have h0 : (j 0).val < 256 := lt_of_lt_of_le (j 0).isLt ((cfg0.win 10).xsize_le (grid0.coords t) 0)
  have h1 : (j 1).val < 4096 := lt_of_lt_of_le (j 1).isLt ((cfg0.win 10).xsize_le (grid0.coords t) 1)
  have hi := ixw10 t
  refine (congrArg G (?_ : _ = ix2 (⟨(j 0).val, h0⟩ : Fin 256) (⟨(j 1).val, h1⟩ : Fin 4096))).trans ((hG _ _).trans ?_)
  · funext d
    match d with
    | ⟨0, _⟩ => rfl
    | ⟨1, _⟩ => rfl
  · show _ = T ((win0_10.rect t).emb j)
    refine congrArg T (funext fun d => Fin.ext ?_)
    match d with
    | ⟨0, _⟩ => show 256 * t.val + (j 0).val = win0_10.index t 0 * 256 + 1 * (j 0).val; rw [hi.1]; omega
    | ⟨1, _⟩ => show (j 1).val = win0_10.index t 1 * 4096 + 1 * (j 1).val; rw [hi.2]; omega

/-- What point t writes back to result 2 is its block of the whole array. -/
theorem flushed10_eq (t : Fin cfg0.N) :
    (dats m 0 c).flushed 10 t = ((cfg0.win 10).blk t).view.read (Elt Ideal) (W10 (ar2 m c) (ar6 m c) (ar7 m c)) := by
  show (cfg0.win 10).cut (grid0.coords t) ((dats m 0 c).after 10 t) = _
  rw [after0_10]
  simp only [outsAt0]
  rw [out10_apply]
  exact cut10_eq t _ _ (G10_eq m c t)

/-- Every index of result 2 is in some point's block. -/
theorem covered10 (i : (Mat 3840 4096).Idx) : ∃ t : Fin cfg0.N, (cfg0.win 10).flush t = true ∧ i ∈ ((cfg0.win 10).blk t).view.set := by
  have h0 : (i 0).val < 3840 := (i 0).isLt
  have h1 : (i 1).val < 4096 := (i 1).isLt
  refine ⟨⟨(i 0).val / 256, of15 (by omega)⟩, flush0_10 _, ?_⟩
  generalize ht : (⟨(i 0).val / 256, of15 (by omega)⟩ : Fin cfg0.N) = t
  have hv : t.val = (i 0).val / 256 := by rw [← ht]
  have hi := ixw10 t
  have hx : ∀ t : Fin cfg0.N, win0_10.xsize (grid0.coords t) 0 = 256 ∧ win0_10.xsize (grid0.coords t) 1 = 4096 :=
    (by decide +kernel : ∀ t : Fin grid0.N, win0_10.xsize (grid0.coords t) 0 = 256 ∧ win0_10.xsize (grid0.coords t) 1 = 4096)
  show i ∈ ((View.whole main_v0_2).slice (win0_10.rect t)).set
  rw [View.set_slice_whole, Rect.mem_set_unit]
  intro a
  match a with
  | ⟨0, _⟩ => show win0_10.index t 0 * 256 ≤ (i 0).val ∧ (i 0).val < win0_10.index t 0 * 256 + win0_10.xsize (grid0.coords t) 0
              rw [hi.1, (hx t).1]; omega
  | ⟨1, _⟩ => show win0_10.index t 1 * 4096 ≤ (i 1).val ∧ (i 1).val < win0_10.index t 1 * 4096 + win0_10.xsize (grid0.coords t) 1
              rw [hi.2, (hx t).2]; omega

/-- So result 2's array ends as the whole function. -/
theorem final10 : (dats m 0 c).arrAt 10 cfg0.N = W10 (ar2 m c) (ar6 m c) (ar7 m c) :=
  (dats m 0 c).arrAt_eq_of_cover 10 (W10 (ar2 m c) (ar6 m c) (ar7 m c)) (fun t _ => flushed10_eq m c t) (covered10)

/-- The relational data names the same array. -/
theorem rfinal10 (B : Buf (Elt Ideal) (((cfg0.win 10).arr.view.loc (c.tc : Thread nD τ)))) (h : (rdat m c).ArrAt 10 cfg0.N B) : B = W10 (ar2 m c) (ar6 m c) (ar7 m c) :=
  (((dats m 0 c).toR.override_arrAt (by rfl) cfg0.N B).trans ((dats m 0 c).toR_arrAt_iff 10 cfg0.N B)).mp h |>.trans (final10 m c)

/-- A block whose rows are the rows from 256 t on of a whole array is that array's block t. -/
theorem cut11_eq (t : Fin cfg0.N) (G : (Mat 256 1024).Idx → EReal) (T : (Mat 3840 1024).Idx → EReal)
    (hG : ∀ (r : Fin 256) (l : Fin 1024), G (ix2 r l) = T (ix2 ⟨256 * t.val + r.val, by have := lt15 t; have := r.isLt; omega⟩ l)) :
    (cfg0.win 11).cut (grid0.coords t) G = ((cfg0.win 11).blk t).view.read (Elt Ideal) T := by
  funext j
  have h0 : (j 0).val < 256 := lt_of_lt_of_le (j 0).isLt ((cfg0.win 11).xsize_le (grid0.coords t) 0)
  have h1 : (j 1).val < 1024 := lt_of_lt_of_le (j 1).isLt ((cfg0.win 11).xsize_le (grid0.coords t) 1)
  have hi := ixw11 t
  refine (congrArg G (?_ : _ = ix2 (⟨(j 0).val, h0⟩ : Fin 256) (⟨(j 1).val, h1⟩ : Fin 1024))).trans ((hG _ _).trans ?_)
  · funext d
    match d with
    | ⟨0, _⟩ => rfl
    | ⟨1, _⟩ => rfl
  · show _ = T ((win0_11.rect t).emb j)
    refine congrArg T (funext fun d => Fin.ext ?_)
    match d with
    | ⟨0, _⟩ => show 256 * t.val + (j 0).val = win0_11.index t 0 * 256 + 1 * (j 0).val; rw [hi.1]; omega
    | ⟨1, _⟩ => show (j 1).val = win0_11.index t 1 * 1024 + 1 * (j 1).val; rw [hi.2]; omega

/-- What point t writes back to result 3 is its block of the whole array. -/
theorem flushed11_eq (t : Fin cfg0.N) :
    (dats m 0 c).flushed 11 t = ((cfg0.win 11).blk t).view.read (Elt Ideal) (W11 (ar2 m c)) := by
  show (cfg0.win 11).cut (grid0.coords t) ((dats m 0 c).after 11 t) = _
  rw [after0_11]
  simp only [outsAt0]
  rw [out11_apply]
  exact cut11_eq t _ _ (G11_eq m c t)

/-- Every index of result 3 is in some point's block. -/
theorem covered11 (i : (Mat 3840 1024).Idx) : ∃ t : Fin cfg0.N, (cfg0.win 11).flush t = true ∧ i ∈ ((cfg0.win 11).blk t).view.set := by
  have h0 : (i 0).val < 3840 := (i 0).isLt
  have h1 : (i 1).val < 1024 := (i 1).isLt
  refine ⟨⟨(i 0).val / 256, of15 (by omega)⟩, flush0_11 _, ?_⟩
  generalize ht : (⟨(i 0).val / 256, of15 (by omega)⟩ : Fin cfg0.N) = t
  have hv : t.val = (i 0).val / 256 := by rw [← ht]
  have hi := ixw11 t
  have hx : ∀ t : Fin cfg0.N, win0_11.xsize (grid0.coords t) 0 = 256 ∧ win0_11.xsize (grid0.coords t) 1 = 1024 :=
    (by decide +kernel : ∀ t : Fin grid0.N, win0_11.xsize (grid0.coords t) 0 = 256 ∧ win0_11.xsize (grid0.coords t) 1 = 1024)
  show i ∈ ((View.whole main_v0_3).slice (win0_11.rect t)).set
  rw [View.set_slice_whole, Rect.mem_set_unit]
  intro a
  match a with
  | ⟨0, _⟩ => show win0_11.index t 0 * 256 ≤ (i 0).val ∧ (i 0).val < win0_11.index t 0 * 256 + win0_11.xsize (grid0.coords t) 0
              rw [hi.1, (hx t).1]; omega
  | ⟨1, _⟩ => show win0_11.index t 1 * 1024 ≤ (i 1).val ∧ (i 1).val < win0_11.index t 1 * 1024 + win0_11.xsize (grid0.coords t) 1
              rw [hi.2, (hx t).2]; omega

/-- So result 3's array ends as the whole function. -/
theorem final11 : (dats m 0 c).arrAt 11 cfg0.N = W11 (ar2 m c) :=
  (dats m 0 c).arrAt_eq_of_cover 11 (W11 (ar2 m c)) (fun t _ => flushed11_eq m c t) (covered11)

/-- The relational data names the same array. -/
theorem rfinal11 (B : Buf (Elt Ideal) (((cfg0.win 11).arr.view.loc (c.tc : Thread nD τ)))) (h : (rdat m c).ArrAt 11 cfg0.N B) : B = W11 (ar2 m c) :=
  (((dats m 0 c).toR.override_arrAt (by rfl) cfg0.N B).trans ((dats m 0 c).toR_arrAt_iff 11 cfg0.N B)).mp h |>.trans (final11 m c)

/-- A block whose rows are the rows from 256 t on of a whole array is that array's block t. -/
theorem cut12_eq (t : Fin cfg0.N) (G : (Mat 256 1024).Idx → EReal) (T : (Mat 3840 1024).Idx → EReal)
    (hG : ∀ (r : Fin 256) (l : Fin 1024), G (ix2 r l) = T (ix2 ⟨256 * t.val + r.val, by have := lt15 t; have := r.isLt; omega⟩ l)) :
    (cfg0.win 12).cut (grid0.coords t) G = ((cfg0.win 12).blk t).view.read (Elt Ideal) T := by
  funext j
  have h0 : (j 0).val < 256 := lt_of_lt_of_le (j 0).isLt ((cfg0.win 12).xsize_le (grid0.coords t) 0)
  have h1 : (j 1).val < 1024 := lt_of_lt_of_le (j 1).isLt ((cfg0.win 12).xsize_le (grid0.coords t) 1)
  have hi := ixw12 t
  refine (congrArg G (?_ : _ = ix2 (⟨(j 0).val, h0⟩ : Fin 256) (⟨(j 1).val, h1⟩ : Fin 1024))).trans ((hG _ _).trans ?_)
  · funext d
    match d with
    | ⟨0, _⟩ => rfl
    | ⟨1, _⟩ => rfl
  · show _ = T ((win0_12.rect t).emb j)
    refine congrArg T (funext fun d => Fin.ext ?_)
    match d with
    | ⟨0, _⟩ => show 256 * t.val + (j 0).val = win0_12.index t 0 * 256 + 1 * (j 0).val; rw [hi.1]; omega
    | ⟨1, _⟩ => show (j 1).val = win0_12.index t 1 * 1024 + 1 * (j 1).val; rw [hi.2]; omega

/-- What point t writes back to result 4 is its block of the whole array. -/
theorem flushed12_eq (t : Fin cfg0.N) :
    (dats m 0 c).flushed 12 t = ((cfg0.win 12).blk t).view.read (Elt Ideal) (W12 (ar2 m c)) := by
  show (cfg0.win 12).cut (grid0.coords t) ((dats m 0 c).after 12 t) = _
  rw [after0_12]
  simp only [outsAt0]
  rw [out12_apply]
  exact cut12_eq t _ _ (G12_eq m c t)

/-- Every index of result 4 is in some point's block. -/
theorem covered12 (i : (Mat 3840 1024).Idx) : ∃ t : Fin cfg0.N, (cfg0.win 12).flush t = true ∧ i ∈ ((cfg0.win 12).blk t).view.set := by
  have h0 : (i 0).val < 3840 := (i 0).isLt
  have h1 : (i 1).val < 1024 := (i 1).isLt
  refine ⟨⟨(i 0).val / 256, of15 (by omega)⟩, flush0_12 _, ?_⟩
  generalize ht : (⟨(i 0).val / 256, of15 (by omega)⟩ : Fin cfg0.N) = t
  have hv : t.val = (i 0).val / 256 := by rw [← ht]
  have hi := ixw12 t
  have hx : ∀ t : Fin cfg0.N, win0_12.xsize (grid0.coords t) 0 = 256 ∧ win0_12.xsize (grid0.coords t) 1 = 1024 :=
    (by decide +kernel : ∀ t : Fin grid0.N, win0_12.xsize (grid0.coords t) 0 = 256 ∧ win0_12.xsize (grid0.coords t) 1 = 1024)
  show i ∈ ((View.whole main_v0_4).slice (win0_12.rect t)).set
  rw [View.set_slice_whole, Rect.mem_set_unit]
  intro a
  match a with
  | ⟨0, _⟩ => show win0_12.index t 0 * 256 ≤ (i 0).val ∧ (i 0).val < win0_12.index t 0 * 256 + win0_12.xsize (grid0.coords t) 0
              rw [hi.1, (hx t).1]; omega
  | ⟨1, _⟩ => show win0_12.index t 1 * 1024 ≤ (i 1).val ∧ (i 1).val < win0_12.index t 1 * 1024 + win0_12.xsize (grid0.coords t) 1
              rw [hi.2, (hx t).2]; omega

/-- So result 4's array ends as the whole function. -/
theorem final12 : (dats m 0 c).arrAt 12 cfg0.N = W12 (ar2 m c) :=
  (dats m 0 c).arrAt_eq_of_cover 12 (W12 (ar2 m c)) (fun t _ => flushed12_eq m c t) (covered12)

/-- The relational data names the same array. -/
theorem rfinal12 (B : Buf (Elt Ideal) (((cfg0.win 12).arr.view.loc (c.tc : Thread nD τ)))) (h : (rdat m c).ArrAt 12 cfg0.N B) : B = W12 (ar2 m c) :=
  (((dats m 0 c).toR.override_arrAt (by rfl) cfg0.N B).trans ((dats m 0 c).toR_arrAt_iff 12 cfg0.N B)).mp h |>.trans (final12 m c)

/-- The scales one point writes. -/
theorem scale13_apply (t : Fin cfg0.N) (j : S2x128.Idx) :
    scale13 m c t j = scaleOf (cRow (ar2 m c) ⟨256 * t.val + (128 * (j 0).val + (j 1).val), by have := lt15 t; have := idx2_lt0 j; have := idx2_lt1 j; omega⟩) :=
  (scales_apply c (ms0_2 t) (hs0_2 t) (ms0_11 t) (X0_2 m c t) j).trans (congrArg scaleOf (crow_eq m c t _))

/-- The last point. -/
abbrev last0 : Fin cfg0.N := ⟨14, of15 (by omega)⟩

/-- The scales are written back once, whole. -/
theorem whole13 : (cfg0.win 13).WholeAt last0 :=
  ⟨(flush0_13 last0).mpr rfl, fun t h => Fin.ext (by have := (flush0_13 t).mp h; have := lt15 t; show t.val = 14; omega),
    (by decide +kernel : ∀ a, win0_13.index (⟨14, by decide⟩ : Fin grid0.N) a = 0 ∧ win0_13.xsize (grid0.coords ⟨14, by decide⟩) a = win0_13.shape.size a)⟩

/-- So the array of scales ends as the whole function. -/
theorem rfinal13 (B : Buf (Elt Ideal) (((cfg0.win 13).arr.view.loc (c.tc : Thread nD τ)))) (h : (rdat m c).ArrAt 13 cfg0.N B) : B = W13 (ar2 m c) := by
  obtain ⟨X, hL, hX⟩ := h.emb_eq_of_wholeAt whole13
  have hH : Held13 m c last0 X := Dat.toRRel_leaves (dats m 0 c) (fgt := held0) (Rl := Rl0 m c) rfl hL
  funext y
  have hy0 := idx2_lt0 y
  have hy1 := idx2_lt1 y
  have ey : B y = X y := hX y
  have ht : (y 0).val / 2 < cfg0.N := of15 (by omega)
  have e := hH ⟨(y 0).val / 2, ht⟩ (by show (y 0).val / 2 ≤ 14; omega) (ix2 ⟨(y 0).val % 2, by omega⟩ (y 1))
  rw [scale13_apply] at e
  have ei : (rect13 ⟨(y 0).val / 2, ht⟩).emb (ix2 ⟨(y 0).val % 2, by omega⟩ (y 1)) = y := by
    funext d
    apply Fin.ext
    match d with
    | ⟨0, _⟩ => exact (emb13_row ⟨(y 0).val / 2, ht⟩ _).trans (by show 2 * ((y 0).val / 2) + (y 0).val % 2 = (y 0).val; omega)
    | ⟨1, _⟩ => show 0 + 1 * (y 1).val = (y 1).val; omega
  rw [ei] at e
  refine ey.trans (e.trans ?_)
  unfold W13
  refine congrArg (fun r => scaleOf (cRow (ar2 m c) r)) (Fin.ext ?_)
  show 256 * ((y 0).val / 2) + (128 * ((y 0).val % 2) + (y 1).val) = 128 * (y 0).val + (y 1).val
  omega

/-- The run with every result and every argument named. -/
theorem run_values : θ_run defs (onTc (τ := τ) (main (F := Ideal))) ⟨m, fun _ => 0, ρ⟩ fun r => ∀ c : Dev nD,
      r.2.mem ((c : Thread nD τ).loc main_v0_0) = W8 (ar0 m c) (ar1 m c) (ar2 m c) (ar3 m c) (ar4 m c) (ar5 m c) (ar6 m c) (ar7 m c)
      ∧ r.2.mem ((c : Thread nD τ).loc main_v0_1) = W9 (ar1 m c) (ar3 m c) (ar4 m c) (ar5 m c)
      ∧ r.2.mem ((c : Thread nD τ).loc main_v0_2) = W10 (ar2 m c) (ar6 m c) (ar7 m c)
      ∧ r.2.mem ((c : Thread nD τ).loc main_v0_3) = W11 (ar2 m c)
      ∧ r.2.mem ((c : Thread nD τ).loc main_v0_4) = W12 (ar2 m c)
      ∧ r.2.mem ((c : Thread nD τ).loc main_v0_5) = W13 (ar2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨rfinal8 m c _ ((h.1 c).1 8), rfinal9 m c _ ((h.1 c).1 9), rfinal10 m c _ ((h.1 c).1 10), rfinal11 m c _ ((h.1 c).1 11),
    rfinal12 m c _ ((h.1 c).1 12), rfinal13 m c _ ((h.1 c).1 13), h.1.arr_in c 0 rfl, h.1.arr_in c 1 rfl, h.1.arr_in c 2 rfl, h.1.arr_in c 3 rfl,
    h.1.arr_in c 4 rfl, h.1.arr_in c 5 rfl, h.1.arr_in c 6 rfl, h.1.arr_in c 7 rfl⟩) (run_main_quiescent m ρ)

end Cert.BackIdeal.Hand

end
-- ==== Proof.BackRefValue.lean ====
module

public import proofs.«01_k».proof.Proof.BackForms
public import proofs.«01_k».proof.Proof.Gen.BackRefIdeal.Value
public import Idealize.ShloMosaic.Lib.VecWindow

/-!
The last stage's reference at its end: each result array is the function of BackForms of the argument arrays.
-/

@[expose] public section

noncomputable section

namespace Cert.BackRefIdeal.Hand

open Cert.BackRefIdeal Cert.BackRefIdeal.Gen Cert.BackForms Idealize.ShloMosaic Idealize.ShloMosaic.ValueIdx Idealize.ShloMosaic.TcCoe
open Idealize.SL.Sem
open scoped BigOperators

variable (m : (ℓ : Loc nD τ sig) → Buf (Elt Ideal) ℓ) (ρ : Dev nD → PrngReg) (c : Dev nD)

/-- Row r of an array. -/
abbrev row (x2 : Vec Ideal S3840x1024 .f32) (r : Fin 3840) : Fin 1024 → EReal := fun k => x2 (ix2 r k)

/-- The scale column. -/
theorem pay4_apply (x2 : Vec Ideal S3840x1024 .f32) (r : Fin 3840) : k0_pay4 (F := Ideal) x2 (ix2 r 0) = scaleOf (row x2 r) := by
  have e : k0_pay3 (F := Ideal) x2 = x2 := funext fun i => shapeCast_apply (s := S3840x1024) (t := S3840x1024) x2 shapeCasts_S3840x1024_S3840x1024 i i rfl
  unfold k0_pay4
  rw [e]
  exact scaleCol_apply (M := 3840) (K := 1024) x2 reduces_S3840x1024_S3840 shapeCasts_S3840_S3840x1 r

/-- The codes. -/
theorem pay5_apply (x2 : Vec Ideal S3840x1024 .f32) (r : Fin 3840) (k : Fin 1024) : k0_pay5 (F := Ideal) x2 (ix2 r k) = codeOf (row x2 r) k := by
  have e : k0_pay3 (F := Ideal) x2 = x2 := funext fun i => shapeCast_apply (s := S3840x1024) (t := S3840x1024) x2 shapeCasts_S3840x1024_S3840x1024 i i rfl
  unfold k0_pay5
  rw [e]
  exact codes_apply (M := 3840) (K := 1024) (by omega) (by omega) x2 (k0_pay4 (F := Ideal) x2) broadcasts_S3840x1_S3840x1024 bitsLt_fp8e4m3_f32 r (pay4_apply x2 r) k

/-- The shared expert's output. -/
theorem pay2_apply (x1 : Vec Ideal S3840x5376 .fp8e4m3) (x3 : Vec Ideal S5376x4096 .fp8e4m3) (a b : Elt Ideal .f32) (r : Fin 3840) (l : Fin 4096) :
    k0_pay2 (F := Ideal) x1 x3 a b (ix2 r l) = sharedOf (fun k => x1 (ix2 r k)) (fun k => x3 (ix2 k l)) a b :=
  shared_apply (M := 3840) (K := 5376) (N := 4096) dot_S3840x5376_S5376x4096_S3840x4096_1_0_0_1_n_n rfl x1 x3 _ r l

/-- The up projection. -/
theorem pay6_apply (x2 : Vec Ideal S3840x1024 .f32) (x6 : Vec Ideal S1024x4096 .fp8e4m3) (x7 : Vec Ideal S1x4096 .f32) (r : Fin 3840) (l : Fin 4096) :
    k0_pay6 (F := Ideal) x2 x6 x7 (ix2 r l) = upOf (row x2 r) (fun k => x6 (ix2 k l)) (x7 (ix2 0 l)) := by
  refine (up_apply (M := 3840) (K := 1024) (N := 4096) (by omega) (by omega) dot_S3840x1024_S1024x4096_S3840x4096_1_0_0_1_n_n rfl (k0_pay5 (F := Ideal) x2) x6
    (k0_pay4 (F := Ideal) x2) x7 broadcasts_S3840x1_S3840x4096 broadcasts_S1x4096_S3840x4096 r l).trans ?_
  rw [pay4_apply]
  exact congrArg (fun f => prod f (fun k => x6 (ix2 k l)) * scaleOf (row x2 r) * x7 (ix2 0 l)) (funext fun k => pay5_apply x2 r k)

variable (arg0 : Memref sig .tc .vmem S3840x4096 .bf16) (harg0 : arg0.IsWhole) (arg1 : Memref sig .tc .vmem S3840x5376 .fp8e4m3) (harg1 : arg1.IsWhole) (arg2 : Memref sig .tc .vmem S3840x1024 .f32) (harg2 : arg2.IsWhole) (arg3 : Memref sig .tc .vmem S5376x4096 .fp8e4m3) (harg3 : arg3.IsWhole) (arg4 : Memref sig .tc .smem S1 .f32) (harg4 : arg4.IsWhole) (arg5 : Memref sig .tc .smem S1 .f32) (harg5 : arg5.IsWhole) (arg6 : Memref sig .tc .vmem S1024x4096 .fp8e4m3) (harg6 : arg6.IsWhole) (arg7 : Memref sig .tc .vmem S1x4096 .f32) (harg7 : arg7.IsWhole) (arg8 : Memref sig .tc .vmem S3840x4096 .bf16) (harg8 : arg8.IsWhole) (arg9 : Memref sig .tc .vmem S3840x4096 .f32) (harg9 : arg9.IsWhole) (arg10 : Memref sig .tc .vmem S3840x4096 .f32) (harg10 : arg10.IsWhole) (arg11 : Memref sig .tc .vmem S3840x1024 .fp8e4m3) (harg11 : arg11.IsWhole) (arg12 : Memref sig .tc .vmem S30x128 .f32) (harg12 : arg12.IsWhole)
  (x0 : Vec Ideal S3840x4096 .bf16) (x1 : Vec Ideal S3840x5376 .fp8e4m3) (x2 : Vec Ideal S3840x1024 .f32) (x3 : Vec Ideal S5376x4096 .fp8e4m3) (x4 : Vec Ideal S1 .f32) (x5 : Vec Ideal S1 .f32) (x6 : Vec Ideal S1024x4096 .fp8e4m3) (x7 : Vec Ideal S1x4096 .f32)

/-- The first tensor's scale. -/
theorem r_apply : kernelRun0_A.sl.r (F := Ideal) c arg5 harg5 x5 = x5 (ix1 0) :=
  (harg5.readAt_unread x5 _ _).trans (congrArg x5 (funext fun d => by
    match d with | ⟨0, _⟩ => rfl))

/-- The second tensor's scale. -/
theorem r1_apply : kernelRun0_A.sl.r_1 (F := Ideal) c arg4 harg4 x4 = x4 (ix1 0) :=
  (harg4.readAt_unread x4 _ _).trans (congrArg x4 (funext fun d => by
    match d with | ⟨0, _⟩ => rfl))

/-- A load of a whole argument reads the argument. -/
theorem whole_read {sp : Space} {s : Shape} {e : EltTy} (M : Memref sig .tc sp s e) (h : M.IsWhole) (x : s.Idx → Elt Ideal e) {off : Fin s.rank → ℕ}
    (inb : ∀ a, off a + s.size a ≤ s.size a) : View.readAt (Elt Ideal) M.view (Rect.unit off s.size inb).toLoadRect (h.unread x) = x :=
  (View.readAt_full M.view _ inb).trans (h.read_unread x)

/-- What the body leaves in the shared part. -/
theorem out9_apply (r : Fin 3840) (l : Fin 4096) : out0_A_9 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 r l)
    = sharedOf (fun k => x1 (ix2 r k)) (fun k => x3 (ix2 k l)) (x5 (ix1 0)) (x4 (ix1 0)) := by
  have e : out0_A_9 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 = kernelRun0_A.sl.r_2 (F := Ideal) c arg1 harg1 arg3 harg3 arg4 harg4 arg5 harg5 x1 x3 x4 x5 :=
    View.read_writes_full VO0_9 VO0_9.junk inb_S3840x4096_S3840x4096_0_0 _ []
  rw [e]
  unfold kernelRun0_A.sl.r_2
  rw [r_apply, r1_apply, whole_read arg1 harg1 x1, whole_read arg3 harg3 x3]
  exact pay2_apply x1 x3 _ _ r l

/-- What the body leaves in the up projection. -/
theorem out10_apply (r : Fin 3840) (l : Fin 4096) : out0_A_10 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 r l)
    = upOf (row x2 r) (fun k => x6 (ix2 k l)) (x7 (ix2 0 l)) := by
  have e : out0_A_10 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 = kernelRun0_A.sl.r_5 (F := Ideal) c arg2 harg2 arg6 harg6 arg7 harg7 x2 x6 x7 :=
    View.read_writes_full VO0_10 VO0_10.junk inb_S3840x4096_S3840x4096_0_0 _ []
  rw [e]
  unfold kernelRun0_A.sl.r_5
  rw [whole_read arg2 harg2 x2, whole_read arg6 harg6 x6, whole_read arg7 harg7 x7]
  exact pay6_apply x2 x6 x7 r l

/-- What the body leaves in the sum. -/
theorem out8_apply (r : Fin 3840) (l : Fin 4096) : out0_A_8 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 r l)
    = (x0 (ix2 r l) + sharedOf (fun k => x1 (ix2 r k)) (fun k => x3 (ix2 k l)) (x5 (ix1 0)) (x4 (ix1 0))
      + upOf (row x2 r) (fun k => x6 (ix2 k l)) (x7 (ix2 0 l)) : EReal) := by
  have e : out0_A_8 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 = kernelRun0_A.sl.r_6 (F := Ideal) c arg0 harg0 arg1 harg1 arg2 harg2 arg3 harg3 arg4 harg4 arg5 harg5 arg6 harg6 arg7 harg7 x0 x1 x2 x3 x4 x5 x6 x7 :=
    View.read_writes_full VO0_8 VO0_8.junk inb_S3840x4096_S3840x4096_0_0 _ []
  rw [e]
  unfold kernelRun0_A.sl.r_6
  rw [r_apply, r1_apply, whole_read arg0 harg0 x0, whole_read arg1 harg1 x1, whole_read arg2 harg2 x2, whole_read arg3 harg3 x3, whole_read arg6 harg6 x6, whole_read arg7 harg7 x7]
  have e1 := pay2_apply x1 x3 (x5 (ix1 0)) (x4 (ix1 0)) r l
  have e2 := pay6_apply x2 x6 x7 r l
  unfold k0_pay7
  generalize k0_pay2 (F := Ideal) x1 x3 (x5 (ix1 0)) (x4 (ix1 0)) = p at e1 ⊢
  generalize k0_pay6 (F := Ideal) x2 x6 x7 = q at e2 ⊢
  show (x0 (ix2 r l) + p (ix2 r l) + q (ix2 r l) : EReal) = _
  rw [e1, e2]

/-- What the body leaves in the codes. -/
theorem out11_apply (r : Fin 3840) (l : Fin 1024) : out0_A_11 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 r l) = codeOf (row x2 r) l := by
  have e : out0_A_11 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 = kernelRun0_A.sl.r_4 (F := Ideal) c arg2 harg2 x2 :=
    View.read_writes_full VO0_11 VO0_11.junk inb_S3840x1024_S3840x1024_0_0 _ []
  rw [e]
  unfold kernelRun0_A.sl.r_4
  rw [whole_read arg2 harg2 x2]
  exact pay5_apply x2 r l

/-- What the body leaves in the scales. -/
theorem out12_apply (r : Fin 30) (l : Fin 128) : out0_A_12 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 r l)
    = scaleOf (row x2 ⟨128 * r.val + l.val, by have := r.isLt; have := l.isLt; omega⟩) := by
  have e : out0_A_12 (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 = k0_pay1 (F := Ideal) (kernelRun0_A.sl.r_3 (F := Ideal) c arg2 harg2 x2) :=
    View.read_writes_full VO0_12 VO0_12.junk inb_S30x128_S30x128_0_0 _ []
  rw [e]
  unfold kernelRun0_A.sl.r_3
  rw [whole_read arg2 harg2 x2]
  have hr := r.isLt
  have hl := l.isLt
  refine (shapeCast_apply (s := S3840x1) (t := S30x128) (k0_pay4 (F := Ideal) x2) shapeCasts_S3840x1_S30x128 (ix2 r l) (ix2 ⟨128 * r.val + l.val, by omega⟩ 0) ?_).trans
    (pay4_apply x2 _)
  rw [Shape.rowMajor_val_two, Shape.rowMajor_val_two]
  show (128 * r.val + l.val) * 1 + 0 = r.val * 128 + l.val
  omega

/-! ## The arrays -/

/-- Argument 0 of core c. -/
abbrev ar0 : (Mat 3840 4096).Idx → EReal := m ((c : Thread nD τ).loc main_arg0)
/-- Argument 1 of core c. -/
abbrev ar1 : (Mat 3840 5376).Idx → EReal := m ((c : Thread nD τ).loc main_arg1)
/-- Argument 2 of core c. -/
abbrev ar2 : (Mat 30728 128).Idx → EReal := m ((c : Thread nD τ).loc main_arg2)
/-- Argument 3 of core c. -/
abbrev ar3 : (Mat 5376 4096).Idx → EReal := m ((c : Thread nD τ).loc main_arg3)
/-- Argument 4 of core c. -/
abbrev ar4 : (⟨1, ![1]⟩ : Shape).Idx → EReal := m ((c : Thread nD τ).loc main_arg4)
/-- Argument 5 of core c. -/
abbrev ar5 : (⟨1, ![1]⟩ : Shape).Idx → EReal := m ((c : Thread nD τ).loc main_arg5)
/-- Argument 6 of core c. -/
abbrev ar6 : (Mat 1024 4096).Idx → EReal := m ((c : Thread nD τ).loc main_arg6)
/-- Argument 7 of core c. -/
abbrev ar7 : (Mat 1 4096).Idx → EReal := m ((c : Thread nD τ).loc main_arg7)

/-- The array c, the first 30720 rows of the tiles read as 3840 rows of 1024. -/
theorem V_c : V m c main_v1 = W11 (ar2 m c) := by
  have e : V m c main_v1 = shapeCast S3840x1024 (extractStridedSlice S30720x128 ![0, 0] (ar2 m c) slices_S30728x128_S30720x128_0_0) shapeCasts_S30720x128_S3840x1024 := by
    show StableHlo.after hostOps0 _ (Proc.devRef .tc main_v1) = _
    unfold hostOps0
    after_results
    rfl
  rw [e]
  funext j
  obtain ⟨r, k, rfl⟩ : ∃ (r : Fin 3840) (k : Fin 1024), j = ix2 r k := ⟨j 0, j 1, eq_ix2 j⟩
  have hr := r.isLt
  have hk := k.isLt
  refine (shapeCast_apply (s := S30720x128) (t := S3840x1024) _ shapeCasts_S30720x128_S3840x1024 (ix2 r k)
    (ix2 ⟨8 * r.val + k.val / 128, by omega⟩ ⟨k.val % 128, Nat.mod_lt _ (by decide)⟩) ?_).trans ?_
  · rw [Shape.rowMajor_val_two, Shape.rowMajor_val_two]
    show (8 * r.val + k.val / 128) * 128 + k.val % 128 = r.val * 1024 + k.val
    omega
  · refine congrArg (ar2 m c) (funext fun d => Fin.ext ?_)
    match d with
    | ⟨0, _⟩ => show 0 + (8 * r.val + k.val / 128) = 8 * r.val + k.val / 128; omega
    | ⟨1, _⟩ => show 0 + k.val % 128 = k.val % 128; omega

/-- Window 0 is its whole array. -/
theorem iblk0 (t : Fin cfg0.N) : (iblk m c 0 t : Vec Ideal S3840x4096 .bf16) = ar0 m c := by
  have h : ∀ t : Fin cfg0.N, win0_0.index t 0 = 0 ∧ win0_0.index t 1 = 0 :=
    (by decide +kernel : ∀ t : Fin grid0.N, win0_0.index t 0 = 0 ∧ win0_0.index t 1 = 0)
  refine Eq.trans ?_ (V_main_arg0 m c)
  funext y
  show V m c main_arg0 ((win0_0.rect t).emb y) = V m c main_arg0 y
  refine congrArg (V m c main_arg0) (funext fun d => Fin.ext ?_)
  match d with
  | ⟨0, _⟩ => show win0_0.index t 0 * 3840 + 1 * (y 0).val = (y 0).val; rw [(h t).1]; omega
  | ⟨1, _⟩ => show win0_0.index t 1 * 4096 + 1 * (y 1).val = (y 1).val; rw [(h t).2]; omega

/-- Window 1 is its whole array. -/
theorem iblk1 (t : Fin cfg0.N) : (iblk m c 1 t : Vec Ideal S3840x5376 .fp8e4m3) = ar1 m c := by
  have h : ∀ t : Fin cfg0.N, win0_1.index t 0 = 0 ∧ win0_1.index t 1 = 0 :=
    (by decide +kernel : ∀ t : Fin grid0.N, win0_1.index t 0 = 0 ∧ win0_1.index t 1 = 0)
  refine Eq.trans ?_ (V_main_arg1 m c)
  funext y
  show V m c main_arg1 ((win0_1.rect t).emb y) = V m c main_arg1 y
  refine congrArg (V m c main_arg1) (funext fun d => Fin.ext ?_)
  match d with
  | ⟨0, _⟩ => show win0_1.index t 0 * 3840 + 1 * (y 0).val = (y 0).val; rw [(h t).1]; omega
  | ⟨1, _⟩ => show win0_1.index t 1 * 5376 + 1 * (y 1).val = (y 1).val; rw [(h t).2]; omega

/-- Window 3 is its whole array. -/
theorem iblk3 (t : Fin cfg0.N) : (iblk m c 3 t : Vec Ideal S5376x4096 .fp8e4m3) = ar3 m c := by
  have h : ∀ t : Fin cfg0.N, win0_3.index t 0 = 0 ∧ win0_3.index t 1 = 0 :=
    (by decide +kernel : ∀ t : Fin grid0.N, win0_3.index t 0 = 0 ∧ win0_3.index t 1 = 0)
  refine Eq.trans ?_ (V_main_arg3 m c)
  funext y
  show V m c main_arg3 ((win0_3.rect t).emb y) = V m c main_arg3 y
  refine congrArg (V m c main_arg3) (funext fun d => Fin.ext ?_)
  match d with
  | ⟨0, _⟩ => show win0_3.index t 0 * 5376 + 1 * (y 0).val = (y 0).val; rw [(h t).1]; omega
  | ⟨1, _⟩ => show win0_3.index t 1 * 4096 + 1 * (y 1).val = (y 1).val; rw [(h t).2]; omega

/-- Window 6 is its whole array. -/
theorem iblk6 (t : Fin cfg0.N) : (iblk m c 6 t : Vec Ideal S1024x4096 .fp8e4m3) = ar6 m c := by
  have h : ∀ t : Fin cfg0.N, win0_6.index t 0 = 0 ∧ win0_6.index t 1 = 0 :=
    (by decide +kernel : ∀ t : Fin grid0.N, win0_6.index t 0 = 0 ∧ win0_6.index t 1 = 0)
  refine Eq.trans ?_ (V_main_arg6 m c)
  funext y
  show V m c main_arg6 ((win0_6.rect t).emb y) = V m c main_arg6 y
  refine congrArg (V m c main_arg6) (funext fun d => Fin.ext ?_)
  match d with
  | ⟨0, _⟩ => show win0_6.index t 0 * 1024 + 1 * (y 0).val = (y 0).val; rw [(h t).1]; omega
  | ⟨1, _⟩ => show win0_6.index t 1 * 4096 + 1 * (y 1).val = (y 1).val; rw [(h t).2]; omega

/-- Window 7 is its whole array. -/
theorem iblk7 (t : Fin cfg0.N) : (iblk m c 7 t : Vec Ideal S1x4096 .f32) = ar7 m c := by
  have h : ∀ t : Fin cfg0.N, win0_7.index t 0 = 0 ∧ win0_7.index t 1 = 0 :=
    (by decide +kernel : ∀ t : Fin grid0.N, win0_7.index t 0 = 0 ∧ win0_7.index t 1 = 0)
  refine Eq.trans ?_ (V_main_arg7 m c)
  funext y
  show V m c main_arg7 ((win0_7.rect t).emb y) = V m c main_arg7 y
  refine congrArg (V m c main_arg7) (funext fun d => Fin.ext ?_)
  match d with
  | ⟨0, _⟩ => show win0_7.index t 0 * 1 + 1 * (y 0).val = (y 0).val; rw [(h t).1]; omega
  | ⟨1, _⟩ => show win0_7.index t 1 * 4096 + 1 * (y 1).val = (y 1).val; rw [(h t).2]; omega

/-- Window 2 is its whole array. -/
theorem iblk2 (t : Fin cfg0.N) : (iblk m c 2 t : Vec Ideal S3840x1024 .f32) = W11 (ar2 m c) := by
  have h : ∀ t : Fin cfg0.N, win0_2.index t 0 = 0 ∧ win0_2.index t 1 = 0 :=
    (by decide +kernel : ∀ t : Fin grid0.N, win0_2.index t 0 = 0 ∧ win0_2.index t 1 = 0)
  refine Eq.trans ?_ (V_c m c)
  funext y
  show V m c main_v1 ((win0_2.rect t).emb y) = V m c main_v1 y
  refine congrArg (V m c main_v1) (funext fun d => Fin.ext ?_)
  match d with
  | ⟨0, _⟩ => show win0_2.index t 0 * 3840 + 1 * (y 0).val = (y 0).val; rw [(h t).1]; omega
  | ⟨1, _⟩ => show win0_2.index t 1 * 1024 + 1 * (y 1).val = (y 1).val; rw [(h t).2]; omega

/-- Window 4 is its whole array. -/
theorem iblk4 (t : Fin cfg0.N) : (iblk m c 4 t : Vec Ideal S1 .f32) = ar4 m c := by
  have h : ∀ t : Fin cfg0.N, win0_4.index t 0 = 0 := (by decide +kernel : ∀ t : Fin grid0.N, win0_4.index t 0 = 0)
  refine Eq.trans ?_ (V_main_arg4 m c)
  funext y
  show V m c main_arg4 ((win0_4.rect t).emb y) = V m c main_arg4 y
  refine congrArg (V m c main_arg4) (funext fun d => Fin.ext ?_)
  match d with
  | ⟨0, _⟩ => show win0_4.index t 0 * 1 + 1 * (y 0).val = (y 0).val; rw [h t]; omega

/-- Window 5 is its whole array. -/
theorem iblk5 (t : Fin cfg0.N) : (iblk m c 5 t : Vec Ideal S1 .f32) = ar5 m c := by
  have h : ∀ t : Fin cfg0.N, win0_5.index t 0 = 0 := (by decide +kernel : ∀ t : Fin grid0.N, win0_5.index t 0 = 0)
  refine Eq.trans ?_ (V_main_arg5 m c)
  funext y
  show V m c main_arg5 ((win0_5.rect t).emb y) = V m c main_arg5 y
  refine congrArg (V m c main_arg5) (funext fun d => Fin.ext ?_)
  match d with
  | ⟨0, _⟩ => show win0_5.index t 0 * 1 + 1 * (y 0).val = (y 0).val; rw [h t]; omega

/-- A window of one block, whole. -/
theorem cut8_eq (t : Fin cfg0.N) (G T : (Mat 3840 4096).Idx → EReal) (hG : ∀ (r : Fin 3840) (l : Fin 4096), G (ix2 r l) = T (ix2 r l)) :
    (cfg0.win 8).cut (grid0.coords t) G = ((cfg0.win 8).blk t).view.read (Elt Ideal) T := by
  have hi : ∀ t : Fin cfg0.N, win0_8.index t 0 = 0 ∧ win0_8.index t 1 = 0 :=
    (by decide +kernel : ∀ t : Fin grid0.N, win0_8.index t 0 = 0 ∧ win0_8.index t 1 = 0)
  funext j
  have h0 : (j 0).val < 3840 := lt_of_lt_of_le (j 0).isLt ((cfg0.win 8).xsize_le (grid0.coords t) 0)
  have h1 : (j 1).val < 4096 := lt_of_lt_of_le (j 1).isLt ((cfg0.win 8).xsize_le (grid0.coords t) 1)
  refine (congrArg G (?_ : _ = ix2 (⟨(j 0).val, h0⟩ : Fin 3840) (⟨(j 1).val, h1⟩ : Fin 4096))).trans ((hG _ _).trans ?_)
  · funext d
    match d with
    | ⟨0, _⟩ => rfl
    | ⟨1, _⟩ => rfl
  · show _ = T ((win0_8.rect t).emb j)
    refine congrArg T (funext fun d => Fin.ext ?_)
    match d with
    | ⟨0, _⟩ => show (j 0).val = win0_8.index t 0 * 3840 + 1 * (j 0).val; rw [(hi t).1]; omega
    | ⟨1, _⟩ => show (j 1).val = win0_8.index t 1 * 4096 + 1 * (j 1).val; rw [(hi t).2]; omega

/-- What the one point writes back to the array of window 8 is that array. -/
theorem flushed8_eq (t : Fin cfg0.N) :
    (dats m 0 c).flushed 8 t = ((cfg0.win 8).blk t).view.read (Elt Ideal) (W8 (ar0 m c) (ar1 m c) (ar2 m c) (ar3 m c) (ar4 m c) (ar5 m c) (ar6 m c) (ar7 m c)) := by
  rw [Value.flushed8_A]
  refine cut8_eq t _ _ fun r l => ?_
  rw [out8_apply, iblk0, iblk1, iblk2, iblk3, iblk4, iblk5, iblk6, iblk7]
  rfl

/-- Every index is in the one block. -/
theorem covered8 (i : (Mat 3840 4096).Idx) : ∃ t : Fin cfg0.N, (cfg0.win 8).flush t = true ∧ i ∈ ((cfg0.win 8).blk t).view.set := by
  have h0 : (i 0).val < 3840 := (i 0).isLt
  have h1 : (i 1).val < 4096 := (i 1).isLt
  refine ⟨⟨0, by decide⟩, flush0_8 _, ?_⟩
  generalize (⟨0, by decide⟩ : Fin cfg0.N) = t
  have hi : ∀ t : Fin cfg0.N, win0_8.index t 0 = 0 ∧ win0_8.index t 1 = 0 :=
    (by decide +kernel : ∀ t : Fin grid0.N, win0_8.index t 0 = 0 ∧ win0_8.index t 1 = 0)
  have hx : ∀ t : Fin cfg0.N, win0_8.xsize (grid0.coords t) 0 = 3840 ∧ win0_8.xsize (grid0.coords t) 1 = 4096 :=
    (by decide +kernel : ∀ t : Fin grid0.N, win0_8.xsize (grid0.coords t) 0 = 3840 ∧ win0_8.xsize (grid0.coords t) 1 = 4096)
  show i ∈ ((View.whole main_v2_0).slice (win0_8.rect t)).set
  rw [View.set_slice_whole, Rect.mem_set_unit]
  intro d
  match d with
  | ⟨0, _⟩ => show win0_8.index t 0 * 3840 ≤ (i 0).val ∧ (i 0).val < win0_8.index t 0 * 3840 + win0_8.xsize (grid0.coords t) 0
              rw [(hi t).1, (hx t).1]; omega
  | ⟨1, _⟩ => show win0_8.index t 1 * 4096 ≤ (i 1).val ∧ (i 1).val < win0_8.index t 1 * 4096 + win0_8.xsize (grid0.coords t) 1
              rw [(hi t).2, (hx t).2]; omega

/-- So the array ends as the whole function. -/
theorem final8 : (dats m 0 c).arrAt 8 cfg0.N = W8 (ar0 m c) (ar1 m c) (ar2 m c) (ar3 m c) (ar4 m c) (ar5 m c) (ar6 m c) (ar7 m c) :=
  (dats m 0 c).arrAt_eq_of_cover 8 (W8 (ar0 m c) (ar1 m c) (ar2 m c) (ar3 m c) (ar4 m c) (ar5 m c) (ar6 m c) (ar7 m c)) (fun t _ => flushed8_eq m c t) covered8

/-- A window of one block, whole. -/
theorem cut9_eq (t : Fin cfg0.N) (G T : (Mat 3840 4096).Idx → EReal) (hG : ∀ (r : Fin 3840) (l : Fin 4096), G (ix2 r l) = T (ix2 r l)) :
    (cfg0.win 9).cut (grid0.coords t) G = ((cfg0.win 9).blk t).view.read (Elt Ideal) T := by
  have hi : ∀ t : Fin cfg0.N, win0_9.index t 0 = 0 ∧ win0_9.index t 1 = 0 :=
    (by decide +kernel : ∀ t : Fin grid0.N, win0_9.index t 0 = 0 ∧ win0_9.index t 1 = 0)
  funext j
  have h0 : (j 0).val < 3840 := lt_of_lt_of_le (j 0).isLt ((cfg0.win 9).xsize_le (grid0.coords t) 0)
  have h1 : (j 1).val < 4096 := lt_of_lt_of_le (j 1).isLt ((cfg0.win 9).xsize_le (grid0.coords t) 1)
  refine (congrArg G (?_ : _ = ix2 (⟨(j 0).val, h0⟩ : Fin 3840) (⟨(j 1).val, h1⟩ : Fin 4096))).trans ((hG _ _).trans ?_)
  · funext d
    match d with
    | ⟨0, _⟩ => rfl
    | ⟨1, _⟩ => rfl
  · show _ = T ((win0_9.rect t).emb j)
    refine congrArg T (funext fun d => Fin.ext ?_)
    match d with
    | ⟨0, _⟩ => show (j 0).val = win0_9.index t 0 * 3840 + 1 * (j 0).val; rw [(hi t).1]; omega
    | ⟨1, _⟩ => show (j 1).val = win0_9.index t 1 * 4096 + 1 * (j 1).val; rw [(hi t).2]; omega

/-- What the one point writes back to the array of window 9 is that array. -/
theorem flushed9_eq (t : Fin cfg0.N) :
    (dats m 0 c).flushed 9 t = ((cfg0.win 9).blk t).view.read (Elt Ideal) (W9 (ar1 m c) (ar3 m c) (ar4 m c) (ar5 m c)) := by
  rw [Value.flushed9_A]
  refine cut9_eq t _ _ fun r l => ?_
  rw [out9_apply, iblk1, iblk3, iblk4, iblk5]
  rfl

/-- Every index is in the one block. -/
theorem covered9 (i : (Mat 3840 4096).Idx) : ∃ t : Fin cfg0.N, (cfg0.win 9).flush t = true ∧ i ∈ ((cfg0.win 9).blk t).view.set := by
  have h0 : (i 0).val < 3840 := (i 0).isLt
  have h1 : (i 1).val < 4096 := (i 1).isLt
  refine ⟨⟨0, by decide⟩, flush0_9 _, ?_⟩
  generalize (⟨0, by decide⟩ : Fin cfg0.N) = t
  have hi : ∀ t : Fin cfg0.N, win0_9.index t 0 = 0 ∧ win0_9.index t 1 = 0 :=
    (by decide +kernel : ∀ t : Fin grid0.N, win0_9.index t 0 = 0 ∧ win0_9.index t 1 = 0)
  have hx : ∀ t : Fin cfg0.N, win0_9.xsize (grid0.coords t) 0 = 3840 ∧ win0_9.xsize (grid0.coords t) 1 = 4096 :=
    (by decide +kernel : ∀ t : Fin grid0.N, win0_9.xsize (grid0.coords t) 0 = 3840 ∧ win0_9.xsize (grid0.coords t) 1 = 4096)
  show i ∈ ((View.whole main_v2_1).slice (win0_9.rect t)).set
  rw [View.set_slice_whole, Rect.mem_set_unit]
  intro d
  match d with
  | ⟨0, _⟩ => show win0_9.index t 0 * 3840 ≤ (i 0).val ∧ (i 0).val < win0_9.index t 0 * 3840 + win0_9.xsize (grid0.coords t) 0
              rw [(hi t).1, (hx t).1]; omega
  | ⟨1, _⟩ => show win0_9.index t 1 * 4096 ≤ (i 1).val ∧ (i 1).val < win0_9.index t 1 * 4096 + win0_9.xsize (grid0.coords t) 1
              rw [(hi t).2, (hx t).2]; omega

/-- So the array ends as the whole function. -/
theorem final9 : (dats m 0 c).arrAt 9 cfg0.N = W9 (ar1 m c) (ar3 m c) (ar4 m c) (ar5 m c) :=
  (dats m 0 c).arrAt_eq_of_cover 9 (W9 (ar1 m c) (ar3 m c) (ar4 m c) (ar5 m c)) (fun t _ => flushed9_eq m c t) covered9

/-- A window of one block, whole. -/
theorem cut10_eq (t : Fin cfg0.N) (G T : (Mat 3840 4096).Idx → EReal) (hG : ∀ (r : Fin 3840) (l : Fin 4096), G (ix2 r l) = T (ix2 r l)) :
    (cfg0.win 10).cut (grid0.coords t) G = ((cfg0.win 10).blk t).view.read (Elt Ideal) T := by
  have hi : ∀ t : Fin cfg0.N, win0_10.index t 0 = 0 ∧ win0_10.index t 1 = 0 :=
    (by decide +kernel : ∀ t : Fin grid0.N, win0_10.index t 0 = 0 ∧ win0_10.index t 1 = 0)
  funext j
  have h0 : (j 0).val < 3840 := lt_of_lt_of_le (j 0).isLt ((cfg0.win 10).xsize_le (grid0.coords t) 0)
  have h1 : (j 1).val < 4096 := lt_of_lt_of_le (j 1).isLt ((cfg0.win 10).xsize_le (grid0.coords t) 1)
  refine (congrArg G (?_ : _ = ix2 (⟨(j 0).val, h0⟩ : Fin 3840) (⟨(j 1).val, h1⟩ : Fin 4096))).trans ((hG _ _).trans ?_)
  · funext d
    match d with
    | ⟨0, _⟩ => rfl
    | ⟨1, _⟩ => rfl
  · show _ = T ((win0_10.rect t).emb j)
    refine congrArg T (funext fun d => Fin.ext ?_)
    match d with
    | ⟨0, _⟩ => show (j 0).val = win0_10.index t 0 * 3840 + 1 * (j 0).val; rw [(hi t).1]; omega
    | ⟨1, _⟩ => show (j 1).val = win0_10.index t 1 * 4096 + 1 * (j 1).val; rw [(hi t).2]; omega

/-- What the one point writes back to the array of window 10 is that array. -/
theorem flushed10_eq (t : Fin cfg0.N) :
    (dats m 0 c).flushed 10 t = ((cfg0.win 10).blk t).view.read (Elt Ideal) (W10 (ar2 m c) (ar6 m c) (ar7 m c)) := by
  rw [Value.flushed10_A]
  refine cut10_eq t _ _ fun r l => ?_
  rw [out10_apply, iblk2, iblk6, iblk7]
  rfl

/-- Every index is in the one block. -/
theorem covered10 (i : (Mat 3840 4096).Idx) : ∃ t : Fin cfg0.N, (cfg0.win 10).flush t = true ∧ i ∈ ((cfg0.win 10).blk t).view.set := by
  have h0 : (i 0).val < 3840 := (i 0).isLt
  have h1 : (i 1).val < 4096 := (i 1).isLt
  refine ⟨⟨0, by decide⟩, flush0_10 _, ?_⟩
  generalize (⟨0, by decide⟩ : Fin cfg0.N) = t
  have hi : ∀ t : Fin cfg0.N, win0_10.index t 0 = 0 ∧ win0_10.index t 1 = 0 :=
    (by decide +kernel : ∀ t : Fin grid0.N, win0_10.index t 0 = 0 ∧ win0_10.index t 1 = 0)
  have hx : ∀ t : Fin cfg0.N, win0_10.xsize (grid0.coords t) 0 = 3840 ∧ win0_10.xsize (grid0.coords t) 1 = 4096 :=
    (by decide +kernel : ∀ t : Fin grid0.N, win0_10.xsize (grid0.coords t) 0 = 3840 ∧ win0_10.xsize (grid0.coords t) 1 = 4096)
  show i ∈ ((View.whole main_v2_2).slice (win0_10.rect t)).set
  rw [View.set_slice_whole, Rect.mem_set_unit]
  intro d
  match d with
  | ⟨0, _⟩ => show win0_10.index t 0 * 3840 ≤ (i 0).val ∧ (i 0).val < win0_10.index t 0 * 3840 + win0_10.xsize (grid0.coords t) 0
              rw [(hi t).1, (hx t).1]; omega
  | ⟨1, _⟩ => show win0_10.index t 1 * 4096 ≤ (i 1).val ∧ (i 1).val < win0_10.index t 1 * 4096 + win0_10.xsize (grid0.coords t) 1
              rw [(hi t).2, (hx t).2]; omega

/-- So the array ends as the whole function. -/
theorem final10 : (dats m 0 c).arrAt 10 cfg0.N = W10 (ar2 m c) (ar6 m c) (ar7 m c) :=
  (dats m 0 c).arrAt_eq_of_cover 10 (W10 (ar2 m c) (ar6 m c) (ar7 m c)) (fun t _ => flushed10_eq m c t) covered10

/-- A window of one block, whole. -/
theorem cut11_eq (t : Fin cfg0.N) (G T : (Mat 3840 1024).Idx → EReal) (hG : ∀ (r : Fin 3840) (l : Fin 1024), G (ix2 r l) = T (ix2 r l)) :
    (cfg0.win 11).cut (grid0.coords t) G = ((cfg0.win 11).blk t).view.read (Elt Ideal) T := by
  have hi : ∀ t : Fin cfg0.N, win0_11.index t 0 = 0 ∧ win0_11.index t 1 = 0 :=
    (by decide +kernel : ∀ t : Fin grid0.N, win0_11.index t 0 = 0 ∧ win0_11.index t 1 = 0)
  funext j
  have h0 : (j 0).val < 3840 := lt_of_lt_of_le (j 0).isLt ((cfg0.win 11).xsize_le (grid0.coords t) 0)
  have h1 : (j 1).val < 1024 := lt_of_lt_of_le (j 1).isLt ((cfg0.win 11).xsize_le (grid0.coords t) 1)
  refine (congrArg G (?_ : _ = ix2 (⟨(j 0).val, h0⟩ : Fin 3840) (⟨(j 1).val, h1⟩ : Fin 1024))).trans ((hG _ _).trans ?_)
  · funext d
    match d with
    | ⟨0, _⟩ => rfl
    | ⟨1, _⟩ => rfl
  · show _ = T ((win0_11.rect t).emb j)
    refine congrArg T (funext fun d => Fin.ext ?_)
    match d with
    | ⟨0, _⟩ => show (j 0).val = win0_11.index t 0 * 3840 + 1 * (j 0).val; rw [(hi t).1]; omega
    | ⟨1, _⟩ => show (j 1).val = win0_11.index t 1 * 1024 + 1 * (j 1).val; rw [(hi t).2]; omega

/-- What the one point writes back to the array of window 11 is that array. -/
theorem flushed11_eq (t : Fin cfg0.N) :
    (dats m 0 c).flushed 11 t = ((cfg0.win 11).blk t).view.read (Elt Ideal) (W12 (ar2 m c)) := by
  rw [Value.flushed11_A]
  refine cut11_eq t _ _ fun r l => ?_
  rw [out11_apply, iblk2]
  rfl

/-- Every index is in the one block. -/
theorem covered11 (i : (Mat 3840 1024).Idx) : ∃ t : Fin cfg0.N, (cfg0.win 11).flush t = true ∧ i ∈ ((cfg0.win 11).blk t).view.set := by
  have h0 : (i 0).val < 3840 := (i 0).isLt
  have h1 : (i 1).val < 1024 := (i 1).isLt
  refine ⟨⟨0, by decide⟩, flush0_11 _, ?_⟩
  generalize (⟨0, by decide⟩ : Fin cfg0.N) = t
  have hi : ∀ t : Fin cfg0.N, win0_11.index t 0 = 0 ∧ win0_11.index t 1 = 0 :=
    (by decide +kernel : ∀ t : Fin grid0.N, win0_11.index t 0 = 0 ∧ win0_11.index t 1 = 0)
  have hx : ∀ t : Fin cfg0.N, win0_11.xsize (grid0.coords t) 0 = 3840 ∧ win0_11.xsize (grid0.coords t) 1 = 1024 :=
    (by decide +kernel : ∀ t : Fin grid0.N, win0_11.xsize (grid0.coords t) 0 = 3840 ∧ win0_11.xsize (grid0.coords t) 1 = 1024)
  show i ∈ ((View.whole main_v2_3).slice (win0_11.rect t)).set
  rw [View.set_slice_whole, Rect.mem_set_unit]
  intro d
  match d with
  | ⟨0, _⟩ => show win0_11.index t 0 * 3840 ≤ (i 0).val ∧ (i 0).val < win0_11.index t 0 * 3840 + win0_11.xsize (grid0.coords t) 0
              rw [(hi t).1, (hx t).1]; omega
  | ⟨1, _⟩ => show win0_11.index t 1 * 1024 ≤ (i 1).val ∧ (i 1).val < win0_11.index t 1 * 1024 + win0_11.xsize (grid0.coords t) 1
              rw [(hi t).2, (hx t).2]; omega

/-- So the array ends as the whole function. -/
theorem final11 : (dats m 0 c).arrAt 11 cfg0.N = W12 (ar2 m c) :=
  (dats m 0 c).arrAt_eq_of_cover 11 (W12 (ar2 m c)) (fun t _ => flushed11_eq m c t) covered11

/-- A window of one block, whole. -/
theorem cut12_eq (t : Fin cfg0.N) (G T : (Mat 30 128).Idx → EReal) (hG : ∀ (r : Fin 30) (l : Fin 128), G (ix2 r l) = T (ix2 r l)) :
    (cfg0.win 12).cut (grid0.coords t) G = ((cfg0.win 12).blk t).view.read (Elt Ideal) T := by
  have hi : ∀ t : Fin cfg0.N, win0_12.index t 0 = 0 ∧ win0_12.index t 1 = 0 :=
    (by decide +kernel : ∀ t : Fin grid0.N, win0_12.index t 0 = 0 ∧ win0_12.index t 1 = 0)
  funext j
  have h0 : (j 0).val < 30 := lt_of_lt_of_le (j 0).isLt ((cfg0.win 12).xsize_le (grid0.coords t) 0)
  have h1 : (j 1).val < 128 := lt_of_lt_of_le (j 1).isLt ((cfg0.win 12).xsize_le (grid0.coords t) 1)
  refine (congrArg G (?_ : _ = ix2 (⟨(j 0).val, h0⟩ : Fin 30) (⟨(j 1).val, h1⟩ : Fin 128))).trans ((hG _ _).trans ?_)
  · funext d
    match d with
    | ⟨0, _⟩ => rfl
    | ⟨1, _⟩ => rfl
  · show _ = T ((win0_12.rect t).emb j)
    refine congrArg T (funext fun d => Fin.ext ?_)
    match d with
    | ⟨0, _⟩ => show (j 0).val = win0_12.index t 0 * 30 + 1 * (j 0).val; rw [(hi t).1]; omega
    | ⟨1, _⟩ => show (j 1).val = win0_12.index t 1 * 128 + 1 * (j 1).val; rw [(hi t).2]; omega

/-- What the one point writes back to the array of window 12 is that array. -/
theorem flushed12_eq (t : Fin cfg0.N) :
    (dats m 0 c).flushed 12 t = ((cfg0.win 12).blk t).view.read (Elt Ideal) (W13 (ar2 m c)) := by
  rw [Value.flushed12_A]
  refine cut12_eq t _ _ fun r l => ?_
  rw [out12_apply, iblk2]
  rfl

/-- Every index is in the one block. -/
theorem covered12 (i : (Mat 30 128).Idx) : ∃ t : Fin cfg0.N, (cfg0.win 12).flush t = true ∧ i ∈ ((cfg0.win 12).blk t).view.set := by
  have h0 : (i 0).val < 30 := (i 0).isLt
  have h1 : (i 1).val < 128 := (i 1).isLt
  refine ⟨⟨0, by decide⟩, flush0_12 _, ?_⟩
  generalize (⟨0, by decide⟩ : Fin cfg0.N) = t
  have hi : ∀ t : Fin cfg0.N, win0_12.index t 0 = 0 ∧ win0_12.index t 1 = 0 :=
    (by decide +kernel : ∀ t : Fin grid0.N, win0_12.index t 0 = 0 ∧ win0_12.index t 1 = 0)
  have hx : ∀ t : Fin cfg0.N, win0_12.xsize (grid0.coords t) 0 = 30 ∧ win0_12.xsize (grid0.coords t) 1 = 128 :=
    (by decide +kernel : ∀ t : Fin grid0.N, win0_12.xsize (grid0.coords t) 0 = 30 ∧ win0_12.xsize (grid0.coords t) 1 = 128)
  show i ∈ ((View.whole main_v2_4).slice (win0_12.rect t)).set
  rw [View.set_slice_whole, Rect.mem_set_unit]
  intro d
  match d with
  | ⟨0, _⟩ => show win0_12.index t 0 * 30 ≤ (i 0).val ∧ (i 0).val < win0_12.index t 0 * 30 + win0_12.xsize (grid0.coords t) 0
              rw [(hi t).1, (hx t).1]; omega
  | ⟨1, _⟩ => show win0_12.index t 1 * 128 ≤ (i 1).val ∧ (i 1).val < win0_12.index t 1 * 128 + win0_12.xsize (grid0.coords t) 1
              rw [(hi t).2, (hx t).2]; omega

/-- So the array ends as the whole function. -/
theorem final12 : (dats m 0 c).arrAt 12 cfg0.N = W13 (ar2 m c) :=
  (dats m 0 c).arrAt_eq_of_cover 12 (W13 (ar2 m c)) (fun t _ => flushed12_eq m c t) covered12

/-- The run with every result and every argument named. -/
theorem run_values : θ_run defs (onTc (τ := τ) (main (F := Ideal))) ⟨m, fun _ => 0, ρ⟩ fun r => ∀ c : Dev nD,
      r.2.mem ((c : Thread nD τ).loc main_v2_0) = W8 (ar0 m c) (ar1 m c) (ar2 m c) (ar3 m c) (ar4 m c) (ar5 m c) (ar6 m c) (ar7 m c)
      ∧ r.2.mem ((c : Thread nD τ).loc main_v2_1) = W9 (ar1 m c) (ar3 m c) (ar4 m c) (ar5 m c)
      ∧ r.2.mem ((c : Thread nD τ).loc main_v2_2) = W10 (ar2 m c) (ar6 m c) (ar7 m c)
      ∧ r.2.mem ((c : Thread nD τ).loc main_v1) = W11 (ar2 m c)
      ∧ r.2.mem ((c : Thread nD τ).loc main_v2_3) = W12 (ar2 m c)
      ∧ r.2.mem ((c : Thread nD τ).loc main_v2_4) = W13 (ar2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(Value.post8 m r h c).trans (final8 m c), (Value.post9 m r h c).trans (final9 m c), (Value.post10 m r h c).trans (final10 m c),
    ((h c).1 2).trans (((dats m 0 c).arrAt_in 2 rfl _).trans ((A_eq m c 2).trans (V_c m c))),
    (Value.post11 m r h c).trans (final11 m c), (Value.post12 m r h c).trans (final12 m c),
    Value.kept_main_arg0 m r h c, Value.kept_main_arg1 m r h c, Value.kept_main_arg2 m r h c, Value.kept_main_arg3 m r h c,
    Value.kept_main_arg4 m r h c, Value.kept_main_arg5 m r h c, Value.kept_main_arg6 m r h c, Value.kept_main_arg7 m r h c⟩) (run_main m ρ)

end Cert.BackRefIdeal.Hand

end
-- ==== Proof.FrontWordRun.lean ====
module

public import proofs.«01_k».proof.Proof.Gen.Front.Skeleton
public import proofs.«01_k».proof.Proof.Gen.Front.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Front.Hand

open Cert.Front Cert.Front.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The kernel body on any staging memrefs: a subtype the run finds -/

/-- One staging buffer of output window 8, through which its contents are stated (`View.read_writes_of_cover`: the
    choice does not matter). -/
abbrev VO0_8 : View sig .tc .vmem S256x5376 .f32 := (Memref.whole cc0_stg8_0 : Memref sig .tc .vmem S256x5376 .f32).view
/-- One staging buffer of output window 9, through which its contents are stated (`View.read_writes_of_cover`: the
    choice does not matter). -/
abbrev VO0_9 : View sig .tc .vmem S256x1024 .f32 := (Memref.whole cc0_stg9_0 : Memref sig .tc .vmem S256x1024 .f32).view
/-- One staging buffer of output window 10, through which its contents are stated (`View.read_writes_of_cover`: the
    choice does not matter). -/
abbrev VO0_10 : View sig .tc .vmem S256x4096 .fp8e4m3 := (Memref.whole cc0_stg10_0 : Memref sig .tc .vmem S256x4096 .fp8e4m3).view
/-- One staging buffer of output window 11, through which its contents are stated (`View.read_writes_of_cover`: the
    choice does not matter). -/
abbrev VO0_11 : View sig .tc .vmem S256x5376 .fp8e4m3 := (Memref.whole cc0_stg11_0 : Memref sig .tc .vmem S256x5376 .fp8e4m3).view
/-- One staging buffer of output window 12, through which its contents are stated (`View.read_writes_of_cover`: the
    choice does not matter). -/
abbrev VO0_12 : View sig .tc .vmem S256x1024 .i8 := (Memref.whole cc0_stg12_0 : Memref sig .tc .vmem S256x1024 .i8).view
/-- One staging buffer of output window 13, through which its contents are stated (`View.read_writes_of_cover`: the
    choice does not matter). -/
abbrev VO0_13 : View sig .tc .vmem S256x32 .i8 := (Memref.whole cc0_stg13_0 : Memref sig .tc .vmem S256x32 .i8).view
/-- One staging buffer of output window 14, through which its contents are stated (`View.read_writes_of_cover`: the
    choice does not matter). -/
abbrev VO0_14 : View sig .tc .vmem S1024x128 .i32 := (Memref.whole cc0_stg14_0 : Memref sig .tc .vmem S1024x128 .i32).view
/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x5376 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x1024 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x5376 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x4096 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x5376 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1024 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x32 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x128 .i32 := win0_14.stage (cfg0.slots t 14)
abbrev hs0_14 (t : Fin cfg0.N) : (ms0_14 t).IsWhole := hstage0_14 ((cfg0.slots t 14).cast nbuf0_14)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) :
    Σ' (L8 : List (View.Piece (Elt F) S256x5376 .f32)), Σ' (L9 : List (View.Piece (Elt F) S256x1024 .f32)), Σ' (L10 : List (View.Piece (Elt F) S256x4096 .fp8e4m3)), Σ' (L11 : List (View.Piece (Elt F) S256x5376 .fp8e4m3)), Σ' (L12 : List (View.Piece (Elt F) S256x1024 .i8)), Σ' (L13 : List (View.Piece (Elt F) S256x32 .i8)), { L14 : List (View.Piece (Elt F) S1024x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc0_front_eq_skeleton]; unfold cc0_front_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.Front.Hand

end
-- ==== Proof.FrontWordFrame.lean ====
module

public import proofs.«01_k».proof.Proof.FrontWordRun
public import Idealize.ShloMosaic.Lib.Claim

@[expose] public section

-- membership in a rectangle of production extents (`View.cover_of_tiled`): the elaborator's structural look
-- recurses once per coordinate of the long axes
set_option maxRecDepth 16384

noncomputable section

namespace Cert.Front.Hand

open Cert.Front Cert.Front.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 8 tile its block (7 stores of `S256x768`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) (y : S256x5376.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1 S256x768.size (by sl_kernel_rfl) y

/-- What the run leaves in output 8's staging buffer: its pieces read back over junk. -/
def out0_A_8 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) : Vec F S256x5376 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1)

/-- The run's pieces for output 9 tile its block (1 store of `S256x1024`, checked by the kernel's evaluation: Lib/Ring.lean `Piece.tiledL`, linear in the pieces, through a loop's `@[irreducible]` trip theorem too), so they cover it. -/
theorem cover0_A_9 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1 S256x1024.size (by sl_kernel_rfl) y

/-- What the run leaves in output 9's staging buffer: its pieces read back over junk. -/
def out0_A_9 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) : Vec F S256x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1)

/-- The run's pieces for output 10 tile its block (1 store of `S256x4096`, checked by the kernel's evaluation: Lib/Ring.lean `Piece.tiledL`, linear in the pieces, through a loop's `@[irreducible]` trip theorem too), so they cover it. -/
theorem cover0_A_10 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) (y : S256x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1 S256x4096.size (by sl_kernel_rfl) y

/-- What the run leaves in output 10's staging buffer: its pieces read back over junk. -/
def out0_A_10 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) : Vec F S256x4096 .fp8e4m3 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1)

/-- The run's pieces for output 11 tile its block (7 stores of `S256x768`, checked by the kernel's evaluation: Lib/Ring.lean `Piece.tiledL`, linear in the pieces, through a loop's `@[irreducible]` trip theorem too), so they cover it. -/
theorem cover0_A_11 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) (y : S256x5376.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1 S256x768.size (by sl_kernel_rfl) y

/-- What the run leaves in output 11's staging buffer: its pieces read back over junk. -/
def out0_A_11 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) : Vec F S256x5376 .fp8e4m3 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1)

/-- The run's pieces for output 12 tile its block (2 stores of `S256x512`, checked by the kernel's evaluation: Lib/Ring.lean `Piece.tiledL`, linear in the pieces, through a loop's `@[irreducible]` trip theorem too), so they cover it. -/
theorem cover0_A_12 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1 S256x512.size (by sl_kernel_rfl) y

/-- What the run leaves in output 12's staging buffer: its pieces read back over junk. -/
def out0_A_12 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) : Vec F S256x1024 .i8 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1)

/-- The run's pieces for output 13 tile its block (1 store of `S256x32`, checked by the kernel's evaluation: Lib/Ring.lean `Piece.tiledL`, linear in the pieces, through a loop's `@[irreducible]` trip theorem too), so they cover it. -/
theorem cover0_A_13 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) (y : S256x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2.1 S256x32.size (by sl_kernel_rfl) y

/-- What the run leaves in output 13's staging buffer: its pieces read back over junk. -/
def out0_A_13 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) : Vec F S256x32 .i8 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2.1)

/-- The rectangle of every fourth row from row `a` on holds the elements whose row is `a` modulo four. -/
theorem stride_mem (a : ℕ) (y : S1024x128.Idx) (hy : (y 0).val % 4 = a)
    (inb : ∀ d, (![256, 128] : Fin 2 → ℕ) d = 0 ∨ (![a, 0] : Fin 2 → ℕ) d + (![4, 1] : Fin 2 → ℕ) d * ((![256, 128] : Fin 2 → ℕ) d - 1) < S1024x128.size d)
    (pos : ∀ d, 0 < (![4, 1] : Fin 2 → ℕ) d) :
    y ∈ (Rect.mk (s := S1024x128) ⟨![a, 0], ![256, 128], ![4, 1], inb⟩ pos).set := by
  have h0 : (y 0).val < 1024 := (y 0).isLt
  have h1 : (y 1).val < 128 := (y 1).isLt
  refine (LoadRect.mem_set _).mpr fun d => ?_
  match d with
  | ⟨0, _⟩ => exact ⟨(y 0).val / 4, by show _ < 256; omega, by show (y 0).val = a + 4 * _; omega⟩
  | ⟨1, _⟩ => exact ⟨(y 1).val, h1, by show (y 1).val = 0 + 1 * _; omega⟩

/-- The run's four stores into output 14, each at every fourth row from row 0, 1, 2, 3 on, cover its block. -/
theorem cover0_A_14 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) (y : S1024x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2.2.1, y ∈ pc.1.set := by
  unfold kernelRun0_A; dsimp only
  simp only [List.mem_cons, List.not_mem_nil, or_false, exists_eq_or_imp, exists_eq_left]
  have h : (y 0).val % 4 = 3 ∨ (y 0).val % 4 = 2 ∨ (y 0).val % 4 = 1 ∨ (y 0).val % 4 = 0 := by omega
  rcases h with h | h | h | h
  · exact Or.inl (stride_mem 3 y h inb_S1024x128_S256x128_3_0_s_4_1 spos_4_1)
  · exact Or.inr (Or.inl (stride_mem 2 y h inb_S1024x128_S256x128_2_0_s_4_1 spos_4_1))
  · exact Or.inr (Or.inr (Or.inl (stride_mem 1 y h inb_S1024x128_S256x128_1_0_s_4_1 spos_4_1)))
  · exact Or.inr (Or.inr (Or.inr (stride_mem 0 y h inb_S1024x128_S256x128_0_0_s_4_1 spos_4_1)))

/-- What the run leaves in output 14's staging buffer: its pieces read back over junk. -/
def out0_A_14 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) : Vec F S1024x128 .i32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S256x5376 .f32 × Vec F S256x1024 .f32 × Vec F S256x4096 .fp8e4m3 × Vec F S256x5376 .fp8e4m3 × Vec F S256x1024 .i8 × Vec F S256x32 .i8 × Vec F S1024x128 .i32 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t).1
    | ⟨9, _⟩ => (outsAt0 m c t).2.1
    | ⟨10, _⟩ => (outsAt0 m c t).2.2.1
    | ⟨11, _⟩ => (outsAt0 m c t).2.2.2.1
    | ⟨12, _⟩ => (outsAt0 m c t).2.2.2.2.1
    | ⟨13, _⟩ => (outsAt0 m c t).2.2.2.2.2.1
    | ⟨14, _⟩ => (outsAt0 m c t).2.2.2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t).1 := by dsimp only [dats]
theorem after0_9 (c : Dev nD) (t : Fin cfg0.N) : (dats m 0 c).after 9 t = (outsAt0 m c t).2.1 := by dsimp only [dats]
theorem after0_10 (c : Dev nD) (t : Fin cfg0.N) : (dats m 0 c).after 10 t = (outsAt0 m c t).2.2.1 := by dsimp only [dats]
theorem after0_11 (c : Dev nD) (t : Fin cfg0.N) : (dats m 0 c).after 11 t = (outsAt0 m c t).2.2.2.1 := by dsimp only [dats]
theorem after0_12 (c : Dev nD) (t : Fin cfg0.N) : (dats m 0 c).after 12 t = (outsAt0 m c t).2.2.2.2.1 := by dsimp only [dats]
theorem after0_13 (c : Dev nD) (t : Fin cfg0.N) : (dats m 0 c).after 13 t = (outsAt0 m c t).2.2.2.2.2.1 := by dsimp only [dats]
theorem after0_14 (c : Dev nD) (t : Fin cfg0.N) : (dats m 0 c).after 14 t = (outsAt0 m c t).2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 1200000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  unfold outsAt0
  unfold out0_A_8 out0_A_9 out0_A_10 out0_A_11 out0_A_12 out0_A_13 out0_A_14; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _)
  unfold owns; iexists _; isplitr
  swap; · iexact H14
  ipureintro; exact View.read_writes_of_cover _ _ _ _ _ (cover0_A_14 c _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_Front`'s statement (Defs.lean) at any `F` — Proof.lean cites it at `Bits`:
    `theorem Cert.Proof.claim : Cert.Claim := ⟨Cert.Front.Gen.facts, fun m ρ _ => Cert.Front.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Front.Hand

end
-- ==== Proof.FrontRun.lean ====
module

public import proofs.«01_k».proof.Proof.Gen.FrontIdeal.Skeleton
public import proofs.«01_k».proof.Proof.Gen.FrontIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FrontIdeal.Hand

open Cert.FrontIdeal Cert.FrontIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The kernel body on any staging memrefs: a subtype the run finds -/

/-- One staging buffer of output window 8, through which its contents are stated (`View.read_writes_of_cover`: the
    choice does not matter). -/
abbrev VO0_8 : View sig .tc .vmem S256x5376 .f32 := (Memref.whole cc0_stg8_0 : Memref sig .tc .vmem S256x5376 .f32).view
/-- One staging buffer of output window 9, through which its contents are stated (`View.read_writes_of_cover`: the
    choice does not matter). -/
abbrev VO0_9 : View sig .tc .vmem S256x1024 .f32 := (Memref.whole cc0_stg9_0 : Memref sig .tc .vmem S256x1024 .f32).view
/-- One staging buffer of output window 10, through which its contents are stated (`View.read_writes_of_cover`: the
    choice does not matter). -/
abbrev VO0_10 : View sig .tc .vmem S256x4096 .fp8e4m3 := (Memref.whole cc0_stg10_0 : Memref sig .tc .vmem S256x4096 .fp8e4m3).view
/-- One staging buffer of output window 11, through which its contents are stated (`View.read_writes_of_cover`: the
    choice does not matter). -/
abbrev VO0_11 : View sig .tc .vmem S256x5376 .fp8e4m3 := (Memref.whole cc0_stg11_0 : Memref sig .tc .vmem S256x5376 .fp8e4m3).view
/-- One staging buffer of output window 12, through which its contents are stated (`View.read_writes_of_cover`: the
    choice does not matter). -/
abbrev VO0_12 : View sig .tc .vmem S256x1024 .i8 := (Memref.whole cc0_stg12_0 : Memref sig .tc .vmem S256x1024 .i8).view
/-- One staging buffer of output window 13, through which its contents are stated (`View.read_writes_of_cover`: the
    choice does not matter). -/
abbrev VO0_13 : View sig .tc .vmem S256x32 .i8 := (Memref.whole cc0_stg13_0 : Memref sig .tc .vmem S256x32 .i8).view
/-- One staging buffer of output window 14, through which its contents are stated (`View.read_writes_of_cover`: the
    choice does not matter). -/
abbrev VO0_14 : View sig .tc .vmem S1024x128 .i32 := (Memref.whole cc0_stg14_0 : Memref sig .tc .vmem S1024x128 .i32).view
/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x5376 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x1024 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x5376 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x4096 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x5376 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1024 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x32 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x128 .i32 := win0_14.stage (cfg0.slots t 14)
abbrev hs0_14 (t : Fin cfg0.N) : (ms0_14 t).IsWhole := hstage0_14 ((cfg0.slots t 14).cast nbuf0_14)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) :
    Σ' (L8 : List (View.Piece (Elt F) S256x5376 .f32)), Σ' (L9 : List (View.Piece (Elt F) S256x1024 .f32)), Σ' (L10 : List (View.Piece (Elt F) S256x4096 .fp8e4m3)), Σ' (L11 : List (View.Piece (Elt F) S256x5376 .fp8e4m3)), Σ' (L12 : List (View.Piece (Elt F) S256x1024 .i8)), Σ' (L13 : List (View.Piece (Elt F) S256x32 .i8)), { L14 : List (View.Piece (Elt F) S1024x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc0_front_eq_skeleton]; unfold cc0_front_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.FrontIdeal.Hand

end
-- ==== Proof.FrontFrame.lean ====
module

public import proofs.«01_k».proof.Proof.FrontRun
public import Idealize.ShloMosaic.Lib.Claim

@[expose] public section

-- membership in a rectangle of production extents (`View.cover_of_tiled`): the elaborator's structural look
-- recurses once per coordinate of the long axes
set_option maxRecDepth 16384

noncomputable section

namespace Cert.FrontIdeal.Hand

open Cert.FrontIdeal Cert.FrontIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 8 tile its block (7 stores of `S256x768`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) (y : S256x5376.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1 S256x768.size (by sl_kernel_rfl) y

/-- What the run leaves in output 8's staging buffer: its pieces read back over junk. -/
def out0_A_8 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) : Vec F S256x5376 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1)

/-- The run's pieces for output 9 tile its block (1 store of `S256x1024`, checked by the kernel's evaluation: Lib/Ring.lean `Piece.tiledL`, linear in the pieces, through a loop's `@[irreducible]` trip theorem too), so they cover it. -/
theorem cover0_A_9 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1 S256x1024.size (by sl_kernel_rfl) y

/-- What the run leaves in output 9's staging buffer: its pieces read back over junk. -/
def out0_A_9 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) : Vec F S256x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1)

/-- The run's pieces for output 10 tile its block (1 store of `S256x4096`, checked by the kernel's evaluation: Lib/Ring.lean `Piece.tiledL`, linear in the pieces, through a loop's `@[irreducible]` trip theorem too), so they cover it. -/
theorem cover0_A_10 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) (y : S256x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1 S256x4096.size (by sl_kernel_rfl) y

/-- What the run leaves in output 10's staging buffer: its pieces read back over junk. -/
def out0_A_10 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) : Vec F S256x4096 .fp8e4m3 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1)

/-- The run's pieces for output 11 tile its block (7 stores of `S256x768`, checked by the kernel's evaluation: Lib/Ring.lean `Piece.tiledL`, linear in the pieces, through a loop's `@[irreducible]` trip theorem too), so they cover it. -/
theorem cover0_A_11 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) (y : S256x5376.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1 S256x768.size (by sl_kernel_rfl) y

/-- What the run leaves in output 11's staging buffer: its pieces read back over junk. -/
def out0_A_11 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) : Vec F S256x5376 .fp8e4m3 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1)

/-- The run's pieces for output 12 tile its block (2 stores of `S256x512`, checked by the kernel's evaluation: Lib/Ring.lean `Piece.tiledL`, linear in the pieces, through a loop's `@[irreducible]` trip theorem too), so they cover it. -/
theorem cover0_A_12 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1 S256x512.size (by sl_kernel_rfl) y

/-- What the run leaves in output 12's staging buffer: its pieces read back over junk. -/
def out0_A_12 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) : Vec F S256x1024 .i8 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1)

/-- The run's pieces for output 13 tile its block (1 store of `S256x32`, checked by the kernel's evaluation: Lib/Ring.lean `Piece.tiledL`, linear in the pieces, through a loop's `@[irreducible]` trip theorem too), so they cover it. -/
theorem cover0_A_13 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) (y : S256x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2.1 S256x32.size (by sl_kernel_rfl) y

/-- What the run leaves in output 13's staging buffer: its pieces read back over junk. -/
def out0_A_13 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) : Vec F S256x32 .i8 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2.1)

/-- The rectangle of every fourth row from row `a` on holds the elements whose row is `a` modulo four. -/
theorem stride_mem (a : ℕ) (y : S1024x128.Idx) (hy : (y 0).val % 4 = a)
    (inb : ∀ d, (![256, 128] : Fin 2 → ℕ) d = 0 ∨ (![a, 0] : Fin 2 → ℕ) d + (![4, 1] : Fin 2 → ℕ) d * ((![256, 128] : Fin 2 → ℕ) d - 1) < S1024x128.size d)
    (pos : ∀ d, 0 < (![4, 1] : Fin 2 → ℕ) d) :
    y ∈ (Rect.mk (s := S1024x128) ⟨![a, 0], ![256, 128], ![4, 1], inb⟩ pos).set := by
  have h0 : (y 0).val < 1024 := (y 0).isLt
  have h1 : (y 1).val < 128 := (y 1).isLt
  refine (LoadRect.mem_set _).mpr fun d => ?_
  match d with
  | ⟨0, _⟩ => exact ⟨(y 0).val / 4, by show _ < 256; omega, by show (y 0).val = a + 4 * _; omega⟩
  | ⟨1, _⟩ => exact ⟨(y 1).val, h1, by show (y 1).val = 0 + 1 * _; omega⟩

/-- The run's four stores into output 14, each at every fourth row from row 0, 1, 2, 3 on, cover its block. -/
theorem cover0_A_14 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) (y : S1024x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2.2.1, y ∈ pc.1.set := by
  unfold kernelRun0_A; dsimp only
  simp only [List.mem_cons, List.not_mem_nil, or_false, exists_eq_or_imp, exists_eq_left]
  have h : (y 0).val % 4 = 3 ∨ (y 0).val % 4 = 2 ∨ (y 0).val % 4 = 1 ∨ (y 0).val % 4 = 0 := by omega
  rcases h with h | h | h | h
  · exact Or.inl (stride_mem 3 y h inb_S1024x128_S256x128_3_0_s_4_1 spos_4_1)
  · exact Or.inr (Or.inl (stride_mem 2 y h inb_S1024x128_S256x128_2_0_s_4_1 spos_4_1))
  · exact Or.inr (Or.inr (Or.inl (stride_mem 1 y h inb_S1024x128_S256x128_1_0_s_4_1 spos_4_1)))
  · exact Or.inr (Or.inr (Or.inr (stride_mem 0 y h inb_S1024x128_S256x128_0_0_s_4_1 spos_4_1)))

/-- What the run leaves in output 14's staging buffer: its pieces read back over junk. -/
def out0_A_14 (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
    (x0 : Vec F S256x4096 .bf16) (x1 : Vec F S1x4096 .f32) (x2 : Vec F S4096x5376 .fp8e4m3) (x3 : Vec F S1 .f32) (x4 : Vec F S1 .f32) (x5 : Vec F S1 .f32) (x6 : Vec F S4096x1024 .fp8e4m3) (x7 : Vec F S1x1024 .f32) : Vec F S1024x128 .i32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S256x5376 .f32 × Vec F S256x1024 .f32 × Vec F S256x4096 .fp8e4m3 × Vec F S256x5376 .fp8e4m3 × Vec F S256x1024 .i8 × Vec F S256x32 .i8 × Vec F S1024x128 .i32 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t).1
    | ⟨9, _⟩ => (outsAt0 m c t).2.1
    | ⟨10, _⟩ => (outsAt0 m c t).2.2.1
    | ⟨11, _⟩ => (outsAt0 m c t).2.2.2.1
    | ⟨12, _⟩ => (outsAt0 m c t).2.2.2.2.1
    | ⟨13, _⟩ => (outsAt0 m c t).2.2.2.2.2.1
    | ⟨14, _⟩ => (outsAt0 m c t).2.2.2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t).1 := by dsimp only [dats]
theorem after0_9 (c : Dev nD) (t : Fin cfg0.N) : (dats m 0 c).after 9 t = (outsAt0 m c t).2.1 := by dsimp only [dats]
theorem after0_10 (c : Dev nD) (t : Fin cfg0.N) : (dats m 0 c).after 10 t = (outsAt0 m c t).2.2.1 := by dsimp only [dats]
theorem after0_11 (c : Dev nD) (t : Fin cfg0.N) : (dats m 0 c).after 11 t = (outsAt0 m c t).2.2.2.1 := by dsimp only [dats]
theorem after0_12 (c : Dev nD) (t : Fin cfg0.N) : (dats m 0 c).after 12 t = (outsAt0 m c t).2.2.2.2.1 := by dsimp only [dats]
theorem after0_13 (c : Dev nD) (t : Fin cfg0.N) : (dats m 0 c).after 13 t = (outsAt0 m c t).2.2.2.2.2.1 := by dsimp only [dats]
theorem after0_14 (c : Dev nD) (t : Fin cfg0.N) : (dats m 0 c).after 14 t = (outsAt0 m c t).2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 1200000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  unfold outsAt0
  unfold out0_A_8 out0_A_9 out0_A_10 out0_A_11 out0_A_12 out0_A_13 out0_A_14; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _)
  unfold owns; iexists _; isplitr
  swap; · iexact H14
  ipureintro; exact View.read_writes_of_cover _ _ _ _ _ (cover0_A_14 c _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_FrontIdeal`'s statement (Defs.lean) at any `F` — Proof.lean cites it at `Bits`:
    `theorem Cert.Proof.claim : Cert.Claim := ⟨Cert.FrontIdeal.Gen.facts, fun m ρ _ => Cert.FrontIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.FrontIdeal.Hand

end
-- ==== Proof.FrontForms.lean ====
module

public import proofs.«01_k».proof.Proof.BackForms

/-!
The mathematics of the first stage, element by element, at the extended reals: the normalised row and its codes, the
two products, and the codes of the squared product. The kernel's blocks and the reference's whole arrays are both read
off as these functions.
-/

@[expose] public section

noncomputable section

namespace Cert.FrontForms

open Cert.BackForms Idealize.ShloMosaic Idealize.ShloMosaic.ValueIdx
open scoped BigOperators

/-- The root of a row's mean square plus 1e-5. The mean is over 4096 elements, which is the rows' length. -/
def rmsOf {K : ℕ} (row : Fin K → EReal) : EReal :=
  FloatOps.sqrt (F := Ideal) (φ := .f32) (Scalar.addf (F := Ideal) (φ := .f32)
    (Scalar.divf (F := Ideal) (φ := .f32) (∑ k, row k * row k : EReal) (Scalar.ofBits .f32 0x45800000#32)) (Scalar.ofBits .f32 0x3727C5AC#32))

/-- A value over a scale, clipped to ±448. -/
def clipOf (v s : EReal) : EReal :=
  Scalar.minimumf (F := Ideal) (φ := .f32) (Scalar.ofBits .f32 0x43E00000#32)
    (Scalar.maximumf (F := Ideal) (φ := .f32) (Scalar.ofBits .f32 0xC3E00000#32) (Scalar.divf (F := Ideal) (φ := .f32) v s))

/-- A normalised, weighted element. -/
def normOf {K : ℕ} (row nw : Fin K → EReal) (k : Fin K) : EReal :=
  (Scalar.divf (F := Ideal) (φ := .f32) (row k) (rmsOf row) : EReal) * nw k

/-- Its code, at the tensor's scale. -/
def xcodeOf {K : ℕ} (row nw : Fin K → EReal) (s : EReal) (k : Fin K) : EReal := clipOf (normOf row nw k) s

/-- The shared expert's hidden element before its activation. -/
def hidOf {K : ℕ} (row nw w : Fin K → EReal) (s sw : EReal) : EReal := prod (xcodeOf row nw s) w * (s * sw)

/-- The square of a value's positive part. -/
def sqOf (v : EReal) : EReal :=
  (Scalar.maximumf (F := Ideal) (φ := .f32) v (Scalar.ofBits .f32 0x00000000#32) : EReal)
    * (Scalar.maximumf (F := Ideal) (φ := .f32) v (Scalar.ofBits .f32 0x00000000#32) : EReal)

/-- The down projection's element. -/
def downOf {K : ℕ} (row nw w : Fin K → EReal) (s sw : EReal) : EReal := prod (xcodeOf row nw s) w * s * sw

/-- A row's root mean square as the kernels take it, as a column. -/
theorem rms_apply {M K : ℕ} (v : FVec Ideal (Mat M K) .f32) (hr : (Mat M K).Reduces [1] ⟨1, ![M]⟩)
    (hc : (⟨1, ![M]⟩ : Shape).ShapeCasts (Mat M 1)) (r : Fin M) :
    sqrt (addf (divf (shapeCast (Mat M 1) (multiReduction .add [1] ⟨1, ![M]⟩ (mulf v v) 0x00000000#32 hr (.inl rfl) rfl) hc)
        (broadcast (Mat M 1) (Scalar.ofBits .f32 0x45800000#32))) (broadcast (Mat M 1) (Scalar.ofBits .f32 0x3727C5AC#32))) (ix2 r 0)
      = rmsOf (fun k => v (ix2 r k)) := by
  have e : shapeCast (Mat M 1) (multiReduction .add [1] ⟨1, ![M]⟩ (mulf v v) 0x00000000#32 hr (.inl rfl) rfl) hc (ix2 r 0)
      = (∑ k, v (ix2 r k) * v (ix2 r k) : EReal) := by
    rw [shapeCast_apply _ hc (ix2 r 0) (ix1 r) (by
      rw [Shape.rowMajor_val_one, Shape.rowMajor_val_two]
      show r.val = r.val * 1 + 0
      omega)]
    refine (Ideal.multiReduction_add_single (s := Mat M K) (t := ⟨1, ![M]⟩) (a := (1 : Fin 2)) (mulf v v) 0x00000000#32 hr (.inl rfl) rfl (ix1 r)).trans ?_
    refine Finset.sum_congr rfl fun k _ => ?_
    have el : hr.lift (ix1 r) k = ix2 r k := funext fun a => Fin.ext (by
      match a with
      | ⟨0, _⟩ => rfl
      | ⟨1, _⟩ => rfl)
    show (v (hr.lift (ix1 r) k) * v (hr.lift (ix1 r) k) : EReal) = _
    rw [el]
    rfl
  generalize shapeCast (Mat M 1) (multiReduction .add [1] ⟨1, ![M]⟩ (mulf v v) 0x00000000#32 hr (.inl rfl) rfl) hc = a at e ⊢
  show FloatOps.sqrt (F := Ideal) (φ := .f32) (Scalar.addf (F := Ideal) (φ := .f32) (Scalar.divf (F := Ideal) (φ := .f32) (a (ix2 r 0)) _) _) = _
  rw [e]
  rfl

/-- The codes of the normalised rows as the kernels write them. -/
theorem xcodes_apply {M K : ℕ} (hM : M ≠ 1) (hK : K ≠ 1) (v : FVec Ideal (Mat M K) .f32) (q : FVec Ideal (Mat M 1) .f32) (nw : FVec Ideal (Mat 1 K) .f32)
    (s : Ideal .f32) (hb : (Mat M 1).Broadcasts (Mat M K)) (hb' : (Mat 1 K).Broadcasts (Mat M K)) (hw : FTy.fp8e4m3.bits < FTy.f32.bits) (r : Fin M)
    (hq : q (ix2 r 0) = rmsOf (fun k => v (ix2 r k))) (k : Fin K) :
    truncf .fp8e4m3 (minimumf (broadcast (Mat M K) (Scalar.ofBits (F := Ideal) .f32 0x43E00000#32))
      (maximumf (broadcast (Mat M K) (Scalar.ofBits .f32 0xC3E00000#32))
        (divf (mulf (divf v (broadcastTo (Mat M K) q hb)) (broadcastTo (Mat M K) nw hb')) (broadcast (Mat M K) s)))) hw (ix2 r k)
      = xcodeOf (fun k => v (ix2 r k)) (fun k => nw (ix2 0 k)) s k := by
  have e := broadcastTo_col hK q hb hM r k
  have e' := broadcastTo_row hK nw hb' r k
  generalize broadcastTo (Mat M K) q hb = a at e ⊢
  generalize broadcastTo (Mat M K) nw hb' = b at e' ⊢
  show Scalar.minimumf (F := Ideal) (φ := .f32) _ (Scalar.maximumf (F := Ideal) (φ := .f32) _ (Scalar.divf (F := Ideal) (φ := .f32)
    (Scalar.mulf (F := Ideal) (φ := .f32) (Scalar.divf (F := Ideal) (φ := .f32) (v (ix2 r k)) (a (ix2 r k))) (b (ix2 r k))) s)) = _
  rw [e, e', hq]
  rfl

/-- The codes of the squared positive part as the kernels write them. -/
theorem sqcodes_apply {M K : ℕ} (v : FVec Ideal (Mat M K) .f32) (s : Ideal .f32) (hw : FTy.fp8e4m3.bits < FTy.f32.bits) (j : (Mat M K).Idx) :
    truncf .fp8e4m3 (minimumf (broadcast (Mat M K) (Scalar.ofBits (F := Ideal) .f32 0x43E00000#32))
      (maximumf (broadcast (Mat M K) (Scalar.ofBits .f32 0xC3E00000#32))
        (divf (mulf (maximumf v (broadcast (Mat M K) (Scalar.ofBits .f32 0x00000000#32))) (maximumf v (broadcast (Mat M K) (Scalar.ofBits .f32 0x00000000#32))))
          (broadcast (Mat M K) s)))) hw j
      = clipOf (sqOf (v j)) s := rfl

/-- The down projection as the kernels write it. -/
theorem down_apply {M K N : ℕ} {φ₁ φ₂ : FTy} (hN : N ≠ 1) (D : DotDims (Mat M K) (Mat K N) (Mat M N)) (hD : D = DotDims.plain M K N)
    (lhs : FVec Ideal (Mat M K) φ₁) (rhs : FVec Ideal (Mat K N) φ₂) (s : Ideal .f32) (w : FVec Ideal (Mat 1 N) .f32)
    (hb' : (Mat 1 N).Broadcasts (Mat M N)) (r : Fin M) (c : Fin N) :
    mulf (mulf (matmul D none lhs rhs (constant (Mat M N) .f32 0x00000000#32)) (broadcast (Mat M N) s)) (broadcastTo (Mat M N) w hb') (ix2 r c)
      = prod (fun k => lhs (ix2 r k)) (fun k => rhs (ix2 k c)) * s * w (ix2 0 c) := by
  have e' := broadcastTo_row hN w hb' r c
  have em := matmul_ix2 D hD lhs rhs r c
  generalize broadcastTo (Mat M N) w hb' = b at e' ⊢
  generalize matmul D none lhs rhs (constant (Mat M N) .f32 0x00000000#32) = p at em ⊢
  show p (ix2 r c) * s * b (ix2 r c) = _
  rw [e', em]

/-- Row r of an array. -/
def rowOf {M K : ℕ} (A : (Mat M K).Idx → EReal) (r : Fin M) : Fin K → EReal := fun k => A (ix2 r k)

/-- Column c of an array. -/
def colOf {K N : ℕ} (A : (Mat K N).Idx → EReal) (c : Fin N) : Fin K → EReal := fun k => A (ix2 k c)

/-- The one element of an array of one. -/
def oneOf (A : (⟨1, ![1]⟩ : Shape).Idx → EReal) : EReal := A (ix1 0)

/-- hs_pre. -/
def W8 {M K N : ℕ} (A0 : (Mat M K).Idx → EReal) (A1 : (Mat 1 K).Idx → EReal) (A2 : (Mat K N).Idx → EReal) (A3 A4 : (⟨1, ![1]⟩ : Shape).Idx → EReal) :
    (Mat M N).Idx → EReal :=
  fun j => hidOf (rowOf A0 (j 0)) (rowOf A1 0) (colOf A2 (j 1)) (oneOf A4) (oneOf A3)

/-- z. -/
def W9 {M K N : ℕ} (A0 : (Mat M K).Idx → EReal) (A1 : (Mat 1 K).Idx → EReal) (A4 : (⟨1, ![1]⟩ : Shape).Idx → EReal) (A6 : (Mat K N).Idx → EReal)
    (A7 : (Mat 1 N).Idx → EReal) : (Mat M N).Idx → EReal :=
  fun j => downOf (rowOf A0 (j 0)) (rowOf A1 0) (colOf A6 (j 1)) (oneOf A4) (rowOf A7 0 (j 1))

/-- x_codes. -/
def W10 {M K : ℕ} (A0 : (Mat M K).Idx → EReal) (A1 : (Mat 1 K).Idx → EReal) (A4 : (⟨1, ![1]⟩ : Shape).Idx → EReal) : (Mat M K).Idx → EReal :=
  fun j => xcodeOf (rowOf A0 (j 0)) (rowOf A1 0) (oneOf A4) (j 1)

/-- hs_codes. -/
def W11 {M K N : ℕ} (A0 : (Mat M K).Idx → EReal) (A1 : (Mat 1 K).Idx → EReal) (A2 : (Mat K N).Idx → EReal) (A3 A4 A5 : (⟨1, ![1]⟩ : Shape).Idx → EReal) :
    (Mat M N).Idx → EReal :=
  fun j => clipOf (sqOf (W8 A0 A1 A2 A3 A4 j)) (oneOf A5)

end Cert.FrontForms

end
-- ==== Proof.FrontValue.lean ====
module

public import proofs.«01_k».proof.Proof.FrontFrame
public import proofs.«01_k».proof.Proof.FrontForms
public import Idealize.ShloMosaic.Lib.VecWindow

/-!
What one grid point of the first stage's kernel leaves in its blocks of hs_pre, z, x_codes and hs_codes, element by
element, as the functions of FrontForms of the input blocks.
-/

@[expose] public section

set_option maxRecDepth 16384

noncomputable section

namespace Cert.FrontIdeal.Hand

open Cert.FrontIdeal Cert.FrontIdeal.Gen Cert.BackForms Cert.FrontForms Idealize.ShloMosaic Idealize.ShloMosaic.ValueIdx Idealize.ShloMosaic.Tactic
open scoped BigOperators

variable (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
  (x0 : Vec Ideal S256x4096 .bf16)
  (x1 : Vec Ideal S1x4096 .f32)
  (x2 : Vec Ideal S4096x5376 .fp8e4m3)
  (x3 : Vec Ideal S1 .f32)
  (x4 : Vec Ideal S1 .f32)
  (x5 : Vec Ideal S1 .f32)
  (x6 : Vec Ideal S4096x1024 .fp8e4m3)
  (x7 : Vec Ideal S1x1024 .f32)

/-- A unit-stride rectangle's index, by its coordinates. -/
theorem unit_idx {a b p q o l : ℕ} (inb : ∀ d, (![o, l] : Fin 2 → ℕ) d + (![p, q] : Fin 2 → ℕ) d ≤ (Mat a b).size d) (x : Fin p) (y : Fin q)
    (u : Fin a) (v : Fin b) (hu : u.val = o + x.val) (hv : v.val = l + y.val) :
    (Rect.unit (s := Mat a b) ![o, l] ![p, q] inb).toLoadRect.idx (ix2 x y) = ix2 u v := by
  funext d
  apply Fin.ext
  match d with
  | ⟨0, _⟩ => show o + 1 * x.val = u.val; omega
  | ⟨1, _⟩ => show l + 1 * y.val = v.val; omega

/-- A load of a whole argument reads the argument. -/
theorem whole_read {sp : Space} {s : Shape} {e : EltTy} (M : Memref sig .tc sp s e) (h : M.IsWhole) (x : s.Idx → Elt Ideal e) {off : Fin s.rank → ℕ}
    (inb : ∀ a, off a + s.size a ≤ s.size a) : View.readAt (Elt Ideal) M.view (Rect.unit off s.size inb).toLoadRect (h.unread x) = x :=
  (View.readAt_full M.view _ inb).trans (h.read_unread x)

/-- The scale of x. -/
theorem r_apply : kernelRun0_A.sl.r (F := Ideal) c arg5 harg5 x4 = oneOf x4 :=
  (harg5.readAt_unread x4 _ _).trans (congrArg x4 (funext fun d => by
    match d with | ⟨0, _⟩ => rfl))

/-- The scale of the shared expert's first tensor. -/
theorem r101_apply : kernelRun0_A.sl.r_101 (F := Ideal) c arg4 harg4 x3 = oneOf x3 :=
  (harg4.readAt_unread x3 _ _).trans (congrArg x3 (funext fun d => by
    match d with | ⟨0, _⟩ => rfl))

/-- The scale of hs. -/
theorem r102_apply : kernelRun0_A.sl.r_102 (F := Ideal) c arg6 harg6 x5 = oneOf x5 :=
  (harg6.readAt_unread x5 _ _).trans (congrArg x5 (funext fun d => by
    match d with | ⟨0, _⟩ => rfl))

/-- The product of the first two. -/
theorem r103_apply : kernelRun0_A.sl.r_103 (F := Ideal) c arg4 harg4 arg5 harg5 x3 x4 = (oneOf x4 * oneOf x3 : EReal) := by
  unfold kernelRun0_A.sl.r_103
  rw [r_apply, r101_apply]
  rfl

/-- The codes of the normalised rows. -/
theorem pay1_apply (s : Elt Ideal .f32) : k0_pay1 (F := Ideal) s x0 x1 = W10 (M := 256) (K := 4096) x0 x1 (fun _ => s) := by
  funext y
  obtain ⟨r, k, rfl⟩ : ∃ (r : Fin 256) (k : Fin 4096), y = ix2 r k := ⟨y 0, y 1, eq_ix2 y⟩
  exact xcodes_apply (M := 256) (K := 4096) (by omega) (by omega) x0 _ x1 s broadcasts_S256x1_S256x4096 broadcasts_S1x4096_S256x4096 bitsLt_fp8e4m3_f32 r
    (rms_apply (M := 256) (K := 4096) x0 reduces_S256x4096_S256 shapeCasts_S256_S256x1 r) k

/-- The one store of the codes. -/
theorem H10_eq : k0_pay1 (F := Ideal) (kernelRun0_A.sl.r c arg5 harg5 x4)
      (View.readAt (Elt Ideal) arg1.view (Rect.unit ![0, 0] S256x4096.size inb_S256x4096_S256x4096_0_0).toLoadRect (harg1.unread x0))
      (View.readAt (Elt Ideal) arg2.view (Rect.unit ![0, 0] S1x4096.size inb_S1x4096_S1x4096_0_0).toLoadRect (harg2.unread x1))
    = W10 (M := 256) (K := 4096) x0 x1 x4 := by
  rw [whole_read arg1 harg1 x0, whole_read arg2 harg2 x1, r_apply]
  exact pay1_apply x0 x1 (oneOf x4)

/-- The codes read back. -/
theorem v24_apply : kernelRun0_A.sl.v24 (F := Ideal) c arg1 harg1 arg2 harg2 arg5 harg5 arg11 x0 x1 x4 = W10 (M := 256) (K := 4096) x0 x1 x4 := by
  unfold kernelRun0_A.sl.v24 kernelRun0_A.sl.H10_1
  exact (View.readCov_full arg11.view inb_S256x4096_S256x4096_0_0 inb_S256x4096_S256x4096_0_0 _ []).trans (H10_eq c arg1 harg1 arg2 harg2 arg5 harg5 x0 x1 x4)

/-- The codes the products read. -/
theorem r1_apply : kernelRun0_A.sl.r_1 (F := Ideal) c arg1 harg1 arg2 harg2 arg5 harg5 arg11 x0 x1 x4 = W10 (M := 256) (K := 4096) x0 x1 x4 := by
  unfold kernelRun0_A.sl.r_1
  rw [v24_apply]
  exact shapeCast_self _ _

/-- One chunk of hs_pre. -/
theorem hs_chunk (o : ℕ) (ho : o + 768 ≤ 5376) (a : Vec Ideal S256x4096 .fp8e4m3) (ha : a = W10 (M := 256) (K := 4096) x0 x1 x4) (s : Ideal .f32)
    (hs : s = (oneOf x4 * oneOf x3 : EReal)) (inb) (inb') (x : S256x768.Idx) :
    k0_pay149 (F := Ideal) a s (View.readAt (Elt Ideal) arg3.view (Rect.unit (s := S4096x5376) ![0, o] S4096x768.size inb).toLoadRect (harg3.unread x2)) x
      = W8 (M := 256) (K := 4096) (N := 5376) x0 x1 x2 x3 x4 ((Rect.unit (s := S256x5376) ![0, o] S256x768.size inb').emb x) := by
  obtain ⟨r, l, rfl⟩ : ∃ (r : Fin 256) (l : Fin 768), x = ix2 r l := ⟨x 0, x 1, eq_ix2 x⟩
  have hl := l.isLt
  subst hs
  subst ha
  refine Eq.trans ?_ (congrArg (W8 (M := 256) (K := 4096) (N := 5376) x0 x1 x2 x3 x4) (unit_idx (a := 256) (b := 5376) inb' r l r ⟨o + l.val, by omega⟩ (by omega) rfl)).symm
  refine (shared_apply (M := 256) (K := 4096) (N := 768) dot_S256x4096_S4096x768_S256x768_1_0_0_1_n_n rfl (W10 (M := 256) (K := 4096) x0 x1 x4) _ _ r l).trans ?_
  refine congrArg (fun f => prod (xcodeOf (rowOf (M := 256) (K := 4096) x0 r) (rowOf (M := 1) (K := 4096) x1 0) (oneOf x4)) f * (oneOf x4 * oneOf x3 : EReal)) (funext fun k => ?_)
  exact (harg3.readAt_unread x2 _ _).trans (congrArg x2 (unit_idx (a := 4096) (b := 5376) inb k l k ⟨o + l.val, by omega⟩ (by omega) rfl))

/-- One chunk of hs_codes. -/
theorem hc_chunk (o : ℕ) (inb) (x : S256x768.Idx) (p : FVec Ideal S256x768 .f32)
    (hp : p x = W8 (M := 256) (K := 4096) (N := 5376) x0 x1 x2 x3 x4 ((Rect.unit (s := S256x5376) ![0, o] S256x768.size inb).emb x))
    (s : Ideal .f32) (hs : s = oneOf x5) :
    truncf .fp8e4m3 (minimumf (broadcast S256x768 (Scalar.ofBits (F := Ideal) .f32 0x43E00000#32))
      (maximumf (broadcast S256x768 (Scalar.ofBits .f32 0xC3E00000#32))
        (divf (mulf (maximumf p (broadcast S256x768 (Scalar.ofBits .f32 0x00000000#32))) (maximumf p (broadcast S256x768 (Scalar.ofBits .f32 0x00000000#32))))
          (broadcast S256x768 s)))) bitsLt_fp8e4m3_f32 x
      = W11 (M := 256) (K := 4096) (N := 5376) x0 x1 x2 x3 x4 x5 ((Rect.unit (s := S256x5376) ![0, o] S256x768.size inb).emb x) := by
  subst hs
  exact (sqcodes_apply (M := 256) (K := 768) p (oneOf x5) bitsLt_fp8e4m3_f32 x).trans (congrArg (fun v => clipOf (sqOf v) (oneOf x5)) hp)

/-- What the block of hs_pre holds. -/
theorem out8_apply : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = W8 (M := 256) (K := 4096) (N := 5376) x0 x1 x2 x3 x4 := by
  funext y
  refine View.read_writes_apply_of_pieces (v := VO0_8) (f := VO0_8.junk) (W8 (M := 256) (K := 4096) (N := 5376) x0 x1 x2 x3 x4) _ ?_ y (cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  intro p hp
  unfold kernelRun0_A at hp
  dsimp only at hp
  simp only [List.mem_cons, List.not_mem_nil, or_false] at hp
  rcases hp with rfl | rfl | rfl | rfl | rfl | rfl | rfl <;> intro x
  · exact hs_chunk arg3 harg3 x0 x1 x2 x3 x4 4608 (by omega) _ (r1_apply c arg1 harg1 arg2 harg2 arg5 harg5 arg11 x0 x1 x4) _ (r103_apply c arg4 harg4 arg5 harg5 x3 x4) inb_S4096x5376_S4096x768_0_4608 inb_S256x5376_S256x768_0_4608 x
  · exact hs_chunk arg3 harg3 x0 x1 x2 x3 x4 3840 (by omega) _ (r1_apply c arg1 harg1 arg2 harg2 arg5 harg5 arg11 x0 x1 x4) _ (r103_apply c arg4 harg4 arg5 harg5 x3 x4) inb_S4096x5376_S4096x768_0_3840 inb_S256x5376_S256x768_0_3840 x
  · exact hs_chunk arg3 harg3 x0 x1 x2 x3 x4 3072 (by omega) _ (r1_apply c arg1 harg1 arg2 harg2 arg5 harg5 arg11 x0 x1 x4) _ (r103_apply c arg4 harg4 arg5 harg5 x3 x4) inb_S4096x5376_S4096x768_0_3072 inb_S256x5376_S256x768_0_3072 x
  · exact hs_chunk arg3 harg3 x0 x1 x2 x3 x4 2304 (by omega) _ (r1_apply c arg1 harg1 arg2 harg2 arg5 harg5 arg11 x0 x1 x4) _ (r103_apply c arg4 harg4 arg5 harg5 x3 x4) inb_S4096x5376_S4096x768_0_2304 inb_S256x5376_S256x768_0_2304 x
  · exact hs_chunk arg3 harg3 x0 x1 x2 x3 x4 1536 (by omega) _ (r1_apply c arg1 harg1 arg2 harg2 arg5 harg5 arg11 x0 x1 x4) _ (r103_apply c arg4 harg4 arg5 harg5 x3 x4) inb_S4096x5376_S4096x768_0_1536 inb_S256x5376_S256x768_0_1536 x
  · exact hs_chunk arg3 harg3 x0 x1 x2 x3 x4 768 (by omega) _ (r1_apply c arg1 harg1 arg2 harg2 arg5 harg5 arg11 x0 x1 x4) _ (r103_apply c arg4 harg4 arg5 harg5 x3 x4) inb_S4096x5376_S4096x768_0_768 inb_S256x5376_S256x768_0_768 x
  · exact hs_chunk arg3 harg3 x0 x1 x2 x3 x4 0 (by omega) _ (r1_apply c arg1 harg1 arg2 harg2 arg5 harg5 arg11 x0 x1 x4) _ (r103_apply c arg4 harg4 arg5 harg5 x3 x4) inb_S4096x5376_S4096x768_0_0 inb_S256x5376_S256x768_0_0 x

/-- What the block of hs_codes holds. -/
theorem out11_apply : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = W11 (M := 256) (K := 4096) (N := 5376) x0 x1 x2 x3 x4 x5 := by
  funext y
  refine View.read_writes_apply_of_pieces (v := VO0_11) (f := VO0_11.junk) (W11 (M := 256) (K := 4096) (N := 5376) x0 x1 x2 x3 x4 x5) _ ?_ y (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  intro p hp
  unfold kernelRun0_A at hp
  dsimp only at hp
  simp only [List.mem_cons, List.not_mem_nil, or_false] at hp
  rcases hp with rfl | rfl | rfl | rfl | rfl | rfl | rfl <;> intro x
  · exact hc_chunk x0 x1 x2 x3 x4 x5 4608 inb_S256x5376_S256x768_0_4608 x _
      (hs_chunk arg3 harg3 x0 x1 x2 x3 x4 4608 (by omega) _ (r1_apply c arg1 harg1 arg2 harg2 arg5 harg5 arg11 x0 x1 x4) _ (r103_apply c arg4 harg4 arg5 harg5 x3 x4) inb_S4096x5376_S4096x768_0_4608 inb_S256x5376_S256x768_0_4608 x) _ (r102_apply c arg6 harg6 x5)
  · exact hc_chunk x0 x1 x2 x3 x4 x5 3840 inb_S256x5376_S256x768_0_3840 x _
      (hs_chunk arg3 harg3 x0 x1 x2 x3 x4 3840 (by omega) _ (r1_apply c arg1 harg1 arg2 harg2 arg5 harg5 arg11 x0 x1 x4) _ (r103_apply c arg4 harg4 arg5 harg5 x3 x4) inb_S4096x5376_S4096x768_0_3840 inb_S256x5376_S256x768_0_3840 x) _ (r102_apply c arg6 harg6 x5)
  · exact hc_chunk x0 x1 x2 x3 x4 x5 3072 inb_S256x5376_S256x768_0_3072 x _
      (hs_chunk arg3 harg3 x0 x1 x2 x3 x4 3072 (by omega) _ (r1_apply c arg1 harg1 arg2 harg2 arg5 harg5 arg11 x0 x1 x4) _ (r103_apply c arg4 harg4 arg5 harg5 x3 x4) inb_S4096x5376_S4096x768_0_3072 inb_S256x5376_S256x768_0_3072 x) _ (r102_apply c arg6 harg6 x5)
  · exact hc_chunk x0 x1 x2 x3 x4 x5 2304 inb_S256x5376_S256x768_0_2304 x _
      (hs_chunk arg3 harg3 x0 x1 x2 x3 x4 2304 (by omega) _ (r1_apply c arg1 harg1 arg2 harg2 arg5 harg5 arg11 x0 x1 x4) _ (r103_apply c arg4 harg4 arg5 harg5 x3 x4) inb_S4096x5376_S4096x768_0_2304 inb_S256x5376_S256x768_0_2304 x) _ (r102_apply c arg6 harg6 x5)
  · exact hc_chunk x0 x1 x2 x3 x4 x5 1536 inb_S256x5376_S256x768_0_1536 x _
      (hs_chunk arg3 harg3 x0 x1 x2 x3 x4 1536 (by omega) _ (r1_apply c arg1 harg1 arg2 harg2 arg5 harg5 arg11 x0 x1 x4) _ (r103_apply c arg4 harg4 arg5 harg5 x3 x4) inb_S4096x5376_S4096x768_0_1536 inb_S256x5376_S256x768_0_1536 x) _ (r102_apply c arg6 harg6 x5)
  · exact hc_chunk x0 x1 x2 x3 x4 x5 768 inb_S256x5376_S256x768_0_768 x _
      (hs_chunk arg3 harg3 x0 x1 x2 x3 x4 768 (by omega) _ (r1_apply c arg1 harg1 arg2 harg2 arg5 harg5 arg11 x0 x1 x4) _ (r103_apply c arg4 harg4 arg5 harg5 x3 x4) inb_S4096x5376_S4096x768_0_768 inb_S256x5376_S256x768_0_768 x) _ (r102_apply c arg6 harg6 x5)
  · exact hc_chunk x0 x1 x2 x3 x4 x5 0 inb_S256x5376_S256x768_0_0 x _
      (hs_chunk arg3 harg3 x0 x1 x2 x3 x4 0 (by omega) _ (r1_apply c arg1 harg1 arg2 harg2 arg5 harg5 arg11 x0 x1 x4) _ (r103_apply c arg4 harg4 arg5 harg5 x3 x4) inb_S4096x5376_S4096x768_0_0 inb_S256x5376_S256x768_0_0 x) _ (r102_apply c arg6 harg6 x5)

/-- What the block of x_codes holds. -/
theorem out10_apply : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = W10 (M := 256) (K := 4096) x0 x1 x4 :=
  (View.read_writes_full VO0_10 VO0_10.junk inb_S256x4096_S256x4096_0_0 _ []).trans (H10_eq c arg1 harg1 arg2 harg2 arg5 harg5 x0 x1 x4)

/-- What the block of z holds. -/
theorem out9_apply : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = W9 (M := 256) (K := 4096) (N := 1024) x0 x1 x4 x6 x7 := by
  have e : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = kernelRun0_A.sl.r_2 (F := Ideal) c arg1 harg1 arg2 harg2 arg5 harg5 arg7 harg7 arg8 harg8 arg11 x0 x1 x4 x6 x7 :=
    View.read_writes_full VO0_9 VO0_9.junk inb_S256x1024_S256x1024_0_0 _ []
  rw [e]
  unfold kernelRun0_A.sl.r_2
  rw [whole_read arg7 harg7 x6, whole_read arg8 harg8 x7, v24_apply, r_apply]
  funext y
  obtain ⟨r, l, rfl⟩ : ∃ (r : Fin 256) (l : Fin 1024), y = ix2 r l := ⟨y 0, y 1, eq_ix2 y⟩
  have e2 : k0_pay2 (F := Ideal) (W10 (M := 256) (K := 4096) x0 x1 x4) = W10 (M := 256) (K := 4096) x0 x1 x4 := shapeCast_self _ _
  unfold k0_pay3
  rw [e2]
  exact down_apply (M := 256) (K := 4096) (N := 1024) (by omega) dot_S256x4096_S4096x1024_S256x1024_1_0_0_1_n_n rfl (W10 (M := 256) (K := 4096) x0 x1 x4) x6 (oneOf x4) x7
    broadcasts_S1x1024_S256x1024 r l

end Cert.FrontIdeal.Hand

end
-- ==== Proof.FrontScale.lean ====
module

public import proofs.«01_k».proof.Proof.FrontForms

/-!
The scales of z, at the extended reals. A scale's byte is the exponent of its group of 32 columns: the kernel finds the
group's largest absolute value by exchanging lanes and the exponent by a binary search over the numbers 1.5·2^(e-128);
the reference counts those of the numbers 6·2^k that the group's largest absolute value reaches. Both are read off as
one function of the group's largest absolute value.
-/

@[expose] public section

set_option maxRecDepth 16384

noncomputable section

namespace Cert.FrontScale

open Cert.BackForms Cert.FrontForms Idealize.ShloMosaic Idealize.ShloMosaic.ValueIdx
open scoped BigOperators

/-! ### The exponent -/

/-- The bits of the e-th number the search compares with: 1.5·2^(e-128). -/
def tbits (e : ℕ) : BitVec 32 := BitVec.ofNat 32 (e * 8388608 - 4194304)

/-- The number itself. -/
def thr (e : ℕ) : EReal := FloatOps.ofBits (F := Ideal) .f32 (tbits e)

/-- One step of the binary search. -/
def step (m : EReal) (b e : BitVec 32) : BitVec 32 :=
  Scalar.select (FloatOps.cmpf (F := Ideal) (φ := .f32) .oge m (FloatOps.ofBits (F := Ideal) .f32
    (IntOp.subi (IntOp.shli .vector (IntOp.addi e b) 23#32) 4194304#32))) (IntOp.addi e b) e

/-- The binary search: eight steps from 128 down to 1. -/
def search (m : EReal) : BitVec 32 :=
  step m 1#32 (step m 2#32 (step m 4#32 (step m 8#32 (step m 16#32 (step m 32#32 (step m 64#32 (step m 128#32 0#32)))))))

/-- The search's result as an exponent in place: too small a value gives 2^0. -/
def expOf (e : BitVec 32) : BitVec 32 :=
  IntOp.shli .vector (IntOp.subi (Scalar.select (IntOp.cmpi .slt e 4#32) 129#32 e) 2#32) 23#32

/-- The byte of a group with the largest absolute value m. -/
def byteOf (m : EReal) : BitVec 8 := (IntOp.shrui .vector (expOf (search m)) 23#32).setWidth 8

/-- How many of the first n of the numbers 6·2^k, from k = -126, a value reaches. -/
def count (m : EReal) : ℕ → BitVec 32
  | 0 => 0#32
  | n + 1 => IntOp.addi (count m n) ((FloatOps.cmpf (F := Ideal) (φ := .f32) .oge m (thr (n + 4))).setWidth 32)

/-- The byte as the reference writes it. -/
def countByte (n : BitVec 32) : BitVec 8 := (Scalar.select (IntOp.cmpi .eq n 0#32) 127#32 (IntOp.addi n 1#32)).setWidth 8

theorem cmp_oge (m t : EReal) : FloatOps.cmpf (F := Ideal) (φ := .f32) .oge m t = BitVec.ofBool (decide (t ≤ m)) := rfl

theorem tbits_fields : ∀ e : Fin 256, 2 ≤ e.val → ((tbits e).extractLsb' 31 1 == 1#1) = false ∧ ((tbits e).extractLsb' 23 8).toNat = e.val - 1
    ∧ ((tbits e).extractLsb' 0 23).toNat = 4194304 := by decide +kernel

theorem thr_eq (e : ℕ) (h : 2 ≤ e) (h' : e < 256) : thr e = (((12582912 : ℝ) * (2 : ℝ) ^ ((e : ℤ) - 151) : ℝ) : EReal) := by
  obtain ⟨h1, h2, h3⟩ := tbits_fields ⟨e, h'⟩ h
  show Ideal.ieee 8 23 (tbits e) = _
  unfold Ideal.ieee
  have h1' : ((tbits e).extractLsb' (8 + 23) 1 == 1#1) = false := h1
  simp only at h2 h3
  rw [h1', h2, h3]
  dsimp only
  rw [if_neg (by omega), if_neg (by omega)]
  refine congrArg (fun x : ℝ => (x : EReal)) ?_
  have : ((e - 1 : ℕ) : ℤ) - (2 ^ (8 - 1) - 1) - (23 : ℕ) = (e : ℤ) - 151 := by
    push_cast [Nat.cast_sub (show 1 ≤ e by omega)]; ring
  rw [this]
  norm_num

theorem thr_one : thr 1 = (((4194304 : ℝ) * (2 : ℝ) ^ (-149 : ℤ) : ℝ) : EReal) := by
  show Ideal.ieee 8 23 (4194304#32) = _
  simp [Ideal.ieee]

theorem thr_mono (e : ℕ) (h : 1 ≤ e) (h' : e + 1 < 256) : thr e ≤ thr (e + 1) := by
  rw [thr_eq (e + 1) (by omega) h']
  rcases Nat.lt_or_ge e 2 with h1 | h1
  · obtain rfl : e = 1 := by omega
    rw [thr_one, EReal.coe_le_coe_iff]
    norm_num
  · rw [thr_eq e h1 (by omega), EReal.coe_le_coe_iff]
    refine mul_le_mul_of_nonneg_left (zpow_le_zpow_right₀ (by norm_num) (by push_cast; omega)) (by norm_num)

theorem thr_le (a b : ℕ) (h : 1 ≤ a) (hab : a ≤ b) (hb : b < 256) : thr a ≤ thr b := by
  induction b, hab using Nat.le_induction with
  | base => exact le_rfl
  | succ n hn ih => exact (ih (by omega)).trans (thr_mono n (by omega) hb)

/-- The largest e in 1..255 whose number a value reaches, 0 if there is none. -/
theorem exists_level (m : EReal) : ∃ k : Fin 256, ∀ e, 1 ≤ e → e < 256 → (thr e ≤ m ↔ e ≤ k.val) := by
  classical
  have hk : Nat.findGreatest (fun e => 1 ≤ e ∧ thr e ≤ m) 255 < 256 := Nat.lt_succ_of_le (Nat.findGreatest_le _)
  refine ⟨⟨_, hk⟩, fun e h1 h2 => ⟨fun h => Nat.le_findGreatest (by omega) ⟨h1, h⟩, fun h => ?_⟩⟩
  have hp := Nat.findGreatest_spec (P := fun e => 1 ≤ e ∧ thr e ≤ m) (n := 255) (m := Nat.findGreatest (fun e => 1 ≤ e ∧ thr e ≤ m) 255)
  have hne : Nat.findGreatest (fun e => 1 ≤ e ∧ thr e ≤ m) 255 ≠ 0 := by
    have : e ≤ Nat.findGreatest (fun e => 1 ≤ e ∧ thr e ≤ m) 255 := h
    omega
  have := Nat.findGreatest_of_ne_zero rfl hne
  exact (thr_le e _ h1 h hk).trans this.2

theorem probe_bits : ∀ e : Fin 256, 1 ≤ e.val → IntOp.subi (IntOp.shli .vector (BitVec.ofNat 32 e.val) 23#32) 4194304#32 = tbits e.val := by
  decide +kernel

theorem select_ofBool {α : Type} (p : Prop) [Decidable p] (a b : α) : Scalar.select (BitVec.ofBool (decide p)) a b = if p then a else b := by
  unfold Scalar.select
  by_cases h : p
  · rw [if_pos h, decide_eq_true h, if_pos (by decide)]
  · rw [if_neg h, decide_eq_false h, if_neg (by decide)]

theorem step_eq (m : EReal) (k : Fin 256) (hk : ∀ e, 1 ≤ e → e < 256 → (thr e ≤ m ↔ e ≤ k.val)) (b e : ℕ) (hb : 1 ≤ b) (h : e + b < 256) :
    step m (BitVec.ofNat 32 b) (BitVec.ofNat 32 e) = BitVec.ofNat 32 (if e + b ≤ k.val then e + b else e) := by
  unfold step
  have ha : IntOp.addi (BitVec.ofNat 32 e) (BitVec.ofNat 32 b) = BitVec.ofNat 32 (e + b) := (BitVec.ofNat_add e b).symm
  rw [ha, probe_bits ⟨e + b, h⟩ (show 1 ≤ e + b by omega), cmp_oge, select_ofBool]
  have := hk (e + b) (by omega) h
  by_cases hq : e + b ≤ k.val
  · rw [if_pos hq]
    exact if_pos (this.2 hq)
  · rw [if_neg hq]
    exact if_neg (fun h => hq (this.1 h))

theorem search_eq (m : EReal) (k : Fin 256) (hk : ∀ e, 1 ≤ e → e < 256 → (thr e ≤ m ↔ e ≤ k.val)) : search m = BitVec.ofNat 32 k.val := by
  have st := fun b e hb h => step_eq m k hk b e hb h
  have hk' := k.isLt
  unfold search
  rw [st 128 0 (by omega) (by omega)]
  generalize h1 : (if 0 + 128 ≤ k.val then 0 + 128 else 0) = e1
  have g1 : e1 ≤ k.val ∧ k.val < e1 + 128 ∧ e1 ≤ 128 := by split at h1 <;> omega
  rw [st 64 e1 (by omega) (by omega)]
  generalize h2 : (if e1 + 64 ≤ k.val then e1 + 64 else e1) = e2
  have g2 : e2 ≤ k.val ∧ k.val < e2 + 64 ∧ e2 ≤ 192 := by split at h2 <;> omega
  rw [st 32 e2 (by omega) (by omega)]
  generalize h3 : (if e2 + 32 ≤ k.val then e2 + 32 else e2) = e3
  have g3 : e3 ≤ k.val ∧ k.val < e3 + 32 ∧ e3 ≤ 224 := by split at h3 <;> omega
  rw [st 16 e3 (by omega) (by omega)]
  generalize h4 : (if e3 + 16 ≤ k.val then e3 + 16 else e3) = e4
  have g4 : e4 ≤ k.val ∧ k.val < e4 + 16 ∧ e4 ≤ 240 := by split at h4 <;> omega
  rw [st 8 e4 (by omega) (by omega)]
  generalize h5 : (if e4 + 8 ≤ k.val then e4 + 8 else e4) = e5
  have g5 : e5 ≤ k.val ∧ k.val < e5 + 8 ∧ e5 ≤ 248 := by split at h5 <;> omega
  rw [st 4 e5 (by omega) (by omega)]
  generalize h6 : (if e5 + 4 ≤ k.val then e5 + 4 else e5) = e6
  have g6 : e6 ≤ k.val ∧ k.val < e6 + 4 ∧ e6 ≤ 252 := by split at h6 <;> omega
  rw [st 2 e6 (by omega) (by omega)]
  generalize h7 : (if e6 + 2 ≤ k.val then e6 + 2 else e6) = e7
  have g7 : e7 ≤ k.val ∧ k.val < e7 + 2 ∧ e7 ≤ 254 := by split at h7 <;> omega
  rw [st 1 e7 (by omega) (by omega)]
  congr 1
  split <;> omega

theorem count_eq (m : EReal) (k : Fin 256) (hk : ∀ e, 1 ≤ e → e < 256 → (thr e ≤ m ↔ e ≤ k.val)) :
    ∀ n, n ≤ 252 → count m n = BitVec.ofNat 32 (min n (k.val - 3))
  | 0, _ => by rw [Nat.zero_min]; rfl
  | n + 1, h => by
    show IntOp.addi (count m n) _ = _
    rw [count_eq m k hk n (by omega), cmp_oge]
    have := hk (n + 4) (by omega) (by omega)
    by_cases hq : n + 4 ≤ k.val
    · rw [decide_eq_true (this.2 hq), show min (n + 1) (k.val - 3) = min n (k.val - 3) + 1 by omega, BitVec.ofNat_add]
      rfl
    · rw [decide_eq_false (fun h => hq (this.1 h)), show min (n + 1) (k.val - 3) = min n (k.val - 3) by omega]
      exact BitVec.add_zero _

theorem bytes_agree : ∀ k : Fin 256, countByte (BitVec.ofNat 32 (min 252 (k.val - 3)))
    = (IntOp.shrui .vector (expOf (BitVec.ofNat 32 k.val)) 23#32).setWidth 8 := by decide +kernel

/-- The count over all 252 numbers gives the search's byte. -/
theorem countByte_eq (m : EReal) : countByte (count m 252) = byteOf m := by
  obtain ⟨k, hk⟩ := exists_level m
  unfold byteOf
  rw [search_eq m k hk, count_eq m k hk 252 le_rfl]
  exact bytes_agree k

/-! ### The lanes -/

/-- A lane's number. -/
def lane (l : Fin 128) : BitVec 32 := BitVec.ofNat 32 l.val

/-- A lane number as a gather takes it. -/
def wrapped (i : BitVec 32) : BitVec 32 := Scalar.select (IntOp.cmpi .slt i 0#32) (IntOp.addi i 128#32) i

/-- The lane a gather reads for an index. -/
def laneOf (i : BitVec 32) : Fin 128 := ⟨(wrapped i).toNat % 128, Nat.mod_lt _ (by decide)⟩

/-- A lane's partner at distance d. -/
def partner (d : BitVec 32) (l : Fin 128) : Fin 128 := laneOf (IntOp.xori (lane l) d)

/-- Whether a lane is the upper of its pair at distance d. -/
def upper (d : BitVec 32) (l : Fin 128) : BitVec 1 := IntOp.cmpi .ne (IntOp.andi (lane l) d) 0#32

/-- Two tiles merged at distance d: a pair's lower lane takes the first tile, its upper lane the second. -/
def mergeL {α : Type} (op : α → α → α) (d : BitVec 32) (a b : Fin 128 → α) (l : Fin 128) : α :=
  op (Scalar.select (upper d l) (b l) (a l)) (Scalar.select (upper d (partner d l)) (a (partner d l)) (b (partner d l)))

/-- A tile with each lane and its partner at distance d combined. -/
def foldL {α : Type} (op : α → α → α) (d : BitVec 32) (a : Fin 128 → α) (l : Fin 128) : α := op (a l) (a (partner d l))

/-- Four tiles brought to one: two merges at 16, one at 8, and the folds at 4, 2 and 1. -/
def tilesL {α : Type} (op : α → α → α) (t0 t1 t2 t3 : Fin 128 → α) : Fin 128 → α :=
  foldL op 1#32 (foldL op 2#32 (foldL op 4#32 (mergeL op 8#32 (mergeL op 16#32 t0 t1) (mergeL op 16#32 t2 t3))))

/-- The index of the lane a scale is read from, for a block of scales that starts at lane o. -/
def pick (o i : BitVec 32) : BitVec 32 :=
  IntOp.ori (IntOp.ori (IntOp.shli .vector (IntOp.andi (IntOp.subi i o) 3#32) 5#32) (IntOp.shli .vector (IntOp.andi (IntOp.subi i o) 4#32) 2#32))
    (IntOp.andi (IntOp.subi i o) 8#32)

/-- Whether a lane is among the 16 of the block. -/
def among (o i : BitVec 32) : BitVec 1 := IntOp.andi (IntOp.cmpi .sge (IntOp.subi i o) 0#32) (IntOp.cmpi .slt (IntOp.subi i o) 16#32)

/-- The lane a scale is read from. -/
def source (o : BitVec 32) (l : Fin 128) : Fin 128 := laneOf (Scalar.select (among o (lane l)) (pick o (lane l)) 0#32)

theorem select_map {α β : Type} (f : α → β) (c : BitVec 1) (a b : α) : Scalar.select c (f a) (f b) = f (Scalar.select c a b) := by
  unfold Scalar.select
  split <;> rfl

theorem mergeL_map {α β : Type} (f : α → β) (op : α → α → α) (op' : β → β → β) (h : ∀ a b, f (op a b) = op' (f a) (f b)) (d : BitVec 32) (a b : Fin 128 → α) :
    mergeL op' d (fun l => f (a l)) (fun l => f (b l)) = fun l => f (mergeL op d a b l) := by
  funext l
  unfold mergeL
  rw [h, select_map, select_map]

theorem foldL_map {α β : Type} (f : α → β) (op : α → α → α) (op' : β → β → β) (h : ∀ a b, f (op a b) = op' (f a) (f b)) (d : BitVec 32) (a : Fin 128 → α) :
    foldL op' d (fun l => f (a l)) = fun l => f (foldL op d a l) := by
  funext l
  exact (h _ _).symm

theorem tilesL_map {α β : Type} (f : α → β) (op : α → α → α) (op' : β → β → β) (h : ∀ a b, f (op a b) = op' (f a) (f b)) (t0 t1 t2 t3 : Fin 128 → α) :
    tilesL op' (fun l => f (t0 l)) (fun l => f (t1 l)) (fun l => f (t2 l)) (fun l => f (t3 l)) = fun l => f (tilesL op t0 t1 t2 t3 l) := by
  unfold tilesL
  rw [mergeL_map f op op' h, mergeL_map f op op' h, mergeL_map f op op' h, foldL_map f op op' h, foldL_map f op op' h, foldL_map f op op' h]

/-- Which of 512 columns reach a lane, as the bits of a number. -/
def reach : Fin 128 → ℕ := tilesL Nat.lor (fun l => 2 ^ l.val) (fun l => 2 ^ (128 + l.val)) (fun l => 2 ^ (256 + l.val)) (fun l => 2 ^ (384 + l.val))

theorem reach_first : ∀ g : Fin 16, reach (source 0#32 ⟨g.val, by omega⟩) = (2 ^ 32 - 1) <<< (32 * g.val) := by decide +kernel

theorem reach_second : ∀ g : Fin 16, reach (source 16#32 ⟨16 + g.val, by omega⟩) = (2 ^ 32 - 1) <<< (32 * g.val) := by decide +kernel

theorem among_first : ∀ g : Fin 32, among 0#32 (lane ⟨g.val, by omega⟩) = BitVec.ofBool (decide (g.val < 16)) := by decide +kernel

theorem among_second : ∀ g : Fin 32, among 16#32 (lane ⟨g.val, by omega⟩) = BitVec.ofBool (decide (¬ g.val < 16)) := by decide +kernel

/-- The largest of the values whose columns are the bits of n. -/
def supOf (f : ℕ → EReal) (n : ℕ) : EReal := ((Finset.range 512).filter (fun i => n.testBit i = true)).sup f

theorem supOf_lor (f : ℕ → EReal) (a b : ℕ) : supOf f (Nat.lor a b) = max (supOf f a) (supOf f b) := by
  unfold supOf
  have : ((Finset.range 512).filter (fun i => (Nat.lor a b).testBit i = true))
      = (Finset.range 512).filter (fun i => a.testBit i = true) ∪ (Finset.range 512).filter (fun i => b.testBit i = true) := by
    rw [← Finset.filter_or]
    refine Finset.filter_congr fun i _ => ?_
    rw [show Nat.lor a b = a ||| b from rfl, Nat.testBit_or, Bool.or_eq_true]
  rw [this, Finset.sup_union]

theorem supOf_pow (f : ℕ → EReal) (c : ℕ) (h : c < 512) : supOf f (2 ^ c) = f c := by
  unfold supOf
  have : ((Finset.range 512).filter (fun i => (2 ^ c).testBit i = true)) = {c} := by
    ext i
    rw [Finset.mem_filter, Finset.mem_range, Nat.testBit_two_pow, decide_eq_true_eq, Finset.mem_singleton]
    omega
  rw [this, Finset.sup_singleton]

theorem supOf_group (f : ℕ → EReal) (g : ℕ) (h : g < 16) :
    supOf f ((2 ^ 32 - 1) <<< (32 * g)) = (Finset.univ : Finset (Fin 32)).sup (fun c => f (32 * g + c.val)) := by
  unfold supOf
  have : ((Finset.range 512).filter (fun i => ((2 ^ 32 - 1) <<< (32 * g)).testBit i = true))
      = (Finset.univ : Finset (Fin 32)).image (fun c => 32 * g + c.val) := by
    ext i
    rw [Finset.mem_filter, Finset.mem_range, Nat.testBit_shiftLeft, Nat.testBit_two_pow_sub_one, Finset.mem_image, Bool.and_eq_true, decide_eq_true_eq, decide_eq_true_eq]
    constructor
    · rintro ⟨h1, h2, h3⟩
      exact ⟨⟨i - 32 * g, h3⟩, Finset.mem_univ _, show 32 * g + (i - 32 * g) = i by omega⟩
    · rintro ⟨c, _, rfl⟩
      have := c.isLt
      exact ⟨by omega, by omega, by omega⟩
  rw [this, Finset.sup_image]
  rfl

/-- The lane-wise maximum of four tiles of 128, at any lane. -/
theorem tiles_max (f : ℕ → EReal) (l : Fin 128) :
    tilesL max (fun l => f l.val) (fun l => f (128 + l.val)) (fun l => f (256 + l.val)) (fun l => f (384 + l.val)) l = supOf f (reach l) := by
  have e := congrFun (tilesL_map (supOf f) Nat.lor max (supOf_lor f) (fun l => 2 ^ l.val) (fun l => 2 ^ (128 + l.val)) (fun l => 2 ^ (256 + l.val))
    (fun l => 2 ^ (384 + l.val))) l
  refine Eq.trans ?_ e
  have h : ∀ (o : ℕ) (ho : o ≤ 384), (fun l : Fin 128 => f (o + l.val)) = fun l => supOf f (2 ^ (o + l.val)) := fun o ho => funext fun l => by
    have := l.isLt
    exact (supOf_pow f (o + l.val) (by omega)).symm
  have h0 : (fun l : Fin 128 => f l.val) = fun l => supOf f (2 ^ l.val) := funext fun l => by
    have := l.isLt
    exact (supOf_pow f l.val (by omega)).symm
  rw [h0, h 128 (by omega), h 256 (by omega), h 384 (by omega)]

/-- A group's largest absolute value, as a supremum. -/
theorem rowMax_sup {K : ℕ} (row : Fin K → EReal) :
    rowMax row = (Finset.univ : Finset (Fin K)).sup (fun k => FloatOps.absf (F := Ideal) (φ := .f32) (row k)) := by
  have : FloatOps.ofBits (F := Ideal) .f32 0xFF800000#32 = (⊥ : EReal) := by
    show Ideal.ieee 8 23 (0xFF800000#32) = ⊥
    simp [Ideal.ieee]
  unfold rowMax
  rw [this]
  rfl

/-! ### The blocks -/

/-- Three axes with a last one of 1. -/
abbrev Col3 (M : ℕ) : Shape := ⟨3, ![M, 128, 1]⟩

section Blocks

variable {M : ℕ} (lanes : IVec (Mat M 128) 32) (h1 : (Mat M 128).ShapeCasts (Col3 M)) (h2 : (Col3 M).ShapeCasts (Mat M 128))

/-- A block gathered along the lanes by indices. -/
def gatherV {α : Type} (idx : IVec (Mat M 128) 32) (x : (Mat M 128).Idx → α) : (Mat M 128).Idx → α :=
  dynamicGather (s := Mat M 128) 1 x (shapeCast (Mat M 128) (shapeCast (Col3 M)
    (select (cmpi .slt idx (broadcast (Mat M 128) 0#32)) (addi idx (broadcast (Mat M 128) 128#32)) idx) h1) h2)

/-- Two tiles merged at distance d. -/
def mergeV (d : BitVec 32) (a b : FVec Ideal (Mat M 128) .f32) : FVec Ideal (Mat M 128) .f32 :=
  maximumf (select (cmpi .ne (andi lanes (broadcast (Mat M 128) d)) (broadcast (Mat M 128) 0#32)) b a)
    (gatherV h1 h2 (xori lanes (broadcast (Mat M 128) d))
      (select (cmpi .ne (andi lanes (broadcast (Mat M 128) d)) (broadcast (Mat M 128) 0#32)) a b))

/-- A tile folded at distance d. -/
def foldV (d : BitVec 32) (a : FVec Ideal (Mat M 128) .f32) : FVec Ideal (Mat M 128) .f32 :=
  maximumf a (gatherV h1 h2 (xori lanes (broadcast (Mat M 128) d)) a)

/-- Four tiles brought to one. -/
def tilesV (t0 t1 t2 t3 : FVec Ideal (Mat M 128) .f32) : FVec Ideal (Mat M 128) .f32 :=
  foldV lanes h1 h2 1#32 (foldV lanes h1 h2 2#32 (foldV lanes h1 h2 4#32
    (mergeV lanes h1 h2 8#32 (mergeV lanes h1 h2 16#32 t0 t1) (mergeV lanes h1 h2 16#32 t2 t3))))

/-- The exponents placed in the 16 lanes from o on. -/
def placeV (o : BitVec 32) (x old : IVec (Mat M 128) 32) : IVec (Mat M 128) 32 :=
  select (andi (cmpi .sge (subi lanes (broadcast (Mat M 128) o)) (broadcast (Mat M 128) 0#32)) (cmpi .slt (subi lanes (broadcast (Mat M 128) o)) (broadcast (Mat M 128) 16#32)))
    (gatherV h1 h2 (select (andi (cmpi .sge (subi lanes (broadcast (Mat M 128) o)) (broadcast (Mat M 128) 0#32)) (cmpi .slt (subi lanes (broadcast (Mat M 128) o)) (broadcast (Mat M 128) 16#32)))
      (ori (ori (shli (andi (subi lanes (broadcast (Mat M 128) o)) (broadcast (Mat M 128) 3#32)) (broadcast (Mat M 128) 5#32))
        (shli (andi (subi lanes (broadcast (Mat M 128) o)) (broadcast (Mat M 128) 4#32)) (broadcast (Mat M 128) 2#32)))
        (andi (subi lanes (broadcast (Mat M 128) o)) (broadcast (Mat M 128) 8#32)))
      (broadcast (Mat M 128) 0#32)) (shrui x (broadcast (Mat M 128) 23#32))) old

/-- One step of the binary search on a block. -/
def stepV (b : BitVec 32) (m : FVec Ideal (Mat M 128) .f32) (e : IVec (Mat M 128) 32) : IVec (Mat M 128) 32 :=
  select (cmpf .oge m (bitcastToFloat .f32 (subi (shli (addi e (broadcast (Mat M 128) b)) (broadcast (Mat M 128) 23#32)) (broadcast (Mat M 128) 4194304#32))))
    (addi e (broadcast (Mat M 128) b)) e

/-- The binary search on a block. -/
def searchV (m : FVec Ideal (Mat M 128) .f32) : IVec (Mat M 128) 32 :=
  stepV 1#32 m (stepV 2#32 m (stepV 4#32 m (stepV 8#32 m (stepV 16#32 m (stepV 32#32 m (stepV 64#32 m (stepV 128#32 m (broadcast (Mat M 128) 0#32))))))))

/-- The exponents in place. -/
def expV (e : IVec (Mat M 128) 32) : IVec (Mat M 128) 32 :=
  shli (subi (select (cmpi .slt e (broadcast (Mat M 128) 4#32)) (broadcast (Mat M 128) 129#32) e) (broadcast (Mat M 128) 2#32)) (broadcast (Mat M 128) 23#32)

theorem expV_apply (m : FVec Ideal (Mat M 128) .f32) (j : (Mat M 128).Idx) : expV (searchV m) j = expOf (search (m j)) := rfl

theorem cast_back (x : IVec (Mat M 128) 32) (r : Fin M) (l : Fin 128) :
    shapeCast (Mat M 128) (shapeCast (Col3 M) x h1) h2 (ix2 r l) = x (ix2 r l) := by
  have e : ((Col3 M).rowMajor (ix3 r l (0 : Fin 1))).val = ((Mat M 128).rowMajor (ix2 r l)).val := by
    rw [Shape.rowMajor_val_three, Shape.rowMajor_val_two]
    show (r.val * 128 + l.val) * 1 + 0 = r.val * 128 + l.val
    omega
  rw [shapeCast_apply _ h2 (ix2 r l) (ix3 r l (0 : Fin 1)) e, shapeCast_apply _ h1 (ix3 r l (0 : Fin 1)) (ix2 r l) e.symm]

theorem gatherV_apply {α : Type} (idx : IVec (Mat M 128) 32) (x : (Mat M 128).Idx → α) (r : Fin M) (l : Fin 128) :
    gatherV h1 h2 idx x (ix2 r l) = x (ix2 r (laneOf (idx (ix2 r l)))) := by
  unfold gatherV
  generalize he : shapeCast (Mat M 128) (shapeCast (Col3 M)
    (select (cmpi .slt idx (broadcast (Mat M 128) 0#32)) (addi idx (broadcast (Mat M 128) 128#32)) idx) h1) h2 = w
  have hw : w (ix2 r l) = wrapped (idx (ix2 r l)) := by
    rw [← he, cast_back]
    rfl
  unfold dynamicGather
  refine congrArg x (funext fun d => Fin.ext ?_)
  match d with
  | ⟨0, _⟩ => rfl
  | ⟨1, _⟩ =>
    show (w (ix2 r l)).toNat % 128 = (wrapped (idx (ix2 r l))).toNat % 128
    rw [hw]

variable (hl : ∀ (r : Fin M) (l : Fin 128), lanes (ix2 r l) = lane l)
include hl

theorem mergeV_apply (d : BitVec 32) (a b : FVec Ideal (Mat M 128) .f32) (r : Fin M) (l : Fin 128) :
    mergeV lanes h1 h2 d a b (ix2 r l) = mergeL (α := EReal) max d (fun l => a (ix2 r l)) (fun l => b (ix2 r l)) l := by
  show max (Scalar.select (IntOp.cmpi .ne (IntOp.andi (lanes (ix2 r l)) d) 0#32) (b (ix2 r l)) (a (ix2 r l)) : EReal) (gatherV h1 h2 _ _ (ix2 r l)) = _
  rw [gatherV_apply]
  show max (Scalar.select (IntOp.cmpi .ne (IntOp.andi (lanes (ix2 r l)) d) 0#32) (b (ix2 r l)) (a (ix2 r l)) : EReal)
    (Scalar.select (IntOp.cmpi .ne (IntOp.andi (lanes (ix2 r (laneOf (IntOp.xori (lanes (ix2 r l)) d)))) d) 0#32) (a (ix2 r (laneOf (IntOp.xori (lanes (ix2 r l)) d))))
      (b (ix2 r (laneOf (IntOp.xori (lanes (ix2 r l)) d))))) = _
  rw [hl, hl]
  rfl

theorem foldV_apply (d : BitVec 32) (a : FVec Ideal (Mat M 128) .f32) (r : Fin M) (l : Fin 128) :
    foldV lanes h1 h2 d a (ix2 r l) = foldL (α := EReal) max d (fun l => a (ix2 r l)) l := by
  show max (a (ix2 r l) : EReal) (gatherV h1 h2 _ _ (ix2 r l)) = _
  rw [gatherV_apply]
  show max (a (ix2 r l) : EReal) (a (ix2 r (laneOf (IntOp.xori (lanes (ix2 r l)) d)))) = _
  rw [hl]
  rfl

theorem tilesV_apply (t0 t1 t2 t3 : FVec Ideal (Mat M 128) .f32) (r : Fin M) (l : Fin 128) :
    tilesV lanes h1 h2 t0 t1 t2 t3 (ix2 r l)
      = tilesL (α := EReal) max (fun l => t0 (ix2 r l)) (fun l => t1 (ix2 r l)) (fun l => t2 (ix2 r l)) (fun l => t3 (ix2 r l)) l := by
  unfold tilesV tilesL
  simp only [foldV_apply lanes h1 h2 hl, mergeV_apply lanes h1 h2 hl]

theorem placeV_apply (o : BitVec 32) (x old : IVec (Mat M 128) 32) (r : Fin M) (l : Fin 128) :
    placeV lanes h1 h2 o x old (ix2 r l)
      = Scalar.select (among o (lane l)) (IntOp.shrui .vector (x (ix2 r (source o l))) 23#32) (old (ix2 r l)) := by
  show Scalar.select (among o (lanes (ix2 r l))) (gatherV h1 h2 _ _ (ix2 r l)) (old (ix2 r l)) = _
  rw [gatherV_apply]
  show Scalar.select (among o (lanes (ix2 r l)))
    (IntOp.shrui .vector (x (ix2 r (laneOf (Scalar.select (among o (lanes (ix2 r l))) (pick o (lanes (ix2 r l))) 0#32)))) 23#32) (old (ix2 r l)) = _
  rw [hl]
  rfl

end Blocks

/-- A tile's absolute values, at a lane. -/
def absAt (row : Fin 1024 → EReal) (o : ℕ) (i : ℕ) : EReal :=
  if h : o + i < 1024 then FloatOps.absf (F := Ideal) (φ := .f32) (row ⟨o + i, h⟩) else ⊥

/-- Group g of a row of 1024. -/
def groupOf (row : Fin 1024 → EReal) (g : Fin 32) : Fin 32 → EReal :=
  fun c => row ⟨32 * g.val + c.val, by have := g.isLt; have := c.isLt; omega⟩

theorem absAt_group (row : Fin 1024 → EReal) (o g : ℕ) (hg : g < 16) (G : Fin 32) (hG : 32 * G.val = o + 32 * g) :
    supOf (absAt row o) ((2 ^ 32 - 1) <<< (32 * g)) = rowMax (groupOf row G) := by
  rw [supOf_group _ g hg, rowMax_sup]
  refine congrArg (fun f => Finset.sup _ f) (funext fun c => ?_)
  have h1 := c.isLt
  have h2 := G.isLt
  unfold absAt
  rw [dif_pos (show o + (32 * g + c.val) < 1024 by omega)]
  exact congrArg (fun i => FloatOps.absf (F := Ideal) (φ := .f32) (row i)) (Fin.ext (show o + (32 * g + c.val) = 32 * G.val + c.val by omega))

section Scales

variable {M : ℕ} (lanes : IVec (Mat M 128) 32) (h1 : (Mat M 128).ShapeCasts (Col3 M)) (h2 : (Col3 M).ShapeCasts (Mat M 128))
variable (hl : ∀ (r : Fin M) (l : Fin 128), lanes (ix2 r l) = lane l)

/-- One tile's absolute values. -/
theorem tile_abs (z : FVec Ideal (Mat M 1024) .f32) (o : ℕ) (h : (Mat M 1024).Slices ![0, o] (Mat M 128)) (ho : o + 128 ≤ 1024) (r : Fin M) (l : Fin 128) :
    absf (extractStridedSlice (Mat M 128) ![0, o] z h) (ix2 r l) = absAt (fun k => z (ix2 r k)) 0 (o + l.val) := by
  have hl := l.isLt
  unfold absAt
  rw [dif_pos (show 0 + (o + l.val) < 1024 by omega)]
  show FloatOps.absf (F := Ideal) (φ := .f32) (z _) = FloatOps.absf (F := Ideal) (φ := .f32) (z _)
  refine congrArg (fun i => FloatOps.absf (F := Ideal) (φ := .f32) (z i)) (funext fun d => Fin.ext ?_)
  match d with
  | ⟨0, _⟩ => show 0 + r.val = r.val; omega
  | ⟨1, _⟩ => show o + l.val = 0 + (o + l.val); omega

include hl

/-- Four neighbouring tiles' largest absolute values, at any lane. -/
theorem tiles_apply (z : FVec Ideal (Mat M 1024) .f32) (o : ℕ) (ho : o + 512 ≤ 1024) (s0 : (Mat M 1024).Slices ![0, o] (Mat M 128))
    (s1 : (Mat M 1024).Slices ![0, o + 128] (Mat M 128)) (s2 : (Mat M 1024).Slices ![0, o + 256] (Mat M 128)) (s3 : (Mat M 1024).Slices ![0, o + 384] (Mat M 128))
    (r : Fin M) (l : Fin 128) :
    tilesV lanes h1 h2 (absf (extractStridedSlice (Mat M 128) ![0, o] z s0)) (absf (extractStridedSlice (Mat M 128) ![0, o + 128] z s1))
      (absf (extractStridedSlice (Mat M 128) ![0, o + 256] z s2)) (absf (extractStridedSlice (Mat M 128) ![0, o + 384] z s3)) (ix2 r l)
      = supOf (absAt (fun k => z (ix2 r k)) o) (reach l) := by
  rw [tilesV_apply lanes h1 h2 hl]
  simp only [tile_abs z o s0 (by omega), tile_abs z (o + 128) s1 (by omega), tile_abs z (o + 256) s2 (by omega), tile_abs z (o + 384) s3 (by omega)]
  refine Eq.trans ?_ (tiles_max (absAt (fun k => z (ix2 r k)) o) l)
  have e : ∀ i, absAt (fun k => z (ix2 r k)) o i = absAt (fun k => z (ix2 r k)) 0 (o + i) := fun i => by
    unfold absAt
    simp only [Nat.zero_add]
  simp only [e, Nat.add_assoc]

/-- The stored bytes. -/
theorem scales_apply (z : FVec Ideal (Mat M 1024) .f32) (m0 m1 : FVec Ideal (Mat M 128) .f32) (old : IVec (Mat M 128) 32)
    (e0 : ∀ r l, m0 (ix2 r l) = supOf (absAt (fun k => z (ix2 r k)) 0) (reach l)) (e1 : ∀ r l, m1 (ix2 r l) = supOf (absAt (fun k => z (ix2 r k)) 512) (reach l))
    (hs : (Mat M 128).Slices ![0, 0] (Mat M 32)) (hw : 8 < 32) (r : Fin M) (g : Fin 32) :
    trunci 8 (extractStridedSlice (Mat M 32) ![0, 0]
      (placeV lanes h1 h2 16#32 (expV (searchV m1)) (placeV lanes h1 h2 0#32 (expV (searchV m0)) old)) hs) hw (ix2 r g)
      = byteOf (rowMax (groupOf (fun k => z (ix2 r k)) g)) := by
  have hg := g.isLt
  generalize hp : placeV lanes h1 h2 16#32 (expV (searchV m1)) (placeV lanes h1 h2 0#32 (expV (searchV m0)) old) = p
  have e : trunci 8 (extractStridedSlice (Mat M 32) ![0, 0] p hs) hw (ix2 r g) = (p (ix2 r (⟨g.val, by omega⟩ : Fin 128))).setWidth 8 := by
    unfold trunci extractStridedSlice
    refine congrArg (fun i => (p i).setWidth 8) (funext fun d => Fin.ext ?_)
    match d with
    | ⟨0, _⟩ => show 0 + r.val = r.val; omega
    | ⟨1, _⟩ => show 0 + g.val = g.val; omega
  rw [e, ← hp, placeV_apply lanes h1 h2 hl, placeV_apply lanes h1 h2 hl, among_first g, among_second g, select_ofBool, select_ofBool, expV_apply, expV_apply]
  unfold byteOf
  by_cases h : g.val < 16
  · rw [if_neg (by omega), if_pos h, e0, reach_first ⟨g.val, h⟩, absAt_group (fun k => z (ix2 r k)) 0 g.val h g (by omega)]
  · have hq : reach (source 16#32 ⟨g.val, by omega⟩) = (2 ^ 32 - 1) <<< (32 * (g.val - 16)) := by
      have q := reach_second ⟨g.val - 16, by omega⟩
      refine Eq.trans (congrArg (fun i => reach (source 16#32 i)) (Fin.ext ?_)) q
      show g.val = 16 + (g.val - 16)
      omega
    rw [if_pos h, e1, hq, absAt_group (fun k => z (ix2 r k)) 512 (g.val - 16) (by omega) g (by omega)]

end Scales

/-- The scales of z. -/
def W13 {M K : ℕ} (A0 : (Mat M K).Idx → EReal) (A1 : (Mat 1 K).Idx → EReal) (A4 : (⟨1, ![1]⟩ : Shape).Idx → EReal) (A6 : (Mat K 1024).Idx → EReal)
    (A7 : (Mat 1 1024).Idx → EReal) : (Mat M 32).Idx → BitVec 8 :=
  fun j => byteOf (rowMax (groupOf (rowOf (W9 A0 A1 A4 A6 A7) (j 0)) (j 1)))

/-- A row of z's scales depends on that row of the first array alone. -/
theorem W13_row {M M' K : ℕ} (A0 : (Mat M K).Idx → EReal) (B0 : (Mat M' K).Idx → EReal) (A1 : (Mat 1 K).Idx → EReal)
    (A4 : (⟨1, ![1]⟩ : Shape).Idx → EReal) (A6 : (Mat K 1024).Idx → EReal) (A7 : (Mat 1 1024).Idx → EReal) (r : Fin M) (r' : Fin M') (g : Fin 32)
    (h : rowOf A0 r = rowOf B0 r') : W13 A0 A1 A4 A6 A7 (ix2 r g) = W13 B0 A1 A4 A6 A7 (ix2 r' g) :=
  congrArg (fun row => byteOf (rowMax (groupOf row g)))
    (funext fun k => congrArg (fun f => downOf f (rowOf A1 0) (colOf A6 k) (oneOf A4) (rowOf A7 0 k)) h)

/-! ### The reference's groups and counts -/

/-- A row's largest absolute values by groups of 32, as the reference takes them. -/
theorem groupMax_apply {M N : ℕ} (hN : N = M * 32) (z : FVec Ideal (Mat M 1024) .f32) (hc : (Mat M 1024).ShapeCasts (Mat N 32))
    (hr : (Mat N 32).Reduces [1] ⟨1, ![N]⟩) (hd : (⟨1, ![N]⟩ : Shape).ShapeCasts (Mat M 32)) (r : Fin M) (g : Fin 32) :
    shapeCast (Mat M 32) (multiReduction .maximumf [1] ⟨1, ![N]⟩ (absf (shapeCast (Mat N 32) z hc)) 0xFF800000#32 hr (.inl rfl) rfl) hd (ix2 r g)
      = rowMax (groupOf (fun k => z (ix2 r k)) g) := by
  have h1 := r.isLt
  have h2 := g.isLt
  have hk : r.val * 32 + g.val < N := by omega
  rw [shapeCast_apply _ hd (ix2 r g) (ix1 ⟨r.val * 32 + g.val, hk⟩) (by
    rw [Shape.rowMajor_val_one, Shape.rowMajor_val_two]
    rfl)]
  refine (Ideal.multiReduction_maximumf_single (s := Mat N 32) (t := ⟨1, ![N]⟩) (a := (1 : Fin 2)) (absf (shapeCast (Mat N 32) z hc)) 0xFF800000#32 hr (.inl rfl) rfl
    (ix1 ⟨r.val * 32 + g.val, hk⟩)).trans ?_
  refine congrArg (fun f => Finset.fold max _ f _) (funext fun c => ?_)
  have h3 : c.val < 32 := c.isLt
  show FloatOps.absf (shapeCast (Mat N 32) z hc (hr.lift (ix1 ⟨r.val * 32 + g.val, hk⟩) c)) = _
  refine congrArg FloatOps.absf (shapeCast_apply z hc _ (ix2 r ⟨32 * g.val + c.val, by omega⟩) ?_)
  have e : hr.lift (ix1 ⟨r.val * 32 + g.val, hk⟩) c = ix2 (⟨r.val * 32 + g.val, hk⟩ : Fin N) (⟨c.val, h3⟩ : Fin 32) := funext fun a => Fin.ext (by
    match a with
    | ⟨0, _⟩ => rfl
    | ⟨1, _⟩ => rfl)
  rw [e, Shape.rowMajor_val_two, Shape.rowMajor_val_two]
  show r.val * 1024 + (32 * g.val + c.val) = (r.val * 32 + g.val) * 32 + c.val
  omega

/-- One more number counted. -/
def more (m t : EReal) (x : BitVec 32) : BitVec 32 := IntOp.addi x ((FloatOps.cmpf (F := Ideal) (φ := .f32) .oge m t).setWidth 32)

theorem count4 (m : EReal) (k : ℕ) (x : BitVec 32) (hx : x = count m k) :
    more m (thr (k + 7)) (more m (thr (k + 6)) (more m (thr (k + 5)) (more m (thr (k + 4)) x))) = count m (k + 4) := by
  subst hx
  rfl

theorem count8 (m : EReal) (k : ℕ) (x : BitVec 32) (hx : x = count m k) :
    more m (thr (k + 11)) (more m (thr (k + 10)) (more m (thr (k + 9)) (more m (thr (k + 8))
      (more m (thr (k + 7)) (more m (thr (k + 6)) (more m (thr (k + 5)) (more m (thr (k + 4)) x))))))) = count m (k + 8) := by
  subst hx
  rfl

theorem count12 (m : EReal) (k : ℕ) (x : BitVec 32) (hx : x = count m k) :
    more m (thr (k + 15)) (more m (thr (k + 14)) (more m (thr (k + 13)) (more m (thr (k + 12))
      (more m (thr (k + 11)) (more m (thr (k + 10)) (more m (thr (k + 9)) (more m (thr (k + 8))
      (more m (thr (k + 7)) (more m (thr (k + 6)) (more m (thr (k + 5)) (more m (thr (k + 4)) x))))))))))) = count m (k + 12) := by
  subst hx
  rfl

end Cert.FrontScale

end
-- ==== Proof.FrontScaleValue.lean ====
module

public import proofs.«01_k».proof.Proof.FrontValue
public import proofs.«01_k».proof.Proof.FrontScale

/-!
What one grid point of the first stage's kernel leaves in its block of z_scales: the bytes of the groups of 32 columns
of its block of z.
-/

@[expose] public section

set_option maxRecDepth 16384

noncomputable section

namespace Cert.FrontIdeal.Hand

open Cert.FrontIdeal Cert.FrontIdeal.Gen Cert.BackForms Cert.FrontForms Cert.FrontScale Idealize.ShloMosaic Idealize.ShloMosaic.ValueIdx Idealize.ShloMosaic.Tactic
open scoped BigOperators

/-- The lane numbers. -/
theorem v34_apply (r : Fin 256) (l : Fin 128) : kernelRun0_A.sl.v34 (ix2 r l) = lane l := by
  show BitVec.ofNat 32 (0 * 128 + l.val) = BitVec.ofNat 32 l.val
  rw [Nat.zero_mul, Nat.zero_add]

section Block

variable (z : FVec Ideal S256x1024 .f32)

/-- The first four tiles' largest absolute values. -/
theorem first_tiles : k0_pay16 (F := Ideal) kernelRun0_A.sl.v34 (k0_pay13 z) (k0_pay14 z) k0_pay15
    = tilesV (M := 256) kernelRun0_A.sl.v34 shapeCasts_S256x128_S256x128x1 shapeCasts_S256x128x1_S256x128
      (absf (extractStridedSlice S256x128 ![0, 0] z slices_S256x1024_o0_0_S256x128)) (absf (extractStridedSlice S256x128 ![0, 128] z slices_S256x1024_o0_128_S256x128))
      (absf (extractStridedSlice S256x128 ![0, 256] z slices_S256x1024_o0_256_S256x128)) (absf (extractStridedSlice S256x128 ![0, 384] z slices_S256x1024_o0_384_S256x128)) := rfl

/-- The last four tiles' largest absolute values. -/
theorem last_tiles : k0_pay88 (F := Ideal) kernelRun0_A.sl.v34 (k0_pay85 (k0_pay81 z) (k0_pay82 z) kernelRun0_A.sl.v34 (k0_pay83 z) k0_pay84) (k0_pay86 kernelRun0_A.sl.v34) k0_pay87
    = tilesV (M := 256) kernelRun0_A.sl.v34 shapeCasts_S256x128_S256x128x1 shapeCasts_S256x128x1_S256x128
      (absf (extractStridedSlice S256x128 ![0, 512] z slices_S256x1024_o0_512_S256x128)) (absf (extractStridedSlice S256x128 ![0, 640] z slices_S256x1024_o0_640_S256x128))
      (absf (extractStridedSlice S256x128 ![0, 768] z slices_S256x1024_o0_768_S256x128)) (absf (extractStridedSlice S256x128 ![0, 896] z slices_S256x1024_o0_896_S256x128)) := rfl

/-- The first search. -/
theorem first_search (m : FVec Ideal S256x128 .f32) : k0_pay20 (k0_pay19 m (k0_pay18 m k0_pay17)) = expV (M := 256) (searchV m) := rfl

/-- The second search. -/
theorem second_search (w : FVec Ideal S256x128 .f32) (m : FVec Ideal S256x128 .f32)
    (hm : m = k0_pay88 kernelRun0_A.sl.v34 w (k0_pay86 kernelRun0_A.sl.v34) k0_pay87) :
    k0_pay95 m (k0_pay92 m (k0_pay89 kernelRun0_A.sl.v34 w (k0_pay86 kernelRun0_A.sl.v34) k0_pay87) (k0_pay90 kernelRun0_A.sl.v34 w (k0_pay86 kernelRun0_A.sl.v34) k0_pay87) k0_pay91)
      (k0_pay93 m (k0_pay89 kernelRun0_A.sl.v34 w (k0_pay86 kernelRun0_A.sl.v34) k0_pay87) (k0_pay90 kernelRun0_A.sl.v34 w (k0_pay86 kernelRun0_A.sl.v34) k0_pay87) k0_pay91) k0_pay94
      = expV (M := 256) (searchV m) := by
  subst hm
  rfl

/-- The bytes stored. -/
theorem bytes_stored (x y : IVec S256x128 32) : k0_pay139 kernelRun0_A.sl.v34 (k0_pay74 (k0_pay4 0#32) x (k0_pay71 kernelRun0_A.sl.v34) (k0_pay72 kernelRun0_A.sl.v34) k0_pay73) y
    = trunci 8 (extractStridedSlice S256x32 ![0, 0]
      (placeV (M := 256) kernelRun0_A.sl.v34 shapeCasts_S256x128_S256x128x1 shapeCasts_S256x128x1_S256x128 16#32 y
        (placeV (M := 256) kernelRun0_A.sl.v34 shapeCasts_S256x128_S256x128x1 shapeCasts_S256x128x1_S256x128 0#32 x (k0_pay4 0#32))) slices_S256x128_o0_0_S256x32) natLt_8_32 := rfl

end Block

variable (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x5376 .fp8e4m3) (harg3 : arg3.IsWhole) (arg4 : Memref sig .tc .smem S1 .f32) (harg4 : arg4.IsWhole) (arg5 : Memref sig .tc .smem S1 .f32) (harg5 : arg5.IsWhole) (arg6 : Memref sig .tc .smem S1 .f32) (harg6 : arg6.IsWhole) (arg7 : Memref sig .tc .vmem S4096x1024 .fp8e4m3) (harg7 : arg7.IsWhole) (arg8 : Memref sig .tc .vmem S1x1024 .f32) (harg8 : arg8.IsWhole) (arg9 : Memref sig .tc .vmem S256x5376 .f32) (harg9 : arg9.IsWhole) (arg10 : Memref sig .tc .vmem S256x1024 .f32) (harg10 : arg10.IsWhole) (arg11 : Memref sig .tc .vmem S256x4096 .fp8e4m3) (harg11 : arg11.IsWhole) (arg12 : Memref sig .tc .vmem S256x5376 .fp8e4m3) (harg12 : arg12.IsWhole) (arg13 : Memref sig .tc .vmem S256x1024 .i8) (harg13 : arg13.IsWhole) (arg14 : Memref sig .tc .vmem S256x32 .i8) (harg14 : arg14.IsWhole) (arg15 : Memref sig .tc .vmem S1024x128 .i32) (harg15 : arg15.IsWhole)
  (x0 : Vec Ideal S256x4096 .bf16)
  (x1 : Vec Ideal S1x4096 .f32)
  (x2 : Vec Ideal S4096x5376 .fp8e4m3)
  (x3 : Vec Ideal S1 .f32)
  (x4 : Vec Ideal S1 .f32)
  (x5 : Vec Ideal S1 .f32)
  (x6 : Vec Ideal S4096x1024 .fp8e4m3)
  (x7 : Vec Ideal S1x1024 .f32)

/-- What the block of z_scales holds. -/
theorem out13_apply : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = W13 (M := 256) (K := 4096) x0 x1 x4 x6 x7 := by
  refine (View.read_writes_full VO0_13 VO0_13.junk inb_S256x32_S256x32_0_0 _ []).trans ?_
  have hz : kernelRun0_A.sl.r_2 (F := Ideal) c arg1 harg1 arg2 harg2 arg5 harg5 arg7 harg7 arg8 harg8 arg11 x0 x1 x4 x6 x7 = W9 (M := 256) (K := 4096) (N := 1024) x0 x1 x4 x6 x7 :=
    (View.read_writes_full VO0_9 VO0_9.junk inb_S256x1024_S256x1024_0_0 _ []).symm.trans (out9_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7)
  unfold kernelRun0_A.sl.r_50 kernelRun0_A.sl.r_66 kernelRun0_A.sl.r_65 kernelRun0_A.sl.r_64 kernelRun0_A.sl.r_63 kernelRun0_A.sl.r_62
  generalize hm1 : kernelRun0_A.sl.r_61 (F := Ideal) c arg1 harg1 arg2 harg2 arg5 harg5 arg7 harg7 arg8 harg8 arg11 x0 x1 x4 x6 x7 = m1
  unfold kernelRun0_A.sl.r_61 at hm1
  generalize hw : kernelRun0_A.sl.r_60 (F := Ideal) c arg1 harg1 arg2 harg2 arg5 harg5 arg7 harg7 arg8 harg8 arg11 x0 x1 x4 x6 x7 = w at hm1 ⊢
  unfold kernelRun0_A.sl.r_60 kernelRun0_A.sl.r_59 kernelRun0_A.sl.r_58 kernelRun0_A.sl.r_57 at hw
  unfold kernelRun0_A.sl.r_16 kernelRun0_A.sl.r_15 kernelRun0_A.sl.r_14
  generalize hm0 : kernelRun0_A.sl.r_13 (F := Ideal) c arg1 harg1 arg2 harg2 arg5 harg5 arg7 harg7 arg8 harg8 arg11 x0 x1 x4 x6 x7 = m0
  unfold kernelRun0_A.sl.r_13 kernelRun0_A.sl.r_12 kernelRun0_A.sl.r_11 at hm0
  rw [hz] at hw hm0
  rw [second_search w m1 hm1.symm, first_search, bytes_stored]
  funext y
  obtain ⟨r, g, rfl⟩ : ∃ (r : Fin 256) (g : Fin 32), y = ix2 r g := ⟨y 0, y 1, eq_ix2 y⟩
  refine scales_apply (M := 256) kernelRun0_A.sl.v34 shapeCasts_S256x128_S256x128x1 shapeCasts_S256x128x1_S256x128 v34_apply
    (W9 (M := 256) (K := 4096) (N := 1024) x0 x1 x4 x6 x7) m0 m1 (k0_pay4 0#32) ?_ ?_ slices_S256x128_o0_0_S256x32 natLt_8_32 r g
  · intro r l
    rw [← hm0, first_tiles]
    exact tiles_apply (M := 256) kernelRun0_A.sl.v34 shapeCasts_S256x128_S256x128x1 shapeCasts_S256x128x1_S256x128 v34_apply
      (W9 (M := 256) (K := 4096) (N := 1024) x0 x1 x4 x6 x7) 0 (by omega) slices_S256x1024_o0_0_S256x128 slices_S256x1024_o0_128_S256x128
      slices_S256x1024_o0_256_S256x128 slices_S256x1024_o0_384_S256x128 r l
  · intro r l
    rw [← hm1, ← hw, last_tiles]
    exact tiles_apply (M := 256) kernelRun0_A.sl.v34 shapeCasts_S256x128_S256x128x1 shapeCasts_S256x128x1_S256x128 v34_apply
      (W9 (M := 256) (K := 4096) (N := 1024) x0 x1 x4 x6 x7) 512 (by omega) slices_S256x1024_o0_512_S256x128 slices_S256x1024_o0_640_S256x128
      slices_S256x1024_o0_768_S256x128 slices_S256x1024_o0_896_S256x128 r l

end Cert.FrontIdeal.Hand

end
-- ==== Proof.FrontFinal.lean ====
module

public import proofs.«01_k».proof.Proof.FrontScaleValue
public import proofs.«01_k».proof.Proof.FrontScale
public import Idealize.ShloMosaic.Lib.VecWindow
public import Idealize.ShloMosaic.Lib.Pipeline.Value
public import Idealize.ShloMosaic.Lib.Pipeline.Cells

/-!
The first stage's kernel at its end: hs_pre, z, x_codes, hs_codes and z_scales are the functions of FrontForms and
FrontScale of the argument arrays.
-/

@[expose] public section

set_option maxRecDepth 16384

noncomputable section

namespace Cert.FrontIdeal.Hand

open Cert.FrontIdeal Cert.FrontIdeal.Gen Cert.BackForms Cert.FrontForms Cert.FrontScale Idealize.ShloMosaic Idealize.ShloMosaic.ValueIdx Idealize.ShloMosaic.TcCoe
open Idealize.SL.Sem
open Idealize.ShloMosaic.Pipeline (Dat)
open scoped BigOperators

variable (m : (ℓ : Loc nD τ sig) → Buf (Elt Ideal) ℓ) (ρ : Dev nD → PrngReg) (c : Dev nD)

/-- Argument 0 of core c. -/
abbrev ar0 : (Mat 3840 4096).Idx → EReal := m ((c : Thread nD τ).loc main_arg0)
/-- Argument 1 of core c. -/
abbrev ar1 : (Mat 1 4096).Idx → EReal := m ((c : Thread nD τ).loc main_arg1)
/-- Argument 2 of core c. -/
abbrev ar2 : (Mat 4096 5376).Idx → EReal := m ((c : Thread nD τ).loc main_arg2)
/-- Argument 3 of core c. -/
abbrev ar3 : (⟨1, ![1]⟩ : Shape).Idx → EReal := m ((c : Thread nD τ).loc main_arg3)
/-- Argument 4 of core c. -/
abbrev ar4 : (⟨1, ![1]⟩ : Shape).Idx → EReal := m ((c : Thread nD τ).loc main_arg4)
/-- Argument 5 of core c. -/
abbrev ar5 : (⟨1, ![1]⟩ : Shape).Idx → EReal := m ((c : Thread nD τ).loc main_arg5)
/-- Argument 6 of core c. -/
abbrev ar6 : (Mat 4096 1024).Idx → EReal := m ((c : Thread nD τ).loc main_arg6)
/-- Argument 7 of core c. -/
abbrev ar7 : (Mat 1 1024).Idx → EReal := m ((c : Thread nD τ).loc main_arg7)

/-- Window 0's block number at each point. -/
theorem ixw0 : ∀ t : Fin cfg0.N, win0_0.index t 0 = t.val ∧ win0_0.index t 1 = 0 :=
  (by decide +kernel : ∀ t : Fin grid0.N, win0_0.index t 0 = t.val ∧ win0_0.index t 1 = 0)

/-- Window 8's block number at each point. -/
theorem ixw8 : ∀ t : Fin cfg0.N, win0_8.index t 0 = t.val ∧ win0_8.index t 1 = 0 :=
  (by decide +kernel : ∀ t : Fin grid0.N, win0_8.index t 0 = t.val ∧ win0_8.index t 1 = 0)

/-- Window 9's block number at each point. -/
theorem ixw9 : ∀ t : Fin cfg0.N, win0_9.index t 0 = t.val ∧ win0_9.index t 1 = 0 :=
  (by decide +kernel : ∀ t : Fin grid0.N, win0_9.index t 0 = t.val ∧ win0_9.index t 1 = 0)

/-- Window 10's block number at each point. -/
theorem ixw10 : ∀ t : Fin cfg0.N, win0_10.index t 0 = t.val ∧ win0_10.index t 1 = 0 :=
  (by decide +kernel : ∀ t : Fin grid0.N, win0_10.index t 0 = t.val ∧ win0_10.index t 1 = 0)

/-- Window 11's block number at each point. -/
theorem ixw11 : ∀ t : Fin cfg0.N, win0_11.index t 0 = t.val ∧ win0_11.index t 1 = 0 :=
  (by decide +kernel : ∀ t : Fin grid0.N, win0_11.index t 0 = t.val ∧ win0_11.index t 1 = 0)

/-- Window 13's block number at each point. -/
theorem ixw13 : ∀ t : Fin cfg0.N, win0_13.index t 0 = t.val ∧ win0_13.index t 1 = 0 :=
  (by decide +kernel : ∀ t : Fin grid0.N, win0_13.index t 0 = t.val ∧ win0_13.index t 1 = 0)

/-- There are fifteen points. -/
theorem lt15 (t : Fin cfg0.N) : t.val < 15 := lt_of_lt_of_eq t.isLt N_0

/-- A number below fifteen is a point. -/
theorem of15 {n : ℕ} (h : n < 15) : n < cfg0.N := lt_of_lt_of_eq h N_0.symm

/-- Block t of x: its rows from 256 t on. -/
theorem iblk0 (t : Fin cfg0.N) (r : Fin 256) :
    rowOf (M := 256) (K := 4096) (iblk m c 0 t : Vec Ideal S256x4096 .bf16) r = rowOf (ar0 m c) ⟨256 * t.val + r.val, by have := lt15 t; have := r.isLt; omega⟩ := by
  funext k
  have h := ixw0 t
  show V m c main_arg0 ((win0_0.rect t).emb (ix2 r k)) = _
  refine congrArg (V m c main_arg0) (funext fun d => Fin.ext ?_)
  match d with
  | ⟨0, _⟩ => show win0_0.index t 0 * 256 + 1 * r.val = 256 * t.val + r.val; rw [h.1]; omega
  | ⟨1, _⟩ => show win0_0.index t 1 * 4096 + 1 * k.val = k.val; rw [h.2]; omega

/-- Argument 1 is one block. -/
theorem iblk1 (t : Fin cfg0.N) : (iblk m c 1 t : Vec Ideal S1x4096 .f32) = ar1 m c := by
  have h : ∀ t : Fin cfg0.N, win0_1.index t 0 = 0 ∧ win0_1.index t 1 = 0 :=
    (by decide +kernel : ∀ t : Fin grid0.N, win0_1.index t 0 = 0 ∧ win0_1.index t 1 = 0)
  refine Eq.trans ?_ (V_main_arg1 m c)
  funext y
  show V m c main_arg1 ((win0_1.rect t).emb y) = V m c main_arg1 y
  refine congrArg (V m c main_arg1) (funext fun d => Fin.ext ?_)
  match d with
  | ⟨0, _⟩ => show win0_1.index t 0 * 1 + 1 * (y 0).val = (y 0).val; rw [(h t).1]; omega
  | ⟨1, _⟩ => show win0_1.index t 1 * 4096 + 1 * (y 1).val = (y 1).val; rw [(h t).2]; omega

/-- Argument 2 is one block. -/
theorem iblk2 (t : Fin cfg0.N) : (iblk m c 2 t : Vec Ideal S4096x5376 .fp8e4m3) = ar2 m c := by
  have h : ∀ t : Fin cfg0.N, win0_2.index t 0 = 0 ∧ win0_2.index t 1 = 0 :=
    (by decide +kernel : ∀ t : Fin grid0.N, win0_2.index t 0 = 0 ∧ win0_2.index t 1 = 0)
  refine Eq.trans ?_ (V_main_arg2 m c)
  funext y
  show V m c main_arg2 ((win0_2.rect t).emb y) = V m c main_arg2 y
  refine congrArg (V m c main_arg2) (funext fun d => Fin.ext ?_)
  match d with
  | ⟨0, _⟩ => show win0_2.index t 0 * 4096 + 1 * (y 0).val = (y 0).val; rw [(h t).1]; omega
  | ⟨1, _⟩ => show win0_2.index t 1 * 5376 + 1 * (y 1).val = (y 1).val; rw [(h t).2]; omega

/-- Argument 6 is one block. -/
theorem iblk6 (t : Fin cfg0.N) : (iblk m c 6 t : Vec Ideal S4096x1024 .fp8e4m3) = ar6 m c := by
  have h : ∀ t : Fin cfg0.N, win0_6.index t 0 = 0 ∧ win0_6.index t 1 = 0 :=
    (by decide +kernel : ∀ t : Fin grid0.N, win0_6.index t 0 = 0 ∧ win0_6.index t 1 = 0)
  refine Eq.trans ?_ (V_main_arg6 m c)
  funext y
  show V m c main_arg6 ((win0_6.rect t).emb y) = V m c main_arg6 y
  refine congrArg (V m c main_arg6) (funext fun d => Fin.ext ?_)
  match d with
  | ⟨0, _⟩ => show win0_6.index t 0 * 4096 + 1 * (y 0).val = (y 0).val; rw [(h t).1]; omega
  | ⟨1, _⟩ => show win0_6.index t 1 * 1024 + 1 * (y 1).val = (y 1).val; rw [(h t).2]; omega

/-- Argument 7 is one block. -/
theorem iblk7 (t : Fin cfg0.N) : (iblk m c 7 t : Vec Ideal S1x1024 .f32) = ar7 m c := by
  have h : ∀ t : Fin cfg0.N, win0_7.index t 0 = 0 ∧ win0_7.index t 1 = 0 :=
    (by decide +kernel : ∀ t : Fin grid0.N, win0_7.index t 0 = 0 ∧ win0_7.index t 1 = 0)
  refine Eq.trans ?_ (V_main_arg7 m c)
  funext y
  show V m c main_arg7 ((win0_7.rect t).emb y) = V m c main_arg7 y
  refine congrArg (V m c main_arg7) (funext fun d => Fin.ext ?_)
  match d with
  | ⟨0, _⟩ => show win0_7.index t 0 * 1 + 1 * (y 0).val = (y 0).val; rw [(h t).1]; omega
  | ⟨1, _⟩ => show win0_7.index t 1 * 1024 + 1 * (y 1).val = (y 1).val; rw [(h t).2]; omega

/-- Argument 3 is one block. -/
theorem iblk3 (t : Fin cfg0.N) : (iblk m c 3 t : Vec Ideal S1 .f32) = ar3 m c := by
  have h : ∀ t : Fin cfg0.N, win0_3.index t 0 = 0 := (by decide +kernel : ∀ t : Fin grid0.N, win0_3.index t 0 = 0)
  refine Eq.trans ?_ (V_main_arg3 m c)
  funext y
  show V m c main_arg3 ((win0_3.rect t).emb y) = V m c main_arg3 y
  refine congrArg (V m c main_arg3) (funext fun d => Fin.ext ?_)
  match d with
  | ⟨0, _⟩ => show win0_3.index t 0 * 1 + 1 * (y 0).val = (y 0).val; rw [h t]; omega

/-- Argument 4 is one block. -/
theorem iblk4 (t : Fin cfg0.N) : (iblk m c 4 t : Vec Ideal S1 .f32) = ar4 m c := by
  have h : ∀ t : Fin cfg0.N, win0_4.index t 0 = 0 := (by decide +kernel : ∀ t : Fin grid0.N, win0_4.index t 0 = 0)
  refine Eq.trans ?_ (V_main_arg4 m c)
  funext y
  show V m c main_arg4 ((win0_4.rect t).emb y) = V m c main_arg4 y
  refine congrArg (V m c main_arg4) (funext fun d => Fin.ext ?_)
  match d with
  | ⟨0, _⟩ => show win0_4.index t 0 * 1 + 1 * (y 0).val = (y 0).val; rw [h t]; omega

/-- Argument 5 is one block. -/
theorem iblk5 (t : Fin cfg0.N) : (iblk m c 5 t : Vec Ideal S1 .f32) = ar5 m c := by
  have h : ∀ t : Fin cfg0.N, win0_5.index t 0 = 0 := (by decide +kernel : ∀ t : Fin grid0.N, win0_5.index t 0 = 0)
  refine Eq.trans ?_ (V_main_arg5 m c)
  funext y
  show V m c main_arg5 ((win0_5.rect t).emb y) = V m c main_arg5 y
  refine congrArg (V m c main_arg5) (funext fun d => Fin.ext ?_)
  match d with
  | ⟨0, _⟩ => show win0_5.index t 0 * 1 + 1 * (y 0).val = (y 0).val; rw [h t]; omega

/-- Result 0's block is the rows from 256 t on of the whole array. -/
theorem G8_eq (t : Fin cfg0.N) (r : Fin 256) (l : Fin 5376) :
    (W8 (M := 256) (K := 4096) (N := 5376) (iblk m c 0 t) (iblk m c 1 t) (iblk m c 2 t) (iblk m c 3 t) (iblk m c 4 t)) (ix2 r l) = (W8 (ar0 m c) (ar1 m c) (ar2 m c) (ar3 m c) (ar4 m c)) (ix2 ⟨256 * t.val + r.val, by have := lt15 t; have := r.isLt; omega⟩ l) := by
  rw [iblk1, iblk2, iblk3, iblk4]
  exact congrArg (fun f => hidOf f (rowOf (ar1 m c) 0) (colOf (ar2 m c) l) (oneOf (ar4 m c)) (oneOf (ar3 m c))) (iblk0 m c t r)

/-- A block whose rows are the rows from 256 t on of a whole array is that array's block t. -/
theorem cut8_eq (t : Fin cfg0.N) (G : (Mat 256 5376).Idx → EReal) (T : (Mat 3840 5376).Idx → EReal)
    (hG : ∀ (r : Fin 256) (l : Fin 5376), G (ix2 r l) = T (ix2 ⟨256 * t.val + r.val, by have := lt15 t; have := r.isLt; omega⟩ l)) :
    (cfg0.win 8).cut (grid0.coords t) G = ((cfg0.win 8).blk t).view.read (Elt Ideal) T := by
  funext j
  have h0 : (j 0).val < 256 := lt_of_lt_of_le (j 0).isLt ((cfg0.win 8).xsize_le (grid0.coords t) 0)
  have h1 : (j 1).val < 5376 := lt_of_lt_of_le (j 1).isLt ((cfg0.win 8).xsize_le (grid0.coords t) 1)
  have hi := ixw8 t
  refine (congrArg G (?_ : _ = ix2 (⟨(j 0).val, h0⟩ : Fin 256) (⟨(j 1).val, h1⟩ : Fin 5376))).trans ((hG _ _).trans ?_)
  · funext d
    match d with
    | ⟨0, _⟩ => rfl
    | ⟨1, _⟩ => rfl
  · show _ = T ((win0_8.rect t).emb j)
    refine congrArg T (funext fun d => Fin.ext ?_)
    match d with
    | ⟨0, _⟩ => show 256 * t.val + (j 0).val = win0_8.index t 0 * 256 + 1 * (j 0).val; rw [hi.1]; omega
    | ⟨1, _⟩ => show (j 1).val = win0_8.index t 1 * 5376 + 1 * (j 1).val; rw [hi.2]; omega

/-- What point t writes back to result 0 is its block of the whole array. -/
theorem flushed8_eq (t : Fin cfg0.N) :
    (dats m 0 c).flushed 8 t = ((cfg0.win 8).blk t).view.read (Elt Ideal) (W8 (ar0 m c) (ar1 m c) (ar2 m c) (ar3 m c) (ar4 m c)) := by
  show (cfg0.win 8).cut (grid0.coords t) ((dats m 0 c).after 8 t) = _
  rw [after0_8]
  simp only [outsAt0]
  rw [out8_apply]
  exact cut8_eq t _ _ (G8_eq m c t)

/-- Every index of result 0 is in some point's block. -/
theorem covered8 (i : (Mat 3840 5376).Idx) : ∃ t : Fin cfg0.N, (cfg0.win 8).flush t = true ∧ i ∈ ((cfg0.win 8).blk t).view.set := by
  have h0 : (i 0).val < 3840 := (i 0).isLt
  have h1 : (i 1).val < 5376 := (i 1).isLt
  refine ⟨⟨(i 0).val / 256, of15 (by omega)⟩, flush0_8 _, ?_⟩
  generalize ht : (⟨(i 0).val / 256, of15 (by omega)⟩ : Fin cfg0.N) = t
  have hv : t.val = (i 0).val / 256 := by rw [← ht]
  have hi := ixw8 t
  have hx : ∀ t : Fin cfg0.N, win0_8.xsize (grid0.coords t) 0 = 256 ∧ win0_8.xsize (grid0.coords t) 1 = 5376 :=
    (by decide +kernel : ∀ t : Fin grid0.N, win0_8.xsize (grid0.coords t) 0 = 256 ∧ win0_8.xsize (grid0.coords t) 1 = 5376)
  show i ∈ ((View.whole main_v0_0).slice (win0_8.rect t)).set
  rw [View.set_slice_whole, Rect.mem_set_unit]
  intro a
  match a with
  | ⟨0, _⟩ => show win0_8.index t 0 * 256 ≤ (i 0).val ∧ (i 0).val < win0_8.index t 0 * 256 + win0_8.xsize (grid0.coords t) 0
              rw [hi.1, (hx t).1]; omega
  | ⟨1, _⟩ => show win0_8.index t 1 * 5376 ≤ (i 1).val ∧ (i 1).val < win0_8.index t 1 * 5376 + win0_8.xsize (grid0.coords t) 1
              rw [hi.2, (hx t).2]; omega

/-- So result 0's array ends as the whole function. -/
theorem final8 : (dats m 0 c).arrAt 8 cfg0.N = W8 (ar0 m c) (ar1 m c) (ar2 m c) (ar3 m c) (ar4 m c) :=
  (dats m 0 c).arrAt_eq_of_cover 8 (W8 (ar0 m c) (ar1 m c) (ar2 m c) (ar3 m c) (ar4 m c)) (fun t _ => flushed8_eq m c t) (covered8)

/-- Result 1's block is the rows from 256 t on of the whole array. -/
theorem G9_eq (t : Fin cfg0.N) (r : Fin 256) (l : Fin 1024) :
    (W9 (M := 256) (K := 4096) (N := 1024) (iblk m c 0 t) (iblk m c 1 t) (iblk m c 4 t) (iblk m c 6 t) (iblk m c 7 t)) (ix2 r l) = (W9 (ar0 m c) (ar1 m c) (ar4 m c) (ar6 m c) (ar7 m c)) (ix2 ⟨256 * t.val + r.val, by have := lt15 t; have := r.isLt; omega⟩ l) := by
  rw [iblk1, iblk4, iblk6, iblk7]
  exact congrArg (fun f => downOf f (rowOf (ar1 m c) 0) (colOf (ar6 m c) l) (oneOf (ar4 m c)) (rowOf (ar7 m c) 0 l)) (iblk0 m c t r)

/-- A block whose rows are the rows from 256 t on of a whole array is that array's block t. -/
theorem cut9_eq (t : Fin cfg0.N) (G : (Mat 256 1024).Idx → EReal) (T : (Mat 3840 1024).Idx → EReal)
    (hG : ∀ (r : Fin 256) (l : Fin 1024), G (ix2 r l) = T (ix2 ⟨256 * t.val + r.val, by have := lt15 t; have := r.isLt; omega⟩ l)) :
    (cfg0.win 9).cut (grid0.coords t) G = ((cfg0.win 9).blk t).view.read (Elt Ideal) T := by
  funext j
  have h0 : (j 0).val < 256 := lt_of_lt_of_le (j 0).isLt ((cfg0.win 9).xsize_le (grid0.coords t) 0)
  have h1 : (j 1).val < 1024 := lt_of_lt_of_le (j 1).isLt ((cfg0.win 9).xsize_le (grid0.coords t) 1)
  have hi := ixw9 t
  refine (congrArg G (?_ : _ = ix2 (⟨(j 0).val, h0⟩ : Fin 256) (⟨(j 1).val, h1⟩ : Fin 1024))).trans ((hG _ _).trans ?_)
  · funext d
    match d with
    | ⟨0, _⟩ => rfl
    | ⟨1, _⟩ => rfl
  · show _ = T ((win0_9.rect t).emb j)
    refine congrArg T (funext fun d => Fin.ext ?_)
    match d with
    | ⟨0, _⟩ => show 256 * t.val + (j 0).val = win0_9.index t 0 * 256 + 1 * (j 0).val; rw [hi.1]; omega
    | ⟨1, _⟩ => show (j 1).val = win0_9.index t 1 * 1024 + 1 * (j 1).val; rw [hi.2]; omega

/-- What point t writes back to result 1 is its block of the whole array. -/
theorem flushed9_eq (t : Fin cfg0.N) :
    (dats m 0 c).flushed 9 t = ((cfg0.win 9).blk t).view.read (Elt Ideal) (W9 (ar0 m c) (ar1 m c) (ar4 m c) (ar6 m c) (ar7 m c)) := by
  show (cfg0.win 9).cut (grid0.coords t) ((dats m 0 c).after 9 t) = _
  rw [after0_9]
  simp only [outsAt0]
  rw [out9_apply]
  exact cut9_eq t _ _ (G9_eq m c t)

/-- Every index of result 1 is in some point's block. -/
theorem covered9 (i : (Mat 3840 1024).Idx) : ∃ t : Fin cfg0.N, (cfg0.win 9).flush t = true ∧ i ∈ ((cfg0.win 9).blk t).view.set := by
  have h0 : (i 0).val < 3840 := (i 0).isLt
  have h1 : (i 1).val < 1024 := (i 1).isLt
  refine ⟨⟨(i 0).val / 256, of15 (by omega)⟩, flush0_9 _, ?_⟩
  generalize ht : (⟨(i 0).val / 256, of15 (by omega)⟩ : Fin cfg0.N) = t
  have hv : t.val = (i 0).val / 256 := by rw [← ht]
  have hi := ixw9 t
  have hx : ∀ t : Fin cfg0.N, win0_9.xsize (grid0.coords t) 0 = 256 ∧ win0_9.xsize (grid0.coords t) 1 = 1024 :=
    (by decide +kernel : ∀ t : Fin grid0.N, win0_9.xsize (grid0.coords t) 0 = 256 ∧ win0_9.xsize (grid0.coords t) 1 = 1024)
  show i ∈ ((View.whole main_v0_1).slice (win0_9.rect t)).set
  rw [View.set_slice_whole, Rect.mem_set_unit]
  intro a
  match a with
  | ⟨0, _⟩ => show win0_9.index t 0 * 256 ≤ (i 0).val ∧ (i 0).val < win0_9.index t 0 * 256 + win0_9.xsize (grid0.coords t) 0
              rw [hi.1, (hx t).1]; omega
  | ⟨1, _⟩ => show win0_9.index t 1 * 1024 ≤ (i 1).val ∧ (i 1).val < win0_9.index t 1 * 1024 + win0_9.xsize (grid0.coords t) 1
              rw [hi.2, (hx t).2]; omega

/-- So result 1's array ends as the whole function. -/
theorem final9 : (dats m 0 c).arrAt 9 cfg0.N = W9 (ar0 m c) (ar1 m c) (ar4 m c) (ar6 m c) (ar7 m c) :=
  (dats m 0 c).arrAt_eq_of_cover 9 (W9 (ar0 m c) (ar1 m c) (ar4 m c) (ar6 m c) (ar7 m c)) (fun t _ => flushed9_eq m c t) (covered9)

/-- Result 2's block is the rows from 256 t on of the whole array. -/
theorem G10_eq (t : Fin cfg0.N) (r : Fin 256) (l : Fin 4096) :
    (W10 (M := 256) (K := 4096) (iblk m c 0 t) (iblk m c 1 t) (iblk m c 4 t)) (ix2 r l) = (W10 (ar0 m c) (ar1 m c) (ar4 m c)) (ix2 ⟨256 * t.val + r.val, by have := lt15 t; have := r.isLt; omega⟩ l) := by
  rw [iblk1, iblk4]
  exact congrArg (fun f => xcodeOf f (rowOf (ar1 m c) 0) (oneOf (ar4 m c)) l) (iblk0 m c t r)

/-- A block whose rows are the rows from 256 t on of a whole array is that array's block t. -/
theorem cut10_eq (t : Fin cfg0.N) (G : (Mat 256 4096).Idx → EReal) (T : (Mat 3840 4096).Idx → EReal)
    (hG : ∀ (r : Fin 256) (l : Fin 4096), G (ix2 r l) = T (ix2 ⟨256 * t.val + r.val, by have := lt15 t; have := r.isLt; omega⟩ l)) :
    (cfg0.win 10).cut (grid0.coords t) G = ((cfg0.win 10).blk t).view.read (Elt Ideal) T := by
  funext j
  have h0 : (j 0).val < 256 := lt_of_lt_of_le (j 0).isLt ((cfg0.win 10).xsize_le (grid0.coords t) 0)
  have h1 : (j 1).val < 4096 := lt_of_lt_of_le (j 1).isLt ((cfg0.win 10).xsize_le (grid0.coords t) 1)
  have hi := ixw10 t
  refine (congrArg G (?_ : _ = ix2 (⟨(j 0).val, h0⟩ : Fin 256) (⟨(j 1).val, h1⟩ : Fin 4096))).trans ((hG _ _).trans ?_)
  · funext d
    match d with
    | ⟨0, _⟩ => rfl
    | ⟨1, _⟩ => rfl
  · show _ = T ((win0_10.rect t).emb j)
    refine congrArg T (funext fun d => Fin.ext ?_)
    match d with
    | ⟨0, _⟩ => show 256 * t.val + (j 0).val = win0_10.index t 0 * 256 + 1 * (j 0).val; rw [hi.1]; omega
    | ⟨1, _⟩ => show (j 1).val = win0_10.index t 1 * 4096 + 1 * (j 1).val; rw [hi.2]; omega

/-- What point t writes back to result 2 is its block of the whole array. -/
theorem flushed10_eq (t : Fin cfg0.N) :
    (dats m 0 c).flushed 10 t = ((cfg0.win 10).blk t).view.read (Elt Ideal) (W10 (ar0 m c) (ar1 m c) (ar4 m c)) := by
  show (cfg0.win 10).cut (grid0.coords t) ((dats m 0 c).after 10 t) = _
  rw [after0_10]
  simp only [outsAt0]
  rw [out10_apply]
  exact cut10_eq t _ _ (G10_eq m c t)

/-- Every index of result 2 is in some point's block. -/
theorem covered10 (i : (Mat 3840 4096).Idx) : ∃ t : Fin cfg0.N, (cfg0.win 10).flush t = true ∧ i ∈ ((cfg0.win 10).blk t).view.set := by
  have h0 : (i 0).val < 3840 := (i 0).isLt
  have h1 : (i 1).val < 4096 := (i 1).isLt
  refine ⟨⟨(i 0).val / 256, of15 (by omega)⟩, flush0_10 _, ?_⟩
  generalize ht : (⟨(i 0).val / 256, of15 (by omega)⟩ : Fin cfg0.N) = t
  have hv : t.val = (i 0).val / 256 := by rw [← ht]
  have hi := ixw10 t
  have hx : ∀ t : Fin cfg0.N, win0_10.xsize (grid0.coords t) 0 = 256 ∧ win0_10.xsize (grid0.coords t) 1 = 4096 :=
    (by decide +kernel : ∀ t : Fin grid0.N, win0_10.xsize (grid0.coords t) 0 = 256 ∧ win0_10.xsize (grid0.coords t) 1 = 4096)
  show i ∈ ((View.whole main_v0_2).slice (win0_10.rect t)).set
  rw [View.set_slice_whole, Rect.mem_set_unit]
  intro a
  match a with
  | ⟨0, _⟩ => show win0_10.index t 0 * 256 ≤ (i 0).val ∧ (i 0).val < win0_10.index t 0 * 256 + win0_10.xsize (grid0.coords t) 0
              rw [hi.1, (hx t).1]; omega
  | ⟨1, _⟩ => show win0_10.index t 1 * 4096 ≤ (i 1).val ∧ (i 1).val < win0_10.index t 1 * 4096 + win0_10.xsize (grid0.coords t) 1
              rw [hi.2, (hx t).2]; omega

/-- So result 2's array ends as the whole function. -/
theorem final10 : (dats m 0 c).arrAt 10 cfg0.N = W10 (ar0 m c) (ar1 m c) (ar4 m c) :=
  (dats m 0 c).arrAt_eq_of_cover 10 (W10 (ar0 m c) (ar1 m c) (ar4 m c)) (fun t _ => flushed10_eq m c t) (covered10)

/-- Result 3's block is the rows from 256 t on of the whole array. -/
theorem G11_eq (t : Fin cfg0.N) (r : Fin 256) (l : Fin 5376) :
    (W11 (M := 256) (K := 4096) (N := 5376) (iblk m c 0 t) (iblk m c 1 t) (iblk m c 2 t) (iblk m c 3 t) (iblk m c 4 t) (iblk m c 5 t)) (ix2 r l) = (W11 (ar0 m c) (ar1 m c) (ar2 m c) (ar3 m c) (ar4 m c) (ar5 m c)) (ix2 ⟨256 * t.val + r.val, by have := lt15 t; have := r.isLt; omega⟩ l) := by
  rw [iblk1, iblk2, iblk3, iblk4, iblk5]
  exact congrArg (fun f => clipOf (sqOf (hidOf f (rowOf (ar1 m c) 0) (colOf (ar2 m c) l) (oneOf (ar4 m c)) (oneOf (ar3 m c)))) (oneOf (ar5 m c))) (iblk0 m c t r)

/-- A block whose rows are the rows from 256 t on of a whole array is that array's block t. -/
theorem cut11_eq (t : Fin cfg0.N) (G : (Mat 256 5376).Idx → EReal) (T : (Mat 3840 5376).Idx → EReal)
    (hG : ∀ (r : Fin 256) (l : Fin 5376), G (ix2 r l) = T (ix2 ⟨256 * t.val + r.val, by have := lt15 t; have := r.isLt; omega⟩ l)) :
    (cfg0.win 11).cut (grid0.coords t) G = ((cfg0.win 11).blk t).view.read (Elt Ideal) T := by
  funext j
  have h0 : (j 0).val < 256 := lt_of_lt_of_le (j 0).isLt ((cfg0.win 11).xsize_le (grid0.coords t) 0)
  have h1 : (j 1).val < 5376 := lt_of_lt_of_le (j 1).isLt ((cfg0.win 11).xsize_le (grid0.coords t) 1)
  have hi := ixw11 t
  refine (congrArg G (?_ : _ = ix2 (⟨(j 0).val, h0⟩ : Fin 256) (⟨(j 1).val, h1⟩ : Fin 5376))).trans ((hG _ _).trans ?_)
  · funext d
    match d with
    | ⟨0, _⟩ => rfl
    | ⟨1, _⟩ => rfl
  · show _ = T ((win0_11.rect t).emb j)
    refine congrArg T (funext fun d => Fin.ext ?_)
    match d with
    | ⟨0, _⟩ => show 256 * t.val + (j 0).val = win0_11.index t 0 * 256 + 1 * (j 0).val; rw [hi.1]; omega
    | ⟨1, _⟩ => show (j 1).val = win0_11.index t 1 * 5376 + 1 * (j 1).val; rw [hi.2]; omega

/-- What point t writes back to result 3 is its block of the whole array. -/
theorem flushed11_eq (t : Fin cfg0.N) :
    (dats m 0 c).flushed 11 t = ((cfg0.win 11).blk t).view.read (Elt Ideal) (W11 (ar0 m c) (ar1 m c) (ar2 m c) (ar3 m c) (ar4 m c) (ar5 m c)) := by
  show (cfg0.win 11).cut (grid0.coords t) ((dats m 0 c).after 11 t) = _
  rw [after0_11]
  simp only [outsAt0]
  rw [out11_apply]
  exact cut11_eq t _ _ (G11_eq m c t)

/-- Every index of result 3 is in some point's block. -/
theorem covered11 (i : (Mat 3840 5376).Idx) : ∃ t : Fin cfg0.N, (cfg0.win 11).flush t = true ∧ i ∈ ((cfg0.win 11).blk t).view.set := by
  have h0 : (i 0).val < 3840 := (i 0).isLt
  have h1 : (i 1).val < 5376 := (i 1).isLt
  refine ⟨⟨(i 0).val / 256, of15 (by omega)⟩, flush0_11 _, ?_⟩
  generalize ht : (⟨(i 0).val / 256, of15 (by omega)⟩ : Fin cfg0.N) = t
  have hv : t.val = (i 0).val / 256 := by rw [← ht]
  have hi := ixw11 t
  have hx : ∀ t : Fin cfg0.N, win0_11.xsize (grid0.coords t) 0 = 256 ∧ win0_11.xsize (grid0.coords t) 1 = 5376 :=
    (by decide +kernel : ∀ t : Fin grid0.N, win0_11.xsize (grid0.coords t) 0 = 256 ∧ win0_11.xsize (grid0.coords t) 1 = 5376)
  show i ∈ ((View.whole main_v0_3).slice (win0_11.rect t)).set
  rw [View.set_slice_whole, Rect.mem_set_unit]
  intro a
  match a with
  | ⟨0, _⟩ => show win0_11.index t 0 * 256 ≤ (i 0).val ∧ (i 0).val < win0_11.index t 0 * 256 + win0_11.xsize (grid0.coords t) 0
              rw [hi.1, (hx t).1]; omega
  | ⟨1, _⟩ => show win0_11.index t 1 * 5376 ≤ (i 1).val ∧ (i 1).val < win0_11.index t 1 * 5376 + win0_11.xsize (grid0.coords t) 1
              rw [hi.2, (hx t).2]; omega

/-- So result 3's array ends as the whole function. -/
theorem final11 : (dats m 0 c).arrAt 11 cfg0.N = W11 (ar0 m c) (ar1 m c) (ar2 m c) (ar3 m c) (ar4 m c) (ar5 m c) :=
  (dats m 0 c).arrAt_eq_of_cover 11 (W11 (ar0 m c) (ar1 m c) (ar2 m c) (ar3 m c) (ar4 m c) (ar5 m c)) (fun t _ => flushed11_eq m c t) (covered11)

/-- Result 5's block is the rows from 256 t on of the whole array. -/
theorem G13_eq (t : Fin cfg0.N) (r : Fin 256) (l : Fin 32) :
    (W13 (M := 256) (K := 4096) (iblk m c 0 t) (iblk m c 1 t) (iblk m c 4 t) (iblk m c 6 t) (iblk m c 7 t)) (ix2 r l) = (W13 (ar0 m c) (ar1 m c) (ar4 m c) (ar6 m c) (ar7 m c)) (ix2 ⟨256 * t.val + r.val, by have := lt15 t; have := r.isLt; omega⟩ l) := by
  rw [iblk1, iblk4, iblk6, iblk7]
  exact W13_row _ _ _ _ _ _ r _ l (iblk0 m c t r)

/-- A block whose rows are the rows from 256 t on of a whole array is that array's block t. -/
theorem cut13_eq (t : Fin cfg0.N) (G : (Mat 256 32).Idx → BitVec 8) (T : (Mat 3840 32).Idx → BitVec 8)
    (hG : ∀ (r : Fin 256) (l : Fin 32), G (ix2 r l) = T (ix2 ⟨256 * t.val + r.val, by have := lt15 t; have := r.isLt; omega⟩ l)) :
    (cfg0.win 13).cut (grid0.coords t) G = ((cfg0.win 13).blk t).view.read (Elt Ideal) T := by
  funext j
  have h0 : (j 0).val < 256 := lt_of_lt_of_le (j 0).isLt ((cfg0.win 13).xsize_le (grid0.coords t) 0)
  have h1 : (j 1).val < 32 := lt_of_lt_of_le (j 1).isLt ((cfg0.win 13).xsize_le (grid0.coords t) 1)
  have hi := ixw13 t
  refine (congrArg G (?_ : _ = ix2 (⟨(j 0).val, h0⟩ : Fin 256) (⟨(j 1).val, h1⟩ : Fin 32))).trans ((hG _ _).trans ?_)
  · funext d
    match d with
    | ⟨0, _⟩ => rfl
    | ⟨1, _⟩ => rfl
  · show _ = T ((win0_13.rect t).emb j)
    refine congrArg T (funext fun d => Fin.ext ?_)
    match d with
    | ⟨0, _⟩ => show 256 * t.val + (j 0).val = win0_13.index t 0 * 256 + 1 * (j 0).val; rw [hi.1]; omega
    | ⟨1, _⟩ => show (j 1).val = win0_13.index t 1 * 32 + 1 * (j 1).val; rw [hi.2]; omega

/-- What point t writes back to result 5 is its block of the whole array. -/
theorem flushed13_eq (t : Fin cfg0.N) :
    (dats m 0 c).flushed 13 t = ((cfg0.win 13).blk t).view.read (Elt Ideal) (W13 (ar0 m c) (ar1 m c) (ar4 m c) (ar6 m c) (ar7 m c)) := by
  show (cfg0.win 13).cut (grid0.coords t) ((dats m 0 c).after 13 t) = _
  rw [after0_13]
  simp only [outsAt0]
  rw [out13_apply]
  exact cut13_eq t _ _ (G13_eq m c t)

/-- Every index of result 5 is in some point's block. -/
theorem covered13 (i : (Mat 3840 32).Idx) : ∃ t : Fin cfg0.N, (cfg0.win 13).flush t = true ∧ i ∈ ((cfg0.win 13).blk t).view.set := by
  have h0 : (i 0).val < 3840 := (i 0).isLt
  have h1 : (i 1).val < 32 := (i 1).isLt
  refine ⟨⟨(i 0).val / 256, of15 (by omega)⟩, flush0_13 _, ?_⟩
  generalize ht : (⟨(i 0).val / 256, of15 (by omega)⟩ : Fin cfg0.N) = t
  have hv : t.val = (i 0).val / 256 := by rw [← ht]
  have hi := ixw13 t
  have hx : ∀ t : Fin cfg0.N, win0_13.xsize (grid0.coords t) 0 = 256 ∧ win0_13.xsize (grid0.coords t) 1 = 32 :=
    (by decide +kernel : ∀ t : Fin grid0.N, win0_13.xsize (grid0.coords t) 0 = 256 ∧ win0_13.xsize (grid0.coords t) 1 = 32)
  show i ∈ ((View.whole main_v0_5).slice (win0_13.rect t)).set
  rw [View.set_slice_whole, Rect.mem_set_unit]
  intro a
  match a with
  | ⟨0, _⟩ => show win0_13.index t 0 * 256 ≤ (i 0).val ∧ (i 0).val < win0_13.index t 0 * 256 + win0_13.xsize (grid0.coords t) 0
              rw [hi.1, (hx t).1]; omega
  | ⟨1, _⟩ => show win0_13.index t 1 * 32 ≤ (i 1).val ∧ (i 1).val < win0_13.index t 1 * 32 + win0_13.xsize (grid0.coords t) 1
              rw [hi.2, (hx t).2]; omega

/-- So result 5's array ends as the whole function. -/
theorem final13 : (dats m 0 c).arrAt 13 cfg0.N = W13 (ar0 m c) (ar1 m c) (ar4 m c) (ar6 m c) (ar7 m c) :=
  (dats m 0 c).arrAt_eq_of_cover 13 (W13 (ar0 m c) (ar1 m c) (ar4 m c) (ar6 m c) (ar7 m c)) (fun t _ => flushed13_eq m c t) (covered13)

/-- The run with hs_pre, z, x_codes, hs_codes, z_scales and every argument named. -/
theorem run_values : θ_run defs (onTc (τ := τ) (main (F := Ideal))) ⟨m, fun _ => 0, ρ⟩ fun r => ∀ c : Dev nD,
      r.2.mem ((c : Thread nD τ).loc main_v0_0) = W8 (ar0 m c) (ar1 m c) (ar2 m c) (ar3 m c) (ar4 m c)
      ∧ r.2.mem ((c : Thread nD τ).loc main_v0_1) = W9 (ar0 m c) (ar1 m c) (ar4 m c) (ar6 m c) (ar7 m c)
      ∧ r.2.mem ((c : Thread nD τ).loc main_v0_2) = W10 (ar0 m c) (ar1 m c) (ar4 m c)
      ∧ r.2.mem ((c : Thread nD τ).loc main_v0_3) = W11 (ar0 m c) (ar1 m c) (ar2 m c) (ar3 m c) (ar4 m c) (ar5 m c)
      ∧ r.2.mem ((c : Thread nD τ).loc main_v0_5) = W13 (ar0 m c) (ar1 m c) (ar4 m c) (ar6 m c) (ar7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 8).trans (final8 m c), ((h c).1 9).trans (final9 m c), ((h c).1 10).trans (final10 m c), ((h c).1 11).trans (final11 m c), ((h c).1 13).trans (final13 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c)))⟩) (run_main m ρ)

end Cert.FrontIdeal.Hand

end
-- ==== Proof.FrontRefCount.lean ====
module

public import proofs.«01_k».proof.Proof.Gen.FrontRefIdeal.Skeleton
public import proofs.«01_k».proof.Proof.FrontScale

/-!
The reference's count of the numbers 6·2^k that a group's largest absolute value reaches, part by part, and the byte it
writes from the count.
-/

@[expose] public section

set_option maxRecDepth 16384

noncomputable section

namespace Cert.FrontRefIdeal.Hand

open Cert.FrontRefIdeal Cert.FrontRefIdeal.Gen Cert.BackForms Cert.FrontForms Cert.FrontScale Idealize.ShloMosaic Idealize.ShloMosaic.ValueIdx

/-- The groups' largest absolute values. -/
theorem pay8_apply (v : FVec Ideal S3840x1024 .f32) (w : Vec Ideal S1x1024 .f32) (r : Fin 3840) (g : Fin 32) :
    k0_pay8 (F := Ideal) v w (ix2 r g) = rowMax (groupOf (fun k => k0_pay5 (F := Ideal) v w (ix2 r k)) g) :=
  groupMax_apply (M := 3840) (N := 122880) (by norm_num) (k0_pay5 (F := Ideal) v w) shapeCasts_S3840x1024_S122880x32 reduces_S122880x32_S122880 shapeCasts_S122880_S3840x32 r g

/-- Four more of the numbers, from the first on. -/
theorem four_count (u : FVec Ideal S3840x32 .f32) (n : IVec S3840x32 32) (i : S3840x32.Idx) (h : n i = count (u i) 0) :
    addi (addi (addi (addi n (extui 32 (cmpf .oge u (broadcast S3840x32 (Scalar.ofBits .f32 0x01C00000#32))) natLt_1_32))
      (extui 32 (cmpf .oge u (broadcast S3840x32 (Scalar.ofBits .f32 0x02400000#32))) natLt_1_32))
      (extui 32 (cmpf .oge u (broadcast S3840x32 (Scalar.ofBits .f32 0x02C00000#32))) natLt_1_32))
      (extui 32 (cmpf .oge u (broadcast S3840x32 (Scalar.ofBits .f32 0x03400000#32))) natLt_1_32) i = count (u i) 4 :=
  count4 (u i) 0 (n i) h

/-- The first four numbers. -/
theorem pay9_count (v : FVec Ideal S3840x1024 .f32) (w : Vec Ideal S1x1024 .f32) (i : S3840x32.Idx) :
    k0_pay9 (F := Ideal) v w i = count (k0_pay8 (F := Ideal) v w i) 4 :=
  four_count (k0_pay8 (F := Ideal) v w) (broadcast S3840x32 0#32) i rfl

/-- The next twelve, up to 16. -/
theorem pay10_count (v : FVec Ideal S3840x32 .f32) (n : IVec S3840x32 32) (i : S3840x32.Idx) (h : n i = count (v i) 4) :
    k0_pay10 (F := Ideal) v n i = count (v i) 16 :=
  count12 (v i) 4 (n i) h

/-- The next twelve, up to 28. -/
theorem pay11_count (v : FVec Ideal S3840x32 .f32) (n : IVec S3840x32 32) (i : S3840x32.Idx) (h : n i = count (v i) 16) :
    k0_pay11 (F := Ideal) v n i = count (v i) 28 :=
  count12 (v i) 16 (n i) h

/-- The next twelve, up to 40. -/
theorem pay12_count (v : FVec Ideal S3840x32 .f32) (n : IVec S3840x32 32) (i : S3840x32.Idx) (h : n i = count (v i) 28) :
    k0_pay12 (F := Ideal) v n i = count (v i) 40 :=
  count12 (v i) 28 (n i) h

/-- The next twelve, up to 52. -/
theorem pay13_count (v : FVec Ideal S3840x32 .f32) (n : IVec S3840x32 32) (i : S3840x32.Idx) (h : n i = count (v i) 40) :
    k0_pay13 (F := Ideal) v n i = count (v i) 52 :=
  count12 (v i) 40 (n i) h

/-- The next twelve, up to 64. -/
theorem pay14_count (v : FVec Ideal S3840x32 .f32) (n : IVec S3840x32 32) (i : S3840x32.Idx) (h : n i = count (v i) 52) :
    k0_pay14 (F := Ideal) v n i = count (v i) 64 :=
  count12 (v i) 52 (n i) h

/-- The next twelve, up to 76. -/
theorem pay15_count (v : FVec Ideal S3840x32 .f32) (n : IVec S3840x32 32) (i : S3840x32.Idx) (h : n i = count (v i) 64) :
    k0_pay15 (F := Ideal) v n i = count (v i) 76 :=
  count12 (v i) 64 (n i) h

/-- The next twelve, up to 88. -/
theorem pay16_count (v : FVec Ideal S3840x32 .f32) (n : IVec S3840x32 32) (i : S3840x32.Idx) (h : n i = count (v i) 76) :
    k0_pay16 (F := Ideal) v n i = count (v i) 88 :=
  count12 (v i) 76 (n i) h

/-- The next twelve, up to 100. -/
theorem pay17_count (v : FVec Ideal S3840x32 .f32) (n : IVec S3840x32 32) (i : S3840x32.Idx) (h : n i = count (v i) 88) :
    k0_pay17 (F := Ideal) v n i = count (v i) 100 :=
  count12 (v i) 88 (n i) h

/-- The next twelve, up to 112. -/
theorem pay18_count (v : FVec Ideal S3840x32 .f32) (n : IVec S3840x32 32) (i : S3840x32.Idx) (h : n i = count (v i) 100) :
    k0_pay18 (F := Ideal) v n i = count (v i) 112 :=
  count12 (v i) 100 (n i) h

/-- The next twelve, up to 124. -/
theorem pay19_count (v : FVec Ideal S3840x32 .f32) (n : IVec S3840x32 32) (i : S3840x32.Idx) (h : n i = count (v i) 112) :
    k0_pay19 (F := Ideal) v n i = count (v i) 124 :=
  count12 (v i) 112 (n i) h

/-- The next twelve, up to 136. -/
theorem pay20_count (v : FVec Ideal S3840x32 .f32) (n : IVec S3840x32 32) (i : S3840x32.Idx) (h : n i = count (v i) 124) :
    k0_pay20 (F := Ideal) v n i = count (v i) 136 :=
  count12 (v i) 124 (n i) h

/-- The next twelve, up to 148. -/
theorem pay21_count (v : FVec Ideal S3840x32 .f32) (n : IVec S3840x32 32) (i : S3840x32.Idx) (h : n i = count (v i) 136) :
    k0_pay21 (F := Ideal) v n i = count (v i) 148 :=
  count12 (v i) 136 (n i) h

/-- The next twelve, up to 160. -/
theorem pay22_count (v : FVec Ideal S3840x32 .f32) (n : IVec S3840x32 32) (i : S3840x32.Idx) (h : n i = count (v i) 148) :
    k0_pay22 (F := Ideal) v n i = count (v i) 160 :=
  count12 (v i) 148 (n i) h

/-- The next twelve, up to 172. -/
theorem pay23_count (v : FVec Ideal S3840x32 .f32) (n : IVec S3840x32 32) (i : S3840x32.Idx) (h : n i = count (v i) 160) :
    k0_pay23 (F := Ideal) v n i = count (v i) 172 :=
  count12 (v i) 160 (n i) h

/-- The next twelve, up to 184. -/
theorem pay24_count (v : FVec Ideal S3840x32 .f32) (n : IVec S3840x32 32) (i : S3840x32.Idx) (h : n i = count (v i) 172) :
    k0_pay24 (F := Ideal) v n i = count (v i) 184 :=
  count12 (v i) 172 (n i) h

/-- The next twelve, up to 196. -/
theorem pay25_count (v : FVec Ideal S3840x32 .f32) (n : IVec S3840x32 32) (i : S3840x32.Idx) (h : n i = count (v i) 184) :
    k0_pay25 (F := Ideal) v n i = count (v i) 196 :=
  count12 (v i) 184 (n i) h

/-- The next twelve, up to 208. -/
theorem pay26_count (v : FVec Ideal S3840x32 .f32) (n : IVec S3840x32 32) (i : S3840x32.Idx) (h : n i = count (v i) 196) :
    k0_pay26 (F := Ideal) v n i = count (v i) 208 :=
  count12 (v i) 196 (n i) h

/-- The next twelve, up to 220. -/
theorem pay27_count (v : FVec Ideal S3840x32 .f32) (n : IVec S3840x32 32) (i : S3840x32.Idx) (h : n i = count (v i) 208) :
    k0_pay27 (F := Ideal) v n i = count (v i) 220 :=
  count12 (v i) 208 (n i) h

/-- The next twelve, up to 232. -/
theorem pay28_count (v : FVec Ideal S3840x32 .f32) (n : IVec S3840x32 32) (i : S3840x32.Idx) (h : n i = count (v i) 220) :
    k0_pay28 (F := Ideal) v n i = count (v i) 232 :=
  count12 (v i) 220 (n i) h

/-- The next twelve, up to 244. -/
theorem pay29_count (v : FVec Ideal S3840x32 .f32) (n : IVec S3840x32 32) (i : S3840x32.Idx) (h : n i = count (v i) 232) :
    k0_pay29 (F := Ideal) v n i = count (v i) 244 :=
  count12 (v i) 232 (n i) h

/-- The last eight, and the byte. -/
theorem pay30_byte (v : FVec Ideal S3840x32 .f32) (n : IVec S3840x32 32) (i : S3840x32.Idx) (h : n i = count (v i) 244) :
    k0_pay30 (F := Ideal) v n i = byteOf (v i) := by
  refine Eq.trans (congrArg countByte (count8 (v i) 244 (n i) h)) ?_
  exact countByte_eq (v i)

/-- All parts together. -/
theorem parts_byte (v : FVec Ideal S3840x32 .f32) (n : IVec S3840x32 32) (i : S3840x32.Idx) (h : n i = count (v i) 4) :
    k0_pay30 (F := Ideal) v (k0_pay29 v (k0_pay28 v (k0_pay27 v (k0_pay26 v (k0_pay25 v (k0_pay24 v (k0_pay23 v (k0_pay22 v (k0_pay21 v (k0_pay20 v (k0_pay19 v (k0_pay18 v (k0_pay17 v (k0_pay16 v (k0_pay15 v (k0_pay14 v (k0_pay13 v (k0_pay12 v (k0_pay11 v (k0_pay10 v n)))))))))))))))))))) i = byteOf (v i) :=
  pay30_byte v _ i (pay29_count v _ i (pay28_count v _ i (pay27_count v _ i (pay26_count v _ i (pay25_count v _ i (pay24_count v _ i (pay23_count v _ i (pay22_count v _ i (pay21_count v _ i (pay20_count v _ i (pay19_count v _ i (pay18_count v _ i (pay17_count v _ i (pay16_count v _ i (pay15_count v _ i (pay14_count v _ i (pay13_count v _ i (pay12_count v _ i (pay11_count v _ i (pay10_count v _ i h))))))))))))))))))))

end Cert.FrontRefIdeal.Hand

end
-- ==== Proof.FrontRefValue.lean ====
module

public import proofs.«01_k».proof.Proof.Gen.FrontRefIdeal.Value
public import proofs.«01_k».proof.Proof.FrontRefCount
public import Idealize.ShloMosaic.Lib.VecWindow
public import Idealize.ShloMosaic.Lib.Pipeline.Value
public import Idealize.ShloMosaic.Lib.Pipeline.Cells

/-!
The first stage's reference at its end: hs_pre, z, x_codes, hs_codes and z_scales are the functions of FrontForms and
FrontScale of the argument arrays.
-/

@[expose] public section

set_option maxRecDepth 16384

noncomputable section

namespace Cert.FrontRefIdeal.Hand

open Cert.FrontRefIdeal Cert.FrontRefIdeal.Gen Cert.BackForms Cert.FrontForms Cert.FrontScale Idealize.ShloMosaic Idealize.ShloMosaic.ValueIdx Idealize.ShloMosaic.TcCoe
open Idealize.SL.Sem
open Idealize.ShloMosaic.Pipeline (Dat)
open scoped BigOperators

section Body

variable (x0 : Vec Ideal S3840x4096 .bf16) (x1 : Vec Ideal S1x4096 .f32) (x2 : Vec Ideal S4096x5376 .fp8e4m3) (x3 x4 x5 : Vec Ideal S1 .f32)
  (x6 : Vec Ideal S4096x1024 .fp8e4m3) (x7 : Vec Ideal S1x1024 .f32)

/-- The codes of the normalised rows. -/
theorem pay1_apply (s : Elt Ideal .f32) : k0_pay1 (F := Ideal) s x0 x1 = W10 (M := 3840) (K := 4096) x0 x1 (fun _ => s) := by
  funext y
  obtain ⟨r, k, rfl⟩ : ∃ (r : Fin 3840) (k : Fin 4096), y = ix2 r k := ⟨y 0, y 1, eq_ix2 y⟩
  exact xcodes_apply (M := 3840) (K := 4096) (by omega) (by omega) x0 _ x1 s broadcasts_S3840x1_S3840x4096 broadcasts_S1x4096_S3840x4096 bitsLt_fp8e4m3_f32 r
    (rms_apply (M := 3840) (K := 4096) x0 reduces_S3840x4096_S3840 shapeCasts_S3840_S3840x1 r) k

/-- hs_pre. -/
theorem pay2_apply (s sw : Elt Ideal .f32) (r : Fin 3840) (l : Fin 5376) :
    k0_pay2 (F := Ideal) s x0 x1 x2 sw (ix2 r l) = W8 (M := 3840) (K := 4096) (N := 5376) x0 x1 x2 (fun _ => sw) (fun _ => s) (ix2 r l) := by
  unfold k0_pay2
  rw [pay1_apply x0 x1 s]
  exact shared_apply (M := 3840) (K := 4096) (N := 5376) dot_S3840x4096_S4096x5376_S3840x5376_1_0_0_1_n_n rfl (W10 (M := 3840) (K := 4096) x0 x1 (fun _ => s)) x2 _ r l

/-- z. -/
theorem pay5_apply (s : Elt Ideal .f32) (r : Fin 3840) (l : Fin 1024) :
    k0_pay5 (F := Ideal) (k0_pay4 (F := Ideal) s x0 x1 x6) x7 (ix2 r l) = W9 (M := 3840) (K := 4096) (N := 1024) x0 x1 (fun _ => s) x6 x7 (ix2 r l) := by
  unfold k0_pay5 k0_pay4
  rw [pay1_apply x0 x1 s]
  exact down_apply (M := 3840) (K := 4096) (N := 1024) (by omega) dot_S3840x4096_S4096x1024_S3840x1024_1_0_0_1_n_n rfl (W10 (M := 3840) (K := 4096) x0 x1 (fun _ => s)) x6 s x7
    broadcasts_S1x1024_S3840x1024 r l

/-- hs_codes. -/
theorem pay6_apply (s sw sh : Elt Ideal .f32) (r : Fin 3840) (l : Fin 5376) :
    k0_pay6 (F := Ideal) (k0_pay3 (F := Ideal) s x0 x1 x2 sw) sh (ix2 r l)
      = W11 (M := 3840) (K := 4096) (N := 5376) x0 x1 x2 (fun _ => sw) (fun _ => s) (fun _ => sh) (ix2 r l) :=
  (sqcodes_apply (M := 3840) (K := 5376) (k0_pay2 (F := Ideal) s x0 x1 x2 sw) sh bitsLt_fp8e4m3_f32 (ix2 r l)).trans
    (congrArg (fun v => clipOf (sqOf v) sh) (pay2_apply x0 x1 x2 s sw r l))

variable (c : Dev nD)
  (arg0 : Memref sig .tc .vmem S3840x4096 .bf16) (harg0 : arg0.IsWhole)
  (arg1 : Memref sig .tc .vmem S1x4096 .f32) (harg1 : arg1.IsWhole)
  (arg2 : Memref sig .tc .vmem S4096x5376 .fp8e4m3) (harg2 : arg2.IsWhole)
  (arg3 : Memref sig .tc .smem S1 .f32) (harg3 : arg3.IsWhole)
  (arg4 : Memref sig .tc .smem S1 .f32) (harg4 : arg4.IsWhole)
  (arg5 : Memref sig .tc .smem S1 .f32) (harg5 : arg5.IsWhole)
  (arg6 : Memref sig .tc .vmem S4096x1024 .fp8e4m3) (harg6 : arg6.IsWhole)
  (arg7 : Memref sig .tc .vmem S1x1024 .f32) (harg7 : arg7.IsWhole)
  (arg8 : Memref sig .tc .vmem S3840x5376 .f32) (harg8 : arg8.IsWhole)
  (arg9 : Memref sig .tc .vmem S3840x1024 .f32) (harg9 : arg9.IsWhole)
  (arg10 : Memref sig .tc .vmem S3840x4096 .fp8e4m3) (harg10 : arg10.IsWhole)
  (arg11 : Memref sig .tc .vmem S3840x5376 .fp8e4m3) (harg11 : arg11.IsWhole)
  (arg12 : Memref sig .tc .vmem S3840x1024 .i8) (harg12 : arg12.IsWhole)
  (arg13 : Memref sig .tc .vmem S3840x32 .i8) (harg13 : arg13.IsWhole)
  (arg14 : Memref sig .tc .vmem S15360x128 .i32) (harg14 : arg14.IsWhole)

/-- The scale of x. -/
theorem r_apply : kernelRun0_A.sl.r (F := Ideal) c arg4 harg4 x4 = oneOf x4 :=
  (harg4.readAt_unread x4 _ _).trans (congrArg x4 (funext fun d => by
    match d with | ⟨0, _⟩ => rfl))

/-- The scale of the shared expert's first tensor. -/
theorem r1_apply : kernelRun0_A.sl.r_1 (F := Ideal) c arg3 harg3 x3 = oneOf x3 :=
  (harg3.readAt_unread x3 _ _).trans (congrArg x3 (funext fun d => by
    match d with | ⟨0, _⟩ => rfl))

/-- The scale of hs. -/
theorem r5_apply : kernelRun0_A.sl.r_5 (F := Ideal) c arg5 harg5 x5 = oneOf x5 :=
  (harg5.readAt_unread x5 _ _).trans (congrArg x5 (funext fun d => by
    match d with | ⟨0, _⟩ => rfl))

/-- A load of a whole argument reads the argument. -/
theorem whole_read {sp : Space} {s : Shape} {e : EltTy} (M : Memref sig .tc sp s e) (h : M.IsWhole) (x : s.Idx → Elt Ideal e) {off : Fin s.rank → ℕ}
    (inb : ∀ a, off a + s.size a ≤ s.size a) : View.readAt (Elt Ideal) M.view (Rect.unit off s.size inb).toLoadRect (h.unread x) = x :=
  (View.readAt_full M.view _ inb).trans (h.read_unread x)

/-- The reads of x, norm_w and the scale, and the codes they give. -/
theorem r2_apply : kernelRun0_A.sl.r_2 (F := Ideal) c arg0 harg0 arg1 harg1 arg4 harg4 x0 x1 x4 = W10 (M := 3840) (K := 4096) x0 x1 x4 := by
  unfold kernelRun0_A.sl.r_2
  rw [whole_read arg0 harg0 x0, whole_read arg1 harg1 x1, r_apply]
  exact pay1_apply x0 x1 (oneOf x4)

/-- An array of one is its element. -/
theorem one_eq (A : (⟨1, ![1]⟩ : Shape).Idx → EReal) : (fun _ => oneOf A) = A :=
  funext fun i => congrArg A (funext fun d => Fin.ext (by
    match d with
    | ⟨0, _⟩ => show 0 = (i 0).val; have : (i 0).val < 1 := (i 0).isLt; omega))

/-- What the body leaves in hs_pre. -/
theorem out8_apply (r : Fin 3840) (l : Fin 5376) : out0_A_8 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix2 r l) = W8 (M := 3840) (K := 4096) (N := 5376) x0 x1 x2 x3 x4 (ix2 r l) := by
  refine (congrFun (View.read_writes_full VO0_8 VO0_8.junk inb_S3840x5376_S3840x5376_0_0 _ []) (ix2 r l)).trans ?_
  rw [whole_read arg0 harg0 x0, whole_read arg1 harg1 x1, whole_read arg2 harg2 x2, r_apply, r1_apply]
  refine (pay2_apply x0 x1 x2 (oneOf x4) (oneOf x3) r l).trans ?_
  rw [one_eq, one_eq]

/-- What the body leaves in z. -/
theorem out9_apply (r : Fin 3840) (l : Fin 1024) : out0_A_9 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix2 r l) = W9 (M := 3840) (K := 4096) (N := 1024) x0 x1 x4 x6 x7 (ix2 r l) := by
  refine (congrFun (View.read_writes_full VO0_9 VO0_9.junk inb_S3840x1024_S3840x1024_0_0 _ []) (ix2 r l)).trans ?_
  unfold kernelRun0_A.sl.r_4
  rw [whole_read arg0 harg0 x0, whole_read arg1 harg1 x1, whole_read arg6 harg6 x6, whole_read arg7 harg7 x7, r_apply]
  refine (pay5_apply x0 x1 x6 x7 (oneOf x4) r l).trans ?_
  rw [one_eq]

/-- What the body leaves in x_codes. -/
theorem out10_apply (r : Fin 3840) (l : Fin 4096) : out0_A_10 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix2 r l) = W10 (M := 3840) (K := 4096) x0 x1 x4 (ix2 r l) :=
  (congrFun (View.read_writes_full VO0_10 VO0_10.junk inb_S3840x4096_S3840x4096_0_0 _ []) (ix2 r l)).trans
    (congrFun (r2_apply x0 x1 x4 c arg0 harg0 arg1 harg1 arg4 harg4) (ix2 r l))

/-- What the body leaves in hs_codes. -/
theorem out11_apply (r : Fin 3840) (l : Fin 5376) : out0_A_11 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix2 r l) = W11 (M := 3840) (K := 4096) (N := 5376) x0 x1 x2 x3 x4 x5 (ix2 r l) := by
  refine (congrFun (View.read_writes_full VO0_11 VO0_11.junk inb_S3840x5376_S3840x5376_0_0 _ []) (ix2 r l)).trans ?_
  unfold kernelRun0_A.sl.r_3
  rw [whole_read arg0 harg0 x0, whole_read arg1 harg1 x1, whole_read arg2 harg2 x2, r_apply, r1_apply, r5_apply]
  refine (pay6_apply x0 x1 x2 (oneOf x4) (oneOf x3) (oneOf x5) r l).trans ?_
  rw [one_eq, one_eq, one_eq]

/-- What the body leaves in z_scales. -/
theorem out13_apply (r : Fin 3840) (l : Fin 32) : out0_A_13 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix2 r l) = W13 (M := 3840) (K := 4096) x0 x1 x4 x6 x7 (ix2 r l) := by
  refine (congrFun (View.read_writes_full VO0_13 VO0_13.junk inb_S3840x32_S3840x32_0_0 _ []) (ix2 r l)).trans ?_
  unfold kernelRun0_A.sl.r_27 kernelRun0_A.sl.r_26 kernelRun0_A.sl.r_25 kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7
  unfold kernelRun0_A.sl.r_6 kernelRun0_A.sl.r_4
  rw [whole_read arg0 harg0 x0, whole_read arg1 harg1 x1, whole_read arg6 harg6 x6, whole_read arg7 harg7 x7, r_apply]
  refine (parts_byte _ _ (ix2 r l) (pay9_count _ x7 (ix2 r l))).trans ?_
  refine congrArg byteOf ((pay8_apply _ x7 r l).trans ?_)
  refine congrArg (fun row => rowMax (groupOf row l)) (funext fun k => ?_)
  refine (pay5_apply x0 x1 x6 x7 (oneOf x4) r k).trans ?_
  rw [one_eq]
  rfl

end Body

variable (m : (ℓ : Loc nD τ sig) → Buf (Elt Ideal) ℓ) (ρ : Dev nD → PrngReg) (c : Dev nD)

/-- Argument 0 of core c. -/
abbrev ar0 : (Mat 3840 4096).Idx → EReal := m ((c : Thread nD τ).loc main_arg0)
/-- Argument 1 of core c. -/
abbrev ar1 : (Mat 1 4096).Idx → EReal := m ((c : Thread nD τ).loc main_arg1)
/-- Argument 2 of core c. -/
abbrev ar2 : (Mat 4096 5376).Idx → EReal := m ((c : Thread nD τ).loc main_arg2)
/-- Argument 3 of core c. -/
abbrev ar3 : (⟨1, ![1]⟩ : Shape).Idx → EReal := m ((c : Thread nD τ).loc main_arg3)
/-- Argument 4 of core c. -/
abbrev ar4 : (⟨1, ![1]⟩ : Shape).Idx → EReal := m ((c : Thread nD τ).loc main_arg4)
/-- Argument 5 of core c. -/
abbrev ar5 : (⟨1, ![1]⟩ : Shape).Idx → EReal := m ((c : Thread nD τ).loc main_arg5)
/-- Argument 6 of core c. -/
abbrev ar6 : (Mat 4096 1024).Idx → EReal := m ((c : Thread nD τ).loc main_arg6)
/-- Argument 7 of core c. -/
abbrev ar7 : (Mat 1 1024).Idx → EReal := m ((c : Thread nD τ).loc main_arg7)

/-- Window 8's block number at each point. -/
theorem ixw8 : ∀ t : Fin cfg0.N, win0_8.index t 0 = 0 ∧ win0_8.index t 1 = 0 :=
  (by decide +kernel : ∀ t : Fin grid0.N, win0_8.index t 0 = 0 ∧ win0_8.index t 1 = 0)

/-- Window 9's block number at each point. -/
theorem ixw9 : ∀ t : Fin cfg0.N, win0_9.index t 0 = 0 ∧ win0_9.index t 1 = 0 :=
  (by decide +kernel : ∀ t : Fin grid0.N, win0_9.index t 0 = 0 ∧ win0_9.index t 1 = 0)

/-- Window 10's block number at each point. -/
theorem ixw10 : ∀ t : Fin cfg0.N, win0_10.index t 0 = 0 ∧ win0_10.index t 1 = 0 :=
  (by decide +kernel : ∀ t : Fin grid0.N, win0_10.index t 0 = 0 ∧ win0_10.index t 1 = 0)

/-- Window 11's block number at each point. -/
theorem ixw11 : ∀ t : Fin cfg0.N, win0_11.index t 0 = 0 ∧ win0_11.index t 1 = 0 :=
  (by decide +kernel : ∀ t : Fin grid0.N, win0_11.index t 0 = 0 ∧ win0_11.index t 1 = 0)

/-- Window 13's block number at each point. -/
theorem ixw13 : ∀ t : Fin cfg0.N, win0_13.index t 0 = 0 ∧ win0_13.index t 1 = 0 :=
  (by decide +kernel : ∀ t : Fin grid0.N, win0_13.index t 0 = 0 ∧ win0_13.index t 1 = 0)

/-- Argument 0 is one block. -/
theorem iblk0 (t : Fin cfg0.N) : (iblk m c 0 t : Vec Ideal S3840x4096 .bf16) = ar0 m c := by
  have h : ∀ t : Fin cfg0.N, win0_0.index t 0 = 0 ∧ win0_0.index t 1 = 0 :=
    (by decide +kernel : ∀ t : Fin grid0.N, win0_0.index t 0 = 0 ∧ win0_0.index t 1 = 0)
  refine Eq.trans ?_ (V_main_arg0 m c)
  funext y
  show V m c main_arg0 ((win0_0.rect t).emb y) = V m c main_arg0 y
  refine congrArg (V m c main_arg0) (funext fun d => Fin.ext ?_)
  match d with
  | ⟨0, _⟩ => show win0_0.index t 0 * 3840 + 1 * (y 0).val = (y 0).val; rw [(h t).1]; omega
  | ⟨1, _⟩ => show win0_0.index t 1 * 4096 + 1 * (y 1).val = (y 1).val; rw [(h t).2]; omega

/-- Argument 1 is one block. -/
theorem iblk1 (t : Fin cfg0.N) : (iblk m c 1 t : Vec Ideal S1x4096 .f32) = ar1 m c := by
  have h : ∀ t : Fin cfg0.N, win0_1.index t 0 = 0 ∧ win0_1.index t 1 = 0 :=
    (by decide +kernel : ∀ t : Fin grid0.N, win0_1.index t 0 = 0 ∧ win0_1.index t 1 = 0)
  refine Eq.trans ?_ (V_main_arg1 m c)
  funext y
  show V m c main_arg1 ((win0_1.rect t).emb y) = V m c main_arg1 y
  refine congrArg (V m c main_arg1) (funext fun d => Fin.ext ?_)
  match d with
  | ⟨0, _⟩ => show win0_1.index t 0 * 1 + 1 * (y 0).val = (y 0).val; rw [(h t).1]; omega
  | ⟨1, _⟩ => show win0_1.index t 1 * 4096 + 1 * (y 1).val = (y 1).val; rw [(h t).2]; omega

/-- Argument 2 is one block. -/
theorem iblk2 (t : Fin cfg0.N) : (iblk m c 2 t : Vec Ideal S4096x5376 .fp8e4m3) = ar2 m c := by
  have h : ∀ t : Fin cfg0.N, win0_2.index t 0 = 0 ∧ win0_2.index t 1 = 0 :=
    (by decide +kernel : ∀ t : Fin grid0.N, win0_2.index t 0 = 0 ∧ win0_2.index t 1 = 0)
  refine Eq.trans ?_ (V_main_arg2 m c)
  funext y
  show V m c main_arg2 ((win0_2.rect t).emb y) = V m c main_arg2 y
  refine congrArg (V m c main_arg2) (funext fun d => Fin.ext ?_)
  match d with
  | ⟨0, _⟩ => show win0_2.index t 0 * 4096 + 1 * (y 0).val = (y 0).val; rw [(h t).1]; omega
  | ⟨1, _⟩ => show win0_2.index t 1 * 5376 + 1 * (y 1).val = (y 1).val; rw [(h t).2]; omega

/-- Argument 6 is one block. -/
theorem iblk6 (t : Fin cfg0.N) : (iblk m c 6 t : Vec Ideal S4096x1024 .fp8e4m3) = ar6 m c := by
  have h : ∀ t : Fin cfg0.N, win0_6.index t 0 = 0 ∧ win0_6.index t 1 = 0 :=
    (by decide +kernel : ∀ t : Fin grid0.N, win0_6.index t 0 = 0 ∧ win0_6.index t 1 = 0)
  refine Eq.trans ?_ (V_main_arg6 m c)
  funext y
  show V m c main_arg6 ((win0_6.rect t).emb y) = V m c main_arg6 y
  refine congrArg (V m c main_arg6) (funext fun d => Fin.ext ?_)
  match d with
  | ⟨0, _⟩ => show win0_6.index t 0 * 4096 + 1 * (y 0).val = (y 0).val; rw [(h t).1]; omega
  | ⟨1, _⟩ => show win0_6.index t 1 * 1024 + 1 * (y 1).val = (y 1).val; rw [(h t).2]; omega

/-- Argument 7 is one block. -/
theorem iblk7 (t : Fin cfg0.N) : (iblk m c 7 t : Vec Ideal S1x1024 .f32) = ar7 m c := by
  have h : ∀ t : Fin cfg0.N, win0_7.index t 0 = 0 ∧ win0_7.index t 1 = 0 :=
    (by decide +kernel : ∀ t : Fin grid0.N, win0_7.index t 0 = 0 ∧ win0_7.index t 1 = 0)
  refine Eq.trans ?_ (V_main_arg7 m c)
  funext y
  show V m c main_arg7 ((win0_7.rect t).emb y) = V m c main_arg7 y
  refine congrArg (V m c main_arg7) (funext fun d => Fin.ext ?_)
  match d with
  | ⟨0, _⟩ => show win0_7.index t 0 * 1 + 1 * (y 0).val = (y 0).val; rw [(h t).1]; omega
  | ⟨1, _⟩ => show win0_7.index t 1 * 1024 + 1 * (y 1).val = (y 1).val; rw [(h t).2]; omega

/-- Argument 3 is one block. -/
theorem iblk3 (t : Fin cfg0.N) : (iblk m c 3 t : Vec Ideal S1 .f32) = ar3 m c := by
  have h : ∀ t : Fin cfg0.N, win0_3.index t 0 = 0 := (by decide +kernel : ∀ t : Fin grid0.N, win0_3.index t 0 = 0)
  refine Eq.trans ?_ (V_main_arg3 m c)
  funext y
  show V m c main_arg3 ((win0_3.rect t).emb y) = V m c main_arg3 y
  refine congrArg (V m c main_arg3) (funext fun d => Fin.ext ?_)
  match d with
  | ⟨0, _⟩ => show win0_3.index t 0 * 1 + 1 * (y 0).val = (y 0).val; rw [h t]; omega

/-- Argument 4 is one block. -/
theorem iblk4 (t : Fin cfg0.N) : (iblk m c 4 t : Vec Ideal S1 .f32) = ar4 m c := by
  have h : ∀ t : Fin cfg0.N, win0_4.index t 0 = 0 := (by decide +kernel : ∀ t : Fin grid0.N, win0_4.index t 0 = 0)
  refine Eq.trans ?_ (V_main_arg4 m c)
  funext y
  show V m c main_arg4 ((win0_4.rect t).emb y) = V m c main_arg4 y
  refine congrArg (V m c main_arg4) (funext fun d => Fin.ext ?_)
  match d with
  | ⟨0, _⟩ => show win0_4.index t 0 * 1 + 1 * (y 0).val = (y 0).val; rw [h t]; omega

/-- Argument 5 is one block. -/
theorem iblk5 (t : Fin cfg0.N) : (iblk m c 5 t : Vec Ideal S1 .f32) = ar5 m c := by
  have h : ∀ t : Fin cfg0.N, win0_5.index t 0 = 0 := (by decide +kernel : ∀ t : Fin grid0.N, win0_5.index t 0 = 0)
  refine Eq.trans ?_ (V_main_arg5 m c)
  funext y
  show V m c main_arg5 ((win0_5.rect t).emb y) = V m c main_arg5 y
  refine congrArg (V m c main_arg5) (funext fun d => Fin.ext ?_)
  match d with
  | ⟨0, _⟩ => show win0_5.index t 0 * 1 + 1 * (y 0).val = (y 0).val; rw [h t]; omega

/-- A block whose rows are the rows of a whole array is that array's block t. -/
theorem cut8_eq (t : Fin cfg0.N) (G : (Mat 3840 5376).Idx → EReal) (T : (Mat 3840 5376).Idx → EReal)
    (hG : ∀ (r : Fin 3840) (l : Fin 5376), G (ix2 r l) = T (ix2 r l)) :
    (cfg0.win 8).cut (grid0.coords t) G = ((cfg0.win 8).blk t).view.read (Elt Ideal) T := by
  funext j
  have h0 : (j 0).val < 3840 := lt_of_lt_of_le (j 0).isLt ((cfg0.win 8).xsize_le (grid0.coords t) 0)
  have h1 : (j 1).val < 5376 := lt_of_lt_of_le (j 1).isLt ((cfg0.win 8).xsize_le (grid0.coords t) 1)
  have hi := ixw8 t
  refine (congrArg G (?_ : _ = ix2 (⟨(j 0).val, h0⟩ : Fin 3840) (⟨(j 1).val, h1⟩ : Fin 5376))).trans ((hG _ _).trans ?_)
  · funext d
    match d with
    | ⟨0, _⟩ => rfl
    | ⟨1, _⟩ => rfl
  · show _ = T ((win0_8.rect t).emb j)
    refine congrArg T (funext fun d => Fin.ext ?_)
    match d with
    | ⟨0, _⟩ => show (j 0).val = win0_8.index t 0 * 3840 + 1 * (j 0).val; rw [hi.1]; omega
    | ⟨1, _⟩ => show (j 1).val = win0_8.index t 1 * 5376 + 1 * (j 1).val; rw [hi.2]; omega

/-- What point t writes back to result 0 is its block of the whole array. -/
theorem flushed8_eq (t : Fin cfg0.N) :
    (dats m 0 c).flushed 8 t = ((cfg0.win 8).blk t).view.read (Elt Ideal) (W8 (ar0 m c) (ar1 m c) (ar2 m c) (ar3 m c) (ar4 m c)) := by
  rw [Value.flushed8_A]
  refine cut8_eq t _ _ fun r l => ?_
  rw [out8_apply, iblk0, iblk1, iblk2, iblk3, iblk4]

/-- Every index of result 0 is in some point's block. -/
theorem covered8 (i : (Mat 3840 5376).Idx) : ∃ t : Fin cfg0.N, (cfg0.win 8).flush t = true ∧ i ∈ ((cfg0.win 8).blk t).view.set := by
  have h0 : (i 0).val < 3840 := (i 0).isLt
  have h1 : (i 1).val < 5376 := (i 1).isLt
  refine ⟨⟨0, by decide⟩, flush0_8 _, ?_⟩
  generalize (⟨0, by decide⟩ : Fin cfg0.N) = t
  have hi := ixw8 t
  have hx : ∀ t : Fin cfg0.N, win0_8.xsize (grid0.coords t) 0 = 3840 ∧ win0_8.xsize (grid0.coords t) 1 = 5376 :=
    (by decide +kernel : ∀ t : Fin grid0.N, win0_8.xsize (grid0.coords t) 0 = 3840 ∧ win0_8.xsize (grid0.coords t) 1 = 5376)
  show i ∈ ((View.whole main_v0_0).slice (win0_8.rect t)).set
  rw [View.set_slice_whole, Rect.mem_set_unit]
  intro a
  match a with
  | ⟨0, _⟩ => show win0_8.index t 0 * 3840 ≤ (i 0).val ∧ (i 0).val < win0_8.index t 0 * 3840 + win0_8.xsize (grid0.coords t) 0
              rw [hi.1, (hx t).1]; omega
  | ⟨1, _⟩ => show win0_8.index t 1 * 5376 ≤ (i 1).val ∧ (i 1).val < win0_8.index t 1 * 5376 + win0_8.xsize (grid0.coords t) 1
              rw [hi.2, (hx t).2]; omega

/-- So result 0's array ends as the whole function. -/
theorem final8 : (dats m 0 c).arrAt 8 cfg0.N = W8 (ar0 m c) (ar1 m c) (ar2 m c) (ar3 m c) (ar4 m c) :=
  (dats m 0 c).arrAt_eq_of_cover 8 (W8 (ar0 m c) (ar1 m c) (ar2 m c) (ar3 m c) (ar4 m c)) (fun t _ => flushed8_eq m c t) (covered8)

/-- A block whose rows are the rows of a whole array is that array's block t. -/
theorem cut9_eq (t : Fin cfg0.N) (G : (Mat 3840 1024).Idx → EReal) (T : (Mat 3840 1024).Idx → EReal)
    (hG : ∀ (r : Fin 3840) (l : Fin 1024), G (ix2 r l) = T (ix2 r l)) :
    (cfg0.win 9).cut (grid0.coords t) G = ((cfg0.win 9).blk t).view.read (Elt Ideal) T := by
  funext j
  have h0 : (j 0).val < 3840 := lt_of_lt_of_le (j 0).isLt ((cfg0.win 9).xsize_le (grid0.coords t) 0)
  have h1 : (j 1).val < 1024 := lt_of_lt_of_le (j 1).isLt ((cfg0.win 9).xsize_le (grid0.coords t) 1)
  have hi := ixw9 t
  refine (congrArg G (?_ : _ = ix2 (⟨(j 0).val, h0⟩ : Fin 3840) (⟨(j 1).val, h1⟩ : Fin 1024))).trans ((hG _ _).trans ?_)
  · funext d
    match d with
    | ⟨0, _⟩ => rfl
    | ⟨1, _⟩ => rfl
  · show _ = T ((win0_9.rect t).emb j)
    refine congrArg T (funext fun d => Fin.ext ?_)
    match d with
    | ⟨0, _⟩ => show (j 0).val = win0_9.index t 0 * 3840 + 1 * (j 0).val; rw [hi.1]; omega
    | ⟨1, _⟩ => show (j 1).val = win0_9.index t 1 * 1024 + 1 * (j 1).val; rw [hi.2]; omega

/-- What point t writes back to result 1 is its block of the whole array. -/
theorem flushed9_eq (t : Fin cfg0.N) :
    (dats m 0 c).flushed 9 t = ((cfg0.win 9).blk t).view.read (Elt Ideal) (W9 (ar0 m c) (ar1 m c) (ar4 m c) (ar6 m c) (ar7 m c)) := by
  rw [Value.flushed9_A]
  refine cut9_eq t _ _ fun r l => ?_
  rw [out9_apply, iblk0, iblk1, iblk4, iblk6, iblk7]

/-- Every index of result 1 is in some point's block. -/
theorem covered9 (i : (Mat 3840 1024).Idx) : ∃ t : Fin cfg0.N, (cfg0.win 9).flush t = true ∧ i ∈ ((cfg0.win 9).blk t).view.set := by
  have h0 : (i 0).val < 3840 := (i 0).isLt
  have h1 : (i 1).val < 1024 := (i 1).isLt
  refine ⟨⟨0, by decide⟩, flush0_9 _, ?_⟩
  generalize (⟨0, by decide⟩ : Fin cfg0.N) = t
  have hi := ixw9 t
  have hx : ∀ t : Fin cfg0.N, win0_9.xsize (grid0.coords t) 0 = 3840 ∧ win0_9.xsize (grid0.coords t) 1 = 1024 :=
    (by decide +kernel : ∀ t : Fin grid0.N, win0_9.xsize (grid0.coords t) 0 = 3840 ∧ win0_9.xsize (grid0.coords t) 1 = 1024)
  show i ∈ ((View.whole main_v0_1).slice (win0_9.rect t)).set
  rw [View.set_slice_whole, Rect.mem_set_unit]
  intro a
  match a with
  | ⟨0, _⟩ => show win0_9.index t 0 * 3840 ≤ (i 0).val ∧ (i 0).val < win0_9.index t 0 * 3840 + win0_9.xsize (grid0.coords t) 0
              rw [hi.1, (hx t).1]; omega
  | ⟨1, _⟩ => show win0_9.index t 1 * 1024 ≤ (i 1).val ∧ (i 1).val < win0_9.index t 1 * 1024 + win0_9.xsize (grid0.coords t) 1
              rw [hi.2, (hx t).2]; omega

/-- So result 1's array ends as the whole function. -/
theorem final9 : (dats m 0 c).arrAt 9 cfg0.N = W9 (ar0 m c) (ar1 m c) (ar4 m c) (ar6 m c) (ar7 m c) :=
  (dats m 0 c).arrAt_eq_of_cover 9 (W9 (ar0 m c) (ar1 m c) (ar4 m c) (ar6 m c) (ar7 m c)) (fun t _ => flushed9_eq m c t) (covered9)

/-- A block whose rows are the rows of a whole array is that array's block t. -/
theorem cut10_eq (t : Fin cfg0.N) (G : (Mat 3840 4096).Idx → EReal) (T : (Mat 3840 4096).Idx → EReal)
    (hG : ∀ (r : Fin 3840) (l : Fin 4096), G (ix2 r l) = T (ix2 r l)) :
    (cfg0.win 10).cut (grid0.coords t) G = ((cfg0.win 10).blk t).view.read (Elt Ideal) T := by
  funext j
  have h0 : (j 0).val < 3840 := lt_of_lt_of_le (j 0).isLt ((cfg0.win 10).xsize_le (grid0.coords t) 0)
  have h1 : (j 1).val < 4096 := lt_of_lt_of_le (j 1).isLt ((cfg0.win 10).xsize_le (grid0.coords t) 1)
  have hi := ixw10 t
  refine (congrArg G (?_ : _ = ix2 (⟨(j 0).val, h0⟩ : Fin 3840) (⟨(j 1).val, h1⟩ : Fin 4096))).trans ((hG _ _).trans ?_)
  · funext d
    match d with
    | ⟨0, _⟩ => rfl
    | ⟨1, _⟩ => rfl
  · show _ = T ((win0_10.rect t).emb j)
    refine congrArg T (funext fun d => Fin.ext ?_)
    match d with
    | ⟨0, _⟩ => show (j 0).val = win0_10.index t 0 * 3840 + 1 * (j 0).val; rw [hi.1]; omega
    | ⟨1, _⟩ => show (j 1).val = win0_10.index t 1 * 4096 + 1 * (j 1).val; rw [hi.2]; omega

/-- What point t writes back to result 2 is its block of the whole array. -/
theorem flushed10_eq (t : Fin cfg0.N) :
    (dats m 0 c).flushed 10 t = ((cfg0.win 10).blk t).view.read (Elt Ideal) (W10 (ar0 m c) (ar1 m c) (ar4 m c)) := by
  rw [Value.flushed10_A]
  refine cut10_eq t _ _ fun r l => ?_
  rw [out10_apply, iblk0, iblk1, iblk4]

/-- Every index of result 2 is in some point's block. -/
theorem covered10 (i : (Mat 3840 4096).Idx) : ∃ t : Fin cfg0.N, (cfg0.win 10).flush t = true ∧ i ∈ ((cfg0.win 10).blk t).view.set := by
  have h0 : (i 0).val < 3840 := (i 0).isLt
  have h1 : (i 1).val < 4096 := (i 1).isLt
  refine ⟨⟨0, by decide⟩, flush0_10 _, ?_⟩
  generalize (⟨0, by decide⟩ : Fin cfg0.N) = t
  have hi := ixw10 t
  have hx : ∀ t : Fin cfg0.N, win0_10.xsize (grid0.coords t) 0 = 3840 ∧ win0_10.xsize (grid0.coords t) 1 = 4096 :=
    (by decide +kernel : ∀ t : Fin grid0.N, win0_10.xsize (grid0.coords t) 0 = 3840 ∧ win0_10.xsize (grid0.coords t) 1 = 4096)
  show i ∈ ((View.whole main_v0_2).slice (win0_10.rect t)).set
  rw [View.set_slice_whole, Rect.mem_set_unit]
  intro a
  match a with
  | ⟨0, _⟩ => show win0_10.index t 0 * 3840 ≤ (i 0).val ∧ (i 0).val < win0_10.index t 0 * 3840 + win0_10.xsize (grid0.coords t) 0
              rw [hi.1, (hx t).1]; omega
  | ⟨1, _⟩ => show win0_10.index t 1 * 4096 ≤ (i 1).val ∧ (i 1).val < win0_10.index t 1 * 4096 + win0_10.xsize (grid0.coords t) 1
              rw [hi.2, (hx t).2]; omega

/-- So result 2's array ends as the whole function. -/
theorem final10 : (dats m 0 c).arrAt 10 cfg0.N = W10 (ar0 m c) (ar1 m c) (ar4 m c) :=
  (dats m 0 c).arrAt_eq_of_cover 10 (W10 (ar0 m c) (ar1 m c) (ar4 m c)) (fun t _ => flushed10_eq m c t) (covered10)

/-- A block whose rows are the rows of a whole array is that array's block t. -/
theorem cut11_eq (t : Fin cfg0.N) (G : (Mat 3840 5376).Idx → EReal) (T : (Mat 3840 5376).Idx → EReal)
    (hG : ∀ (r : Fin 3840) (l : Fin 5376), G (ix2 r l) = T (ix2 r l)) :
    (cfg0.win 11).cut (grid0.coords t) G = ((cfg0.win 11).blk t).view.read (Elt Ideal) T := by
  funext j
  have h0 : (j 0).val < 3840 := lt_of_lt_of_le (j 0).isLt ((cfg0.win 11).xsize_le (grid0.coords t) 0)
  have h1 : (j 1).val < 5376 := lt_of_lt_of_le (j 1).isLt ((cfg0.win 11).xsize_le (grid0.coords t) 1)
  have hi := ixw11 t
  refine (congrArg G (?_ : _ = ix2 (⟨(j 0).val, h0⟩ : Fin 3840) (⟨(j 1).val, h1⟩ : Fin 5376))).trans ((hG _ _).trans ?_)
  · funext d
    match d with
    | ⟨0, _⟩ => rfl
    | ⟨1, _⟩ => rfl
  · show _ = T ((win0_11.rect t).emb j)
    refine congrArg T (funext fun d => Fin.ext ?_)
    match d with
    | ⟨0, _⟩ => show (j 0).val = win0_11.index t 0 * 3840 + 1 * (j 0).val; rw [hi.1]; omega
    | ⟨1, _⟩ => show (j 1).val = win0_11.index t 1 * 5376 + 1 * (j 1).val; rw [hi.2]; omega

/-- What point t writes back to result 3 is its block of the whole array. -/
theorem flushed11_eq (t : Fin cfg0.N) :
    (dats m 0 c).flushed 11 t = ((cfg0.win 11).blk t).view.read (Elt Ideal) (W11 (ar0 m c) (ar1 m c) (ar2 m c) (ar3 m c) (ar4 m c) (ar5 m c)) := by
  rw [Value.flushed11_A]
  refine cut11_eq t _ _ fun r l => ?_
  rw [out11_apply, iblk0, iblk1, iblk2, iblk3, iblk4, iblk5]

/-- Every index of result 3 is in some point's block. -/
theorem covered11 (i : (Mat 3840 5376).Idx) : ∃ t : Fin cfg0.N, (cfg0.win 11).flush t = true ∧ i ∈ ((cfg0.win 11).blk t).view.set := by
  have h0 : (i 0).val < 3840 := (i 0).isLt
  have h1 : (i 1).val < 5376 := (i 1).isLt
  refine ⟨⟨0, by decide⟩, flush0_11 _, ?_⟩
  generalize (⟨0, by decide⟩ : Fin cfg0.N) = t
  have hi := ixw11 t
  have hx : ∀ t : Fin cfg0.N, win0_11.xsize (grid0.coords t) 0 = 3840 ∧ win0_11.xsize (grid0.coords t) 1 = 5376 :=
    (by decide +kernel : ∀ t : Fin grid0.N, win0_11.xsize (grid0.coords t) 0 = 3840 ∧ win0_11.xsize (grid0.coords t) 1 = 5376)
  show i ∈ ((View.whole main_v0_3).slice (win0_11.rect t)).set
  rw [View.set_slice_whole, Rect.mem_set_unit]
  intro a
  match a with
  | ⟨0, _⟩ => show win0_11.index t 0 * 3840 ≤ (i 0).val ∧ (i 0).val < win0_11.index t 0 * 3840 + win0_11.xsize (grid0.coords t) 0
              rw [hi.1, (hx t).1]; omega
  | ⟨1, _⟩ => show win0_11.index t 1 * 5376 ≤ (i 1).val ∧ (i 1).val < win0_11.index t 1 * 5376 + win0_11.xsize (grid0.coords t) 1
              rw [hi.2, (hx t).2]; omega

/-- So result 3's array ends as the whole function. -/
theorem final11 : (dats m 0 c).arrAt 11 cfg0.N = W11 (ar0 m c) (ar1 m c) (ar2 m c) (ar3 m c) (ar4 m c) (ar5 m c) :=
  (dats m 0 c).arrAt_eq_of_cover 11 (W11 (ar0 m c) (ar1 m c) (ar2 m c) (ar3 m c) (ar4 m c) (ar5 m c)) (fun t _ => flushed11_eq m c t) (covered11)

/-- A block whose rows are the rows of a whole array is that array's block t. -/
theorem cut13_eq (t : Fin cfg0.N) (G : (Mat 3840 32).Idx → BitVec 8) (T : (Mat 3840 32).Idx → BitVec 8)
    (hG : ∀ (r : Fin 3840) (l : Fin 32), G (ix2 r l) = T (ix2 r l)) :
    (cfg0.win 13).cut (grid0.coords t) G = ((cfg0.win 13).blk t).view.read (Elt Ideal) T := by
  funext j
  have h0 : (j 0).val < 3840 := lt_of_lt_of_le (j 0).isLt ((cfg0.win 13).xsize_le (grid0.coords t) 0)
  have h1 : (j 1).val < 32 := lt_of_lt_of_le (j 1).isLt ((cfg0.win 13).xsize_le (grid0.coords t) 1)
  have hi := ixw13 t
  refine (congrArg G (?_ : _ = ix2 (⟨(j 0).val, h0⟩ : Fin 3840) (⟨(j 1).val, h1⟩ : Fin 32))).trans ((hG _ _).trans ?_)
  · funext d
    match d with
    | ⟨0, _⟩ => rfl
    | ⟨1, _⟩ => rfl
  · show _ = T ((win0_13.rect t).emb j)
    refine congrArg T (funext fun d => Fin.ext ?_)
    match d with
    | ⟨0, _⟩ => show (j 0).val = win0_13.index t 0 * 3840 + 1 * (j 0).val; rw [hi.1]; omega
    | ⟨1, _⟩ => show (j 1).val = win0_13.index t 1 * 32 + 1 * (j 1).val; rw [hi.2]; omega

/-- What point t writes back to result 5 is its block of the whole array. -/
theorem flushed13_eq (t : Fin cfg0.N) :
    (dats m 0 c).flushed 13 t = ((cfg0.win 13).blk t).view.read (Elt Ideal) (W13 (ar0 m c) (ar1 m c) (ar4 m c) (ar6 m c) (ar7 m c)) := by
  rw [Value.flushed13_A]
  refine cut13_eq t _ _ fun r l => ?_
  rw [out13_apply, iblk0, iblk1, iblk4, iblk6, iblk7]

/-- Every index of result 5 is in some point's block. -/
theorem covered13 (i : (Mat 3840 32).Idx) : ∃ t : Fin cfg0.N, (cfg0.win 13).flush t = true ∧ i ∈ ((cfg0.win 13).blk t).view.set := by
  have h0 : (i 0).val < 3840 := (i 0).isLt
  have h1 : (i 1).val < 32 := (i 1).isLt
  refine ⟨⟨0, by decide⟩, flush0_13 _, ?_⟩
  generalize (⟨0, by decide⟩ : Fin cfg0.N) = t
  have hi := ixw13 t
  have hx : ∀ t : Fin cfg0.N, win0_13.xsize (grid0.coords t) 0 = 3840 ∧ win0_13.xsize (grid0.coords t) 1 = 32 :=
    (by decide +kernel : ∀ t : Fin grid0.N, win0_13.xsize (grid0.coords t) 0 = 3840 ∧ win0_13.xsize (grid0.coords t) 1 = 32)
  show i ∈ ((View.whole main_v0_5).slice (win0_13.rect t)).set
  rw [View.set_slice_whole, Rect.mem_set_unit]
  intro a
  match a with
  | ⟨0, _⟩ => show win0_13.index t 0 * 3840 ≤ (i 0).val ∧ (i 0).val < win0_13.index t 0 * 3840 + win0_13.xsize (grid0.coords t) 0
              rw [hi.1, (hx t).1]; omega
  | ⟨1, _⟩ => show win0_13.index t 1 * 32 ≤ (i 1).val ∧ (i 1).val < win0_13.index t 1 * 32 + win0_13.xsize (grid0.coords t) 1
              rw [hi.2, (hx t).2]; omega

/-- So result 5's array ends as the whole function. -/
theorem final13 : (dats m 0 c).arrAt 13 cfg0.N = W13 (ar0 m c) (ar1 m c) (ar4 m c) (ar6 m c) (ar7 m c) :=
  (dats m 0 c).arrAt_eq_of_cover 13 (W13 (ar0 m c) (ar1 m c) (ar4 m c) (ar6 m c) (ar7 m c)) (fun t _ => flushed13_eq m c t) (covered13)

/-- The run with hs_pre, z, x_codes, hs_codes, z_scales and every argument named. -/
theorem run_values : θ_run defs (onTc (τ := τ) (main (F := Ideal))) ⟨m, fun _ => 0, ρ⟩ fun r => ∀ c : Dev nD,
      r.2.mem ((c : Thread nD τ).loc main_v0_0) = W8 (ar0 m c) (ar1 m c) (ar2 m c) (ar3 m c) (ar4 m c)
      ∧ r.2.mem ((c : Thread nD τ).loc main_v0_1) = W9 (ar0 m c) (ar1 m c) (ar4 m c) (ar6 m c) (ar7 m c)
      ∧ r.2.mem ((c : Thread nD τ).loc main_v0_2) = W10 (ar0 m c) (ar1 m c) (ar4 m c)
      ∧ r.2.mem ((c : Thread nD τ).loc main_v0_3) = W11 (ar0 m c) (ar1 m c) (ar2 m c) (ar3 m c) (ar4 m c) (ar5 m c)
      ∧ r.2.mem ((c : Thread nD τ).loc main_v0_5) = W13 (ar0 m c) (ar1 m c) (ar4 m c) (ar6 m c) (ar7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 8).trans (final8 m c), ((h c).1 9).trans (final9 m c), ((h c).1 10).trans (final10 m c), ((h c).1 11).trans (final11 m c), ((h c).1 13).trans (final13 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c)))⟩) (run_main m ρ)

end Cert.FrontRefIdeal.Hand

end
-- ==== Proof.lean ====
module

public import proofs.«01_k».proof.Defs
public import proofs.«01_k».proof.Proof.Gen.Back
public import proofs.«01_k».proof.Proof.Gen.Back.Skeleton
public import proofs.«01_k».proof.Proof.Gen.Back.Launch
public import proofs.«01_k».proof.Proof.Gen.Back.Points
public import proofs.«01_k».proof.Proof.Gen.Back.Frame
public import proofs.«01_k».proof.Proof.Gen.BackIdeal
public import proofs.«01_k».proof.Proof.Gen.BackIdeal.Skeleton
public import proofs.«01_k».proof.Proof.Gen.BackIdeal.Launch
public import proofs.«01_k».proof.Proof.Gen.BackIdeal.Points
public import proofs.«01_k».proof.Proof.Gen.BackIdeal.Frame
public import proofs.«01_k».proof.Proof.Gen.BackRefIdeal
public import proofs.«01_k».proof.Proof.Gen.BackRefIdeal.Skeleton
public import proofs.«01_k».proof.Proof.Gen.BackRefIdeal.Launch
public import proofs.«01_k».proof.Proof.Gen.BackRefIdeal.Points
public import proofs.«01_k».proof.Proof.Gen.BackRefIdeal.Frame
public import proofs.«01_k».proof.Proof.Gen.BackRefIdeal.Value
public import proofs.«01_k».proof.Proof.Gen.FrontIdeal
public import proofs.«01_k».proof.Proof.Gen.FrontRefIdeal.Value
public import proofs.«01_k».proof.Proof.Gen.Front
public import proofs.«01_k».proof.Proof.Gen.Front.Skeleton
public import proofs.«01_k».proof.Proof.Gen.Front.Launch
public import proofs.«01_k».proof.Proof.Gen.Front.Points
public import proofs.«01_k».proof.Proof.Gen.Front.Frame
public import proofs.«01_k».proof.Proof.Gen.FrontIdeal.Skeleton
public import proofs.«01_k».proof.Proof.Gen.FrontIdeal.Launch
public import proofs.«01_k».proof.Proof.Gen.FrontIdeal.Points
public import proofs.«01_k».proof.Proof.Gen.FrontIdeal.Frame
public import proofs.«01_k».proof.Proof.BackWordFrame
public import proofs.«01_k».proof.Proof.BackFinal
public import proofs.«01_k».proof.Proof.BackRefValue
public import proofs.«01_k».proof.Proof.Gen.On_front_claimed
public import proofs.«01_k».proof.Proof.FrontWordFrame
public import proofs.«01_k».proof.Proof.FrontFinal
public import proofs.«01_k».proof.Proof.FrontRefValue
public import Idealize.ShloMosaic.Adequacy
public import Idealize.ShloMosaic.Init

@[expose] public section

noncomputable section

namespace Cert.Proof

open Idealize.ShloMosaic Idealize.SL.Sem Cert.Back

/-- The last stage's kernel and the plain-array reference end with the same six result arrays, from equal arguments. -/
theorem back_algebraic : Cert.algebraic_BackIdeal_BackRefIdeal (hBackIdeal := Cert.BackIdeal.Gen.facts) (hBackRefIdeal := Cert.BackRefIdeal.Gen.facts) := by
  intro m g m' g' _ hag
  refine ⟨fun c => Cert.BackForms.W8 (Cert.BackIdeal.Hand.ar0 m c) (Cert.BackIdeal.Hand.ar1 m c) (Cert.BackIdeal.Hand.ar2 m c) (Cert.BackIdeal.Hand.ar3 m c) (Cert.BackIdeal.Hand.ar4 m c) (Cert.BackIdeal.Hand.ar5 m c) (Cert.BackIdeal.Hand.ar6 m c) (Cert.BackIdeal.Hand.ar7 m c), fun c => Cert.BackForms.W9 (Cert.BackIdeal.Hand.ar1 m c) (Cert.BackIdeal.Hand.ar3 m c) (Cert.BackIdeal.Hand.ar4 m c) (Cert.BackIdeal.Hand.ar5 m c), fun c => Cert.BackForms.W10 (Cert.BackIdeal.Hand.ar2 m c) (Cert.BackIdeal.Hand.ar6 m c) (Cert.BackIdeal.Hand.ar7 m c), fun c => Cert.BackForms.W11 (Cert.BackIdeal.Hand.ar2 m c), fun c => Cert.BackForms.W12 (Cert.BackIdeal.Hand.ar2 m c), fun c => Cert.BackForms.W13 (Cert.BackIdeal.Hand.ar2 m c),
    Cert.BackIdeal.Hand.run_values m g, ?_⟩
  refine (θ_run _ _ _).mono (fun r h c => ?_) (Cert.BackRefIdeal.Hand.run_values m' g')
  obtain ⟨e0, e1, e2, e3, e4, e5, e6, e7⟩ := hag c
  obtain ⟨h0, h1, h2, h3, h4, h5, hargs⟩ := h c
  have a0 : Cert.BackRefIdeal.Hand.ar0 m' c = Cert.BackIdeal.Hand.ar0 m c := e0
  have a1 : Cert.BackRefIdeal.Hand.ar1 m' c = Cert.BackIdeal.Hand.ar1 m c := e1
  have a2 : Cert.BackRefIdeal.Hand.ar2 m' c = Cert.BackIdeal.Hand.ar2 m c := e2
  have a3 : Cert.BackRefIdeal.Hand.ar3 m' c = Cert.BackIdeal.Hand.ar3 m c := e3
  have a4 : Cert.BackRefIdeal.Hand.ar4 m' c = Cert.BackIdeal.Hand.ar4 m c := e4
  have a5 : Cert.BackRefIdeal.Hand.ar5 m' c = Cert.BackIdeal.Hand.ar5 m c := e5
  have a6 : Cert.BackRefIdeal.Hand.ar6 m' c = Cert.BackIdeal.Hand.ar6 m c := e6
  have a7 : Cert.BackRefIdeal.Hand.ar7 m' c = Cert.BackIdeal.Hand.ar7 m c := e7
  rw [a0, a1, a2, a3, a4, a5, a6, a7] at h0
  rw [a1, a3, a4, a5] at h1
  rw [a2, a6, a7] at h2
  rw [a2] at h3 h4 h5
  exact ⟨h0, h1, h2, h3, h4, h5, hargs⟩

/-- An unset bit is not a set one. -/
theorem zero_ne_one : ¬ ((0#1 : BitVec 1) = 1#1) := by decide

/-- The first stage's kernel and the plain-array reference end with the same hs_pre, z, x_codes and hs_codes at every element, from equal
    arguments; the mask is unset at every element of the other three results, of which nothing is claimed. -/
theorem front_algebraic : Cert.algebraic_FrontIdeal_FrontRefIdeal_on_front_claimed (hFrontIdeal := Cert.FrontIdeal.Gen.facts)
    (hFrontRefIdeal := Cert.FrontRefIdeal.Gen.facts) (hOn_front_claimed := Cert.On_front_claimed.Gen.facts) := by
  intro m g m' g' _ hag
  refine ⟨fun c => Cert.FrontForms.W8 (Cert.FrontIdeal.Hand.ar0 m c) (Cert.FrontIdeal.Hand.ar1 m c) (Cert.FrontIdeal.Hand.ar2 m c) (Cert.FrontIdeal.Hand.ar3 m c) (Cert.FrontIdeal.Hand.ar4 m c), fun c => Cert.FrontForms.W9 (Cert.FrontIdeal.Hand.ar0 m c) (Cert.FrontIdeal.Hand.ar1 m c) (Cert.FrontIdeal.Hand.ar4 m c) (Cert.FrontIdeal.Hand.ar6 m c) (Cert.FrontIdeal.Hand.ar7 m c), fun c => Cert.FrontForms.W10 (Cert.FrontIdeal.Hand.ar0 m c) (Cert.FrontIdeal.Hand.ar1 m c) (Cert.FrontIdeal.Hand.ar4 m c), fun c => Cert.FrontForms.W11 (Cert.FrontIdeal.Hand.ar0 m c) (Cert.FrontIdeal.Hand.ar1 m c) (Cert.FrontIdeal.Hand.ar2 m c) (Cert.FrontIdeal.Hand.ar3 m c) (Cert.FrontIdeal.Hand.ar4 m c) (Cert.FrontIdeal.Hand.ar5 m c), fun c => m ((c.tc : Thread Cert.FrontIdeal.nD Cert.FrontIdeal.τ).loc Cert.FrontIdeal.main_v0_4), fun c => Cert.FrontScale.W13 (Cert.FrontIdeal.Hand.ar0 m c) (Cert.FrontIdeal.Hand.ar1 m c) (Cert.FrontIdeal.Hand.ar4 m c) (Cert.FrontIdeal.Hand.ar6 m c) (Cert.FrontIdeal.Hand.ar7 m c), fun c => m ((c.tc : Thread Cert.FrontIdeal.nD Cert.FrontIdeal.τ).loc Cert.FrontIdeal.main_v0_6), ?_, ?_⟩
  · refine (θ_run _ _ _).mono (fun r h c => ?_) (Cert.FrontIdeal.Hand.run_values m g)
    obtain ⟨h0, h1, h2, h3, h5, hargs⟩ := h c
    exact ⟨fun i _ => congrFun h0 i, fun i _ => congrFun h1 i, fun i _ => congrFun h2 i, fun i _ => congrFun h3 i,
      fun i hi => absurd hi zero_ne_one, fun i _ => congrFun h5 i, fun i hi => absurd hi zero_ne_one, hargs⟩
  · refine (θ_run _ _ _).mono (fun r h c => ?_) (Cert.FrontRefIdeal.Hand.run_values m' g')
    obtain ⟨e0, e1, e2, e3, e4, e5, e6, e7⟩ := hag c
    obtain ⟨h0, h1, h2, h3, h5, hargs⟩ := h c
    have a0 : Cert.FrontRefIdeal.Hand.ar0 m' c = Cert.FrontIdeal.Hand.ar0 m c := e0
    have a1 : Cert.FrontRefIdeal.Hand.ar1 m' c = Cert.FrontIdeal.Hand.ar1 m c := e1
    have a2 : Cert.FrontRefIdeal.Hand.ar2 m' c = Cert.FrontIdeal.Hand.ar2 m c := e2
    have a3 : Cert.FrontRefIdeal.Hand.ar3 m' c = Cert.FrontIdeal.Hand.ar3 m c := e3
    have a4 : Cert.FrontRefIdeal.Hand.ar4 m' c = Cert.FrontIdeal.Hand.ar4 m c := e4
    have a5 : Cert.FrontRefIdeal.Hand.ar5 m' c = Cert.FrontIdeal.Hand.ar5 m c := e5
    have a6 : Cert.FrontRefIdeal.Hand.ar6 m' c = Cert.FrontIdeal.Hand.ar6 m c := e6
    have a7 : Cert.FrontRefIdeal.Hand.ar7 m' c = Cert.FrontIdeal.Hand.ar7 m c := e7
    rw [a0, a1, a2, a3, a4] at h0
    rw [a0, a1, a4, a6, a7] at h1
    rw [a0, a1, a4] at h2
    rw [a0, a1, a2, a3, a4, a5] at h3
    rw [a0, a1, a4, a6, a7] at h5
    exact ⟨fun i _ => congrFun h0 i, fun i _ => congrFun h1 i, fun i _ => congrFun h2 i, fun i _ => congrFun h3 i,
      fun i hi => absurd hi zero_ne_one, fun i _ => congrFun h5 i, fun i hi => absurd hi zero_ne_one, hargs⟩

theorem claim : Cert.Claim := ⟨Cert.Back.Gen.facts, Cert.BackIdeal.Gen.facts, Cert.BackRefIdeal.Gen.facts,
  Cert.Front.Gen.facts, Cert.FrontIdeal.Gen.facts, Cert.FrontRefIdeal.Gen.facts, Cert.On_front_claimed.Gen.facts,
  fun m ρ _ => Cert.Back.Hand.frame m ρ, fun m ρ _ => Cert.BackIdeal.Hand.frame m ρ, fun m ρ _ => Cert.BackRefIdeal.Gen.frame m ρ,
  fun m ρ _ => Cert.Front.Hand.frame m ρ, fun m ρ _ => Cert.FrontIdeal.Hand.frame m ρ, fun m ρ _ => Cert.FrontRefIdeal.Gen.frame m ρ,
  trivial, back_algebraic, trivial, front_algebraic⟩

end Cert.Proof

end
